-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v17_0)) (v2 : (c : Dev Cert.KernelIdeal.nD) → Buf (Elt Ideal) ((c.tc : Thread Cert.KernelIdeal.nD Cert.KernelIdeal.τ).loc Cert.KernelIdeal.main_v24)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v35)) (v5 : (c : Dev Cert.KernelIdeal.nD) → Buf (Elt Ideal) ((c.tc : Thread Cert.KernelIdeal.nD Cert.KernelIdeal.τ).loc Cert.KernelIdeal.main_v39)) (v6 : (c : Dev Cert.KernelIdeal.nD) → Buf (Elt Ideal) ((c.tc : Thread Cert.KernelIdeal.nD Cert.KernelIdeal.τ).loc Cert.KernelIdeal.main_v26)) (v7 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v17_0) = v1 c
          ∧ r.2.mem ((c.tc : Thread Cert.KernelIdeal.nD Cert.KernelIdeal.τ).loc Cert.KernelIdeal.main_v24) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v35) = v4 c
          ∧ r.2.mem ((c.tc : Thread Cert.KernelIdeal.nD Cert.KernelIdeal.τ).loc Cert.KernelIdeal.main_v39) = v5 c
          ∧ r.2.mem ((c.tc : Thread Cert.KernelIdeal.nD Cert.KernelIdeal.τ).loc Cert.KernelIdeal.main_v26) = v6 c
          ∧ r.2.mem ((c.tc : Thread Cert.KernelIdeal.nD Cert.KernelIdeal.τ).loc Cert.KernelIdeal.main_v40) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_v103) = v3 c
          ∧ r.2.mem ((c.tc : Thread Cert.ReferenceIdeal.nD Cert.ReferenceIdeal.τ).loc Cert.ReferenceIdeal.main_v127) = v4 c
          ∧ r.2.mem ((c.tc : Thread Cert.ReferenceIdeal.nD Cert.ReferenceIdeal.τ).loc Cert.ReferenceIdeal.main_v157) = v5 c
          ∧ r.2.mem ((c.tc : Thread Cert.ReferenceIdeal.nD Cert.ReferenceIdeal.τ).loc Cert.ReferenceIdeal.main_v88) = v6 c
          ∧ r.2.mem ((c.tc : Thread Cert.ReferenceIdeal.nD Cert.ReferenceIdeal.τ).loc Cert.ReferenceIdeal.main_v56) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S10000x128 : Shape := ⟨2, ![10000, 128]⟩
abbrev S2x320000 : Shape := ⟨2, ![2, 320000]⟩
abbrev S2x10000 : Shape := ⟨2, ![2, 10000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1 : Shape := ⟨1, ![1]⟩
abbrev S1x10000 : Shape := ⟨2, ![1, 10000]⟩
abbrev S10000 : Shape := ⟨1, ![10000]⟩
abbrev S_ : Shape := ⟨0, ![]⟩

class Facts : Prop where
  slices_S2x10000_S1x10000_0_0 : S2x10000.Slices ![0, 0] S1x10000
  shapeCasts_S1x10000_S10000 : S1x10000.ShapeCasts S10000
  bcast_S_S10000 : S_.BroadcastsInDim S10000 (![] : Fin 0 → Fin S10000.rank)
  reducesTo_S10000_S_d0 : S10000.ReducesTo [0] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S256x16 .f32) (main_arg8 : FVec F S16 .f32) (main_v30 : IVec S_ 1) (main_v33 : IVec S256 1) (main_c_11 : IVec S_ 1) : IVec S_ 1 :=
  let main_v34 : IVec S_ 1 := (fun x v => Host.reduce IntOp.andi x v reducesTo_S256_S_d0 h_S_) main_v33 main_c_11
  let main_v35 : IVec S_ 1 := andi main_v30 main_v34
  let main_v36 : FVec F S256x16 .f32 := Host.absf main_arg7
  let main_cst_12 : FVec F S_ .f32 := constant S_ .f32 0x7F800000#32
  let main_v37 : FVec F S256x16 .f32 := broadcastInDim S256x16 ![] bcast_S_S256x16 main_cst_12
  let main_v38 : IVec S256x16 1 := cmpf .olt main_v36 main_v37
  let main_c_13 : IVec S_ 1 := constantI S_ 1 1#1
  let main_v39 : IVec S_ 1 := (fun x v => Host.reduce IntOp.andi x v reducesTo_S256x16_S_d0_1 h_S_) main_v38 main_c_13
  let main_v40 : IVec S_ 1 := andi main_v35 main_v39
  let main_v41 : FVec F S16 .f32 := Host.absf main_arg8
  let main_cst_14 : FVec F S_ .f32 := constant S_ .f32 0x7F800000#32
  let main_v42 : FVec F S16 .f32 := broadcastInDim S16 ![] bcast_S_S16 main_cst_14
  let main_v43 : IVec S16 1 := cmpf .olt main_v41 main_v42
  let main_c_15 : IVec S_ 1 := constantI S_ 1 1#1
  let main_v44 : IVec S_ 1 := (fun x v => Host.reduce IntOp.andi x v reducesTo_S16_S_d0 h_S_) main_v43 main_c_15
  let main_v45 : IVec S_ 1 := andi main_v40 main_v44
  main_v45

def fn_part1 {F : FTy → Type} [FloatOps F] (main_arg4 : FVec F S256 .f32) (main_arg5 : FVec F S256x256 .f32) (main_arg6 : FVec F S256 .f32) (main_arg7 : FVec F S256x16 .f32) (main_arg8 : FVec F S16 .f32) (main_v15 : IVec S_ 1) (main_v16 : FVec F S128x256 .f32) (main_cst_4 : FVec F S_ .f32) : IVec S_ 1 :=
  let main_v17 : FVec F S128x256 .f32 := broadcastInDim S128x256 ![] bcast_S_S128x256 main_cst_4
  let main_v18 : IVec S128x256 1 := cmpf .olt main_v16 main_v17
  let main_c_5 : IVec S_ 1 := constantI S_ 1 1#1
  let main_v19 : IVec S_ 1 := (fun x v => Host.reduce IntOp.andi x v reducesTo_S128x256_S_d0_1 h_S_) main_v18 main_c_5
  let main_v20 : IVec S_ 1 := andi main_v15 main_v19
  let main_v21 : FVec F S256 .f32 := Host.absf main_arg4
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S_ 1 := andi main_v20 main_v24
  let main_v26 : FVec F S256x256 .f32 := Host.absf main_arg5
  let main_cst_8 : FVec F S_ .f32 := constant S_ .f32 0x7F800000#32
  let main_v27 : FVec F S256x256 .f32 := broadcastInDim S256x256 ![] bcast_S_S256x256 main_cst_8
  let main_v28 : IVec S256x256 1 := cmpf .olt main_v26 main_v27
  let main_c_9 : IVec S_ 1 := constantI S_ 1 1#1
  let main_v29 : IVec S_ 1 := (fun x v => Host.reduce IntOp.andi x v reducesTo_S256x256_S_d0_1 h_S_) main_v28 main_c_9
  let main_v30 : IVec S_ 1 := andi main_v25 main_v29
  let main_v31 : FVec F S256 .f32 := Host.absf main_arg6
  let main_cst_10 : FVec F S_ .f32 := constant S_ .f32 0x7F800000#32
  let main_v32 : FVec F S256 .f32 := broadcastInDim S256 ![] bcast_S_S256 main_cst_10
  let main_v33 : IVec S256 1 := cmpf .olt main_v31 main_v32
  let main_c_11 : IVec S_ 1 := constantI S_ 1 1#1
  fn_part2 (F := F) main_arg7 main_arg8 main_v30 main_v33 main_c_11

def fn {F : FTy → Type} [FloatOps F] (main_arg0 : FVec F S10000x128 .f32) (main_arg1 : IVec S2x320000 32) (main_arg2 : IVec S2x10000 32) (main_arg3 : FVec F S128x256 .f32) (main_arg4 : FVec F S256 .f32) (main_arg5 : FVec F S256x256 .f32) (main_arg6 : FVec F S256 .f32) (main_arg7 : FVec F S256x16 .f32) (main_arg8 : FVec F S16 .f32) (main_arg9 : FVec F S1 .f32) (main_arg10 : FVec F S1 .f32) (main_arg11 : FVec F S1 .f32) (main_arg12 : FVec F S1 .f32) : IVec S_ 1 :=
  let main_v0 : IVec S1x10000 32 := (extractStridedSlice S1x10000 ![0, 0] · slices_S2x10000_S1x10000_0_0) main_arg2
  let main_v1 : IVec S10000 32 := shapeCast S10000 main_v0 shapeCasts_S1x10000_S10000
  let main_c : IVec S_ 32 := constantI S_ 32 0#32
  let main_v2 : IVec S10000 32 := broadcastInDim S10000 ![] bcast_S_S10000 main_c
  let main_v3 : IVec S10000 1 := cmpi .sge main_v1 main_v2
  let main_c_0 : IVec S_ 1 := constantI S_ 1 1#1
  let main_v4 : IVec S_ 1 := (fun x v => Host.reduce IntOp.andi x v reducesTo_S10000_S_d0 h_S_) main_v3 main_c_0
  let main_v5 : IVec S1x10000 32 := (extractStridedSlice S1x10000 ![0, 0] · slices_S2x10000_S1x10000_0_0) main_arg2
  let main_v6 : IVec S10000 32 := shapeCast S10000 main_v5 shapeCasts_S1x10000_S10000
  let main_c_1 : IVec S_ 32 := constantI S_ 32 1000#32
  let main_v7 : IVec S10000 32 := broadcastInDim S10000 ![] bcast_S_S10000 main_c_1
  let main_v8 : IVec S10000 1 := cmpi .slt main_v6 main_v7
  let main_c_2 : IVec S_ 1 := constantI S_ 1 1#1
  let main_v9 : IVec S_ 1 := (fun x v => Host.reduce IntOp.andi x v reducesTo_S10000_S_d0 h_S_) main_v8 main_c_2
  let main_v10 : IVec S_ 1 := andi main_v4 main_v9
  let main_v11 : FVec F S10000x128 .f32 := Host.absf main_arg0
  let main_cst : FVec F S_ .f32 := constant S_ .f32 0x7F800000#32
  let main_v12 : FVec F S10000x128 .f32 := broadcastInDim S10000x128 ![] bcast_S_S10000x128 main_cst
  let main_v13 : IVec S10000x128 1 := cmpf .olt main_v11 main_v12
  let main_c_3 : IVec S_ 1 := constantI S_ 1 1#1
  let main_v14 : IVec S_ 1 := (fun x v => Host.reduce IntOp.andi x v reducesTo_S10000x128_S_d0_1 h_S_) main_v13 main_c_3
  let main_v15 : IVec S_ 1 := andi main_v10 main_v14
  let main_v16 : FVec F S128x256 .f32 := Host.absf main_arg3
  let main_cst_4 : FVec F S_ .f32 := constant S_ .f32 0x7F800000#32
  fn_part1 (F := F) main_arg4 main_arg5 main_arg6 main_arg7 main_arg8 main_v15 main_v16 main_cst_4
-- ==== Kernel.lean ====
abbrev S10000x128 : Shape := ⟨2, ![10000, 128]⟩
abbrev S2x320000 : Shape := ⟨2, ![2, 320000]⟩
abbrev S2x10000 : Shape := ⟨2, ![2, 10000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1 : Shape := ⟨1, ![1]⟩
abbrev S1x256 : Shape := ⟨2, ![1, 256]⟩
abbrev S1x16 : Shape := ⟨2, ![1, 16]⟩
abbrev S10000x16 : Shape := ⟨2, ![10000, 16]⟩
abbrev S1000x128 : Shape := ⟨2, ![1000, 128]⟩
abbrev S1000x16 : Shape := ⟨2, ![1000, 16]⟩
abbrev S1000x256 : Shape := ⟨2, ![1000, 256]⟩
abbrev S1x10000 : Shape := ⟨2, ![1, 10000]⟩
abbrev S10000 : Shape := ⟨1, ![10000]⟩
abbrev S10000x1 : Shape := ⟨2, ![10000, 1]⟩
abbrev S1000x1 : Shape := ⟨2, ![1000, 1]⟩
abbrev S1000x1000 : Shape := ⟨2, ![1000, 1000]⟩
abbrev S1x1 : Shape := ⟨2, ![1, 1]⟩
abbrev S10000x5 : Shape := ⟨2, ![10000, 5]⟩
abbrev S1000x5 : Shape := ⟨2, ![1000, 5]⟩
abbrev S1000 : Shape := ⟨1, ![1000]⟩
abbrev S1x1000 : Shape := ⟨2, ![1, 1000]⟩
abbrev S1000x10 : Shape := ⟨2, ![1000, 10]⟩
abbrev S50000 : Shape := ⟨1, ![50000]⟩
abbrev S1x50000 : Shape := ⟨2, ![1, 50000]⟩
abbrev S2x50000 : Shape := ⟨2, ![2, 50000]⟩
abbrev S50000x1 : Shape := ⟨2, ![50000, 1]⟩
abbrev S20000 : Shape := ⟨1, ![20000]⟩
abbrev S1x20000 : Shape := ⟨2, ![1, 20000]⟩
abbrev S2x20000 : Shape := ⟨2, ![2, 20000]⟩
abbrev S20000x1 : Shape := ⟨2, ![20000, 1]⟩
abbrev S_ : Shape := ⟨0, ![]⟩
abbrev S320000 : Shape := ⟨1, ![320000]⟩

abbrev nBuf : Space → Nat
  | .hbm => 61
  | .vmem => 37
  | .smem => 0
  | _ => 0

abbrev bufTy : (tb : Table) → Fin (tcTables nBuf tb) → BufTy
  | .hbm, ⟨0, _⟩ => ⟨S10000x128, .f32⟩
  | .hbm, ⟨1, _⟩ => ⟨S2x320000, .i32⟩
  | .hbm, ⟨2, _⟩ => ⟨S2x10000, .i32⟩
  | .hbm, ⟨3, _⟩ => ⟨S128x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x16, .f32⟩
  | .hbm, ⟨8, _⟩ => ⟨S16, .f32⟩
  | .hbm, ⟨9, _⟩ => ⟨S1, .f32⟩
  | .hbm, ⟨10, _⟩ => ⟨S1, .f32⟩
  | .hbm, ⟨11, _⟩ => ⟨S1, .f32⟩
  | .hbm, ⟨12, _⟩ => ⟨S1, .f32⟩
  | .hbm, ⟨13, _⟩ => ⟨S1x256, .f32⟩
  | .hbm, ⟨14, _⟩ => ⟨S1x256, .f32⟩
  | .hbm, ⟨15, _⟩ => ⟨S1x16, .f32⟩
  | .hbm, ⟨16, _⟩ => ⟨S10000x16, .f32⟩
  | .hbm, ⟨17, _⟩ => ⟨S1x10000, .i32⟩
  | .hbm, ⟨18, _⟩ => ⟨S10000, .i32⟩
  | .hbm, ⟨19, _⟩ => ⟨S10000x1, .i32⟩
  | .hbm, ⟨20, _⟩ => ⟨S1x10000, .i32⟩
  | .hbm, ⟨21, _⟩ => ⟨S10000, .i32⟩
  | .hbm, ⟨22, _⟩ => ⟨S10000x1, .i32⟩
  | .hbm, ⟨23, _⟩ => ⟨S1000x16, .f32⟩
  | .hbm, ⟨24, _⟩ => ⟨S1000x16, .f32⟩
  | .hbm, ⟨25, _⟩ => ⟨S1000x1, .f32⟩
  | .hbm, ⟨26, _⟩ => ⟨S1x1, .f32⟩
  | .hbm, ⟨27, _⟩ => ⟨S1x1, .f32⟩
  | .hbm, ⟨28, _⟩ => ⟨S10000x5, .i32⟩
  | .hbm, ⟨29, _⟩ => ⟨S10000x5, .f32⟩
  | .hbm, ⟨30, _⟩ => ⟨S10000x5, .f32⟩
  | .hbm, ⟨31, _⟩ => ⟨S1x1, .f32⟩
  | .hbm, ⟨32, _⟩ => ⟨S1x1, .f32⟩
  | .hbm, ⟨33, _⟩ => ⟨S1000x16, .f32⟩
  | .hbm, ⟨34, _⟩ => ⟨S1000x10, .i32⟩
  | .hbm, ⟨35, _⟩ => ⟨S1000x10, .f32⟩
  | .hbm, ⟨36, _⟩ => ⟨S1000x10, .f32⟩
  | .hbm, ⟨37, _⟩ => ⟨S10000, .i32⟩
  | .hbm, ⟨38, _⟩ => ⟨S10000x5, .i32⟩
  | .hbm, ⟨39, _⟩ => ⟨S50000, .i32⟩
  | .hbm, ⟨40, _⟩ => ⟨S50000, .i32⟩
  | .hbm, ⟨41, _⟩ => ⟨S1x50000, .i32⟩
  | .hbm, ⟨42, _⟩ => ⟨S1x50000, .i32⟩
  | .hbm, ⟨43, _⟩ => ⟨S2x50000, .i32⟩
  | .hbm, ⟨44, _⟩ => ⟨S50000x1, .f32⟩
  | .hbm, ⟨45, _⟩ => ⟨S50000, .f32⟩
  | .hbm, ⟨46, _⟩ => ⟨S1000, .i32⟩
  | .hbm, ⟨47, _⟩ => ⟨S1000x10, .i32⟩
  | .hbm, ⟨48, _⟩ => ⟨S10000, .i32⟩
  | .hbm, ⟨49, _⟩ => ⟨S10000, .i32⟩
  | .hbm, ⟨50, _⟩ => ⟨S20000, .i32⟩
  | .hbm, ⟨51, _⟩ => ⟨S20000, .i32⟩
  | .hbm, ⟨52, _⟩ => ⟨S1x20000, .i32⟩
  | .hbm, ⟨53, _⟩ => ⟨S1x20000, .i32⟩
  | .hbm, ⟨54, _⟩ => ⟨S2x20000, .i32⟩
  | .hbm, ⟨55, _⟩ => ⟨S10000, .f32⟩
  | .hbm, ⟨56, _⟩ => ⟨S10000, .f32⟩
  | .hbm, ⟨57, _⟩ => ⟨S20000, .f32⟩
  | .hbm, ⟨58, _⟩ => ⟨S20000x1, .f32⟩
  | .hbm, ⟨59, _⟩ => ⟨S_, .i1⟩
  | .hbm, ⟨60, _⟩ => ⟨S320000, .i1⟩
  | .local _ .vmem, ⟨0, _⟩ => ⟨S1000x128, .f32⟩
  | .local _ .vmem, ⟨1, _⟩ => ⟨S1000x128, .f32⟩
  | .local _ .vmem, ⟨2, _⟩ => ⟨S128x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x16, .f32⟩
  | .local _ .vmem, ⟨7, _⟩ => ⟨S1x16, .f32⟩
  | .local _ .vmem, ⟨8, _⟩ => ⟨S1000x16, .f32⟩
  | .local _ .vmem, ⟨9, _⟩ => ⟨S1000x16, .f32⟩
  | .local _ .vmem, ⟨10, _⟩ => ⟨S1000x16, .f32⟩
  | .local _ .vmem, ⟨11, _⟩ => ⟨S1000x1, .i32⟩
  | .local _ .vmem, ⟨12, _⟩ => ⟨S1000x1, .i32⟩
  | .local _ .vmem, ⟨13, _⟩ => ⟨S1000x1, .i32⟩
  | .local _ .vmem, ⟨14, _⟩ => ⟨S1000x1, .i32⟩
  | .local _ .vmem, ⟨15, _⟩ => ⟨S1000x16, .f32⟩
  | .local _ .vmem, ⟨16, _⟩ => ⟨S1000x1, .f32⟩
  | .local _ .vmem, ⟨17, _⟩ => ⟨S1000x16, .f32⟩
  | .local _ .vmem, ⟨18, _⟩ => ⟨S1000x16, .f32⟩
  | .local _ .vmem, ⟨19, _⟩ => ⟨S1000x16, .f32⟩
  | .local _ .vmem, ⟨20, _⟩ => ⟨S1000x1, .f32⟩
  | .local _ .vmem, ⟨21, _⟩ => ⟨S1x1, .f32⟩
  | .local _ .vmem, ⟨22, _⟩ => ⟨S1x1, .f32⟩
  | .local _ .vmem, ⟨23, _⟩ => ⟨S1000x5, .i32⟩
  | .local _ .vmem, ⟨24, _⟩ => ⟨S1000x5, .i32⟩
  | .local _ .vmem, ⟨25, _⟩ => ⟨S1000x5, .f32⟩
  | .local _ .vmem, ⟨26, _⟩ => ⟨S1000x5, .f32⟩
  | .local _ .vmem, ⟨27, _⟩ => ⟨S1000x5, .f32⟩
  | .local _ .vmem, ⟨28, _⟩ => ⟨S1000x5, .f32⟩
  | .local _ .vmem, ⟨29, _⟩ => ⟨S1000x16, .f32⟩
  | .local _ .vmem, ⟨30, _⟩ => ⟨S1000x1, .f32⟩
  | .local _ .vmem, ⟨31, _⟩ => ⟨S1x1, .f32⟩
  | .local _ .vmem, ⟨32, _⟩ => ⟨S1x1, .f32⟩
  | .local _ .vmem, ⟨33, _⟩ => ⟨S1000x16, .f32⟩
  | .local _ .vmem, ⟨34, _⟩ => ⟨S1000x10, .i32⟩
  | .local _ .vmem, ⟨35, _⟩ => ⟨S1000x10, .f32⟩
  | .local _ .vmem, ⟨36, _⟩ => ⟨S1000x10, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v12 : Ref sig .tc := ⟨.hbm, 26, rfl⟩
abbrev main_v13 : Ref sig .tc := ⟨.hbm, 27, rfl⟩
abbrev main_v14_0 : Ref sig .tc := ⟨.hbm, 28, rfl⟩
abbrev main_v14_1 : Ref sig .tc := ⟨.hbm, 29, rfl⟩
abbrev main_v14_2 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_c : Ref sig .tc := ⟨.hbm, 59, rfl⟩
abbrev main_v40 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc2_stg6_1 : Ref sig .tc := ⟨.vmem, 26, rfl⟩
abbrev cc2_stg7_0 : Ref sig .tc := ⟨.vmem, 27, rfl⟩
abbrev cc2_stg7_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1000x16 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S1000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1000x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1000x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1000x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1000x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1000x5 .i32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1000x5 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1000x5 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := .none

abbrev stage3_0 : Fin 1 → Memref sig .tc .vmem S1000x16 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S1000x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S1x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev stage3_3 : Fin 1 → Memref sig .tc .vmem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))

abbrev stage3_4 : Fin 1 → Memref sig .tc .vmem S1000x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))

abbrev stage3_5 : Fin 1 → Memref sig .tc .vmem S1000x10 .i32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))

abbrev stage3_6 : Fin 1 → Memref sig .tc .vmem S1000x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))

abbrev stage3_7 : Fin 1 → Memref sig .tc .vmem S1000x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S10000x128 : Shape := ⟨2, ![10000, 128]⟩
abbrev S2x320000 : Shape := ⟨2, ![2, 320000]⟩
abbrev S2x10000 : Shape := ⟨2, ![2, 10000]⟩
abbrev S128x256 : Shape := ⟨2, ![128, 256]⟩
abbrev S256 : Shape := ⟨1, ![256]⟩
abbrev S256x256 : Shape := ⟨2, ![256, 256]⟩
abbrev S256x16 : Shape := ⟨2, ![256, 16]⟩
abbrev S16 : Shape := ⟨1, ![16]⟩
abbrev S1 : Shape := ⟨1, ![1]⟩
abbrev S10000x256 : Shape := ⟨2, ![10000, 256]⟩
abbrev S1x256 : Shape := ⟨2, ![1, 256]⟩
abbrev S_ : Shape := ⟨0, ![]⟩
abbrev S10000x16 : Shape := ⟨2, ![10000, 16]⟩
abbrev S1x16 : Shape := ⟨2, ![1, 16]⟩
abbrev S1x10000 : Shape := ⟨2, ![1, 10000]⟩
abbrev S10000 : Shape := ⟨1, ![10000]⟩
abbrev S10000x1 : Shape := ⟨2, ![10000, 1]⟩
abbrev S1x1 : Shape := ⟨2, ![1, 1]⟩
abbrev S1000x16 : Shape := ⟨2, ![1000, 16]⟩
abbrev S1000 : Shape := ⟨1, ![1000]⟩
abbrev S1000x1 : Shape := ⟨2, ![1000, 1]⟩
abbrev S320000 : Shape := ⟨1, ![320000]⟩
abbrev S16x1000 : Shape := ⟨2, ![16, 1000]⟩
abbrev S10000x1000 : Shape := ⟨2, ![10000, 1000]⟩
abbrev S1x1000 : Shape := ⟨2, ![1, 1000]⟩
abbrev S10000x5 : Shape := ⟨2, ![10000, 5]⟩
abbrev S50000 : Shape := ⟨1, ![50000]⟩
abbrev S1x50000 : Shape := ⟨2, ![1, 50000]⟩
abbrev S2x50000 : Shape := ⟨2, ![2, 50000]⟩
abbrev S50000x1 : Shape := ⟨2, ![50000, 1]⟩
abbrev S50000x16 : Shape := ⟨2, ![50000, 16]⟩
abbrev S1000x1000 : Shape := ⟨2, ![1000, 1000]⟩
abbrev S1000x10 : Shape := ⟨2, ![1000, 10]⟩
abbrev S20000 : Shape := ⟨1, ![20000]⟩
abbrev S1x20000 : Shape := ⟨2, ![1, 20000]⟩
abbrev S2x20000 : Shape := ⟨2, ![2, 20000]⟩
abbrev S20000x1 : Shape := ⟨2, ![20000, 1]⟩
abbrev S20000x16 : Shape := ⟨2, ![20000, 16]⟩

abbrev nBuf : Space → Nat
  | .hbm => 318
  | .vmem => 0
  | .smem => 0
  | _ => 0

abbrev hbmTy0_0 (i : Nat) : BufTy := match i % 128 with
  | 0 => ⟨S10000x128, .f32⟩
  | 1 => ⟨S2x320000, .i32⟩
  | 2 => ⟨S2x10000, .i32⟩
  | 3 => ⟨S128x256, .f32⟩
  | 4 => ⟨S256, .f32⟩
  | 5 => ⟨S256x256, .f32⟩
  | 6 => ⟨S256, .f32⟩
  | 7 => ⟨S256x16, .f32⟩
  | 8 => ⟨S16, .f32⟩
  | 9 => ⟨S1, .f32⟩
  | 10 => ⟨S1, .f32⟩
  | 11 => ⟨S1, .f32⟩
  | 12 => ⟨S1, .f32⟩
  | 13 => ⟨S10000x256, .f32⟩
  | 14 => ⟨S1x256, .f32⟩
  | 15 => ⟨S10000x256, .f32⟩
  | 16 => ⟨S10000x256, .f32⟩
  | 17 => ⟨S10000x256, .f32⟩
  | 18 => ⟨S10000x256, .f32⟩
  | 19 => ⟨S_, .f32⟩
  | 20 => ⟨S10000x256, .f32⟩
  | 21 => ⟨S10000x256, .f32⟩
  | 22 => ⟨S10000x256, .f32⟩
  | 23 => ⟨S_, .f32⟩
  | 24 => ⟨S10000x256, .f32⟩
  | 25 => ⟨S10000x256, .f32⟩
  | 26 => ⟨S10000x256, .f32⟩
  | 27 => ⟨S_, .f32⟩
  | 28 => ⟨S10000x256, .f32⟩
  | 29 => ⟨S10000x256, .f32⟩
  | 30 => ⟨S_, .f32⟩
  | 31 => ⟨S10000x256, .f32⟩
  | 32 => ⟨S10000x256, .f32⟩
  | 33 => ⟨S10000x256, .f32⟩
  | 34 => ⟨S10000x256, .f32⟩
  | 35 => ⟨S1x256, .f32⟩
  | 36 => ⟨S10000x256, .f32⟩
  | 37 => ⟨S10000x256, .f32⟩
  | 38 => ⟨S10000x256, .f32⟩
  | 39 => ⟨S10000x256, .f32⟩
  | 40 => ⟨S_, .f32⟩
  | 41 => ⟨S10000x256, .f32⟩
  | 42 => ⟨S10000x256, .f32⟩
  | 43 => ⟨S10000x256, .f32⟩
  | 44 => ⟨S_, .f32⟩
  | 45 => ⟨S10000x256, .f32⟩
  | 46 => ⟨S10000x256, .f32⟩
  | 47 => ⟨S10000x256, .f32⟩
  | 48 => ⟨S_, .f32⟩
  | 49 => ⟨S10000x256, .f32⟩
  | 50 => ⟨S10000x256, .f32⟩
  | 51 => ⟨S_, .f32⟩
  | 52 => ⟨S10000x256, .f32⟩
  | 53 => ⟨S10000x256, .f32⟩
  | 54 => ⟨S10000x256, .f32⟩
  | 55 => ⟨S10000x16, .f32⟩
  | 56 => ⟨S1x16, .f32⟩
  | 57 => ⟨S10000x16, .f32⟩
  | 58 => ⟨S10000x16, .f32⟩
  | 59 => ⟨S1x10000, .i32⟩
  | 60 => ⟨S10000, .i32⟩
  | 61 => ⟨S_, .i32⟩
  | 62 => ⟨S10000, .i32⟩
  | 63 => ⟨S10000, .i1⟩
  | 64 => ⟨S_, .i32⟩
  | 65 => ⟨S10000, .i32⟩
  | 66 => ⟨S10000, .i32⟩
  | 67 => ⟨S10000, .i32⟩
  | 68 => ⟨S10000x1, .i32⟩
  | 69 => ⟨S1, .i32⟩
  | 70 => ⟨S_, .i32⟩
  | 71 => ⟨S10000x1, .i32⟩
  | 72 => ⟨S10000x1, .i1⟩
  | 73 => ⟨S1x1, .i32⟩
  | 74 => ⟨S10000x1, .i32⟩
  | 75 => ⟨S10000x1, .i1⟩
  | 76 => ⟨S10000x1, .i1⟩
  | 77 => ⟨S_, .i1⟩
  | 78 => ⟨S10000, .i1⟩
  | 79 => ⟨S10000x16, .f32⟩
  | 80 => ⟨S10000x16, .i1⟩
  | 81 => ⟨S_, .f32⟩
  | 82 => ⟨S10000x16, .f32⟩
  | 83 => ⟨S10000x16, .f32⟩
  | 84 => ⟨S1x10000, .i32⟩
  | 85 => ⟨S10000, .i32⟩
  | 86 => ⟨S_, .f32⟩
  | 87 => ⟨S1000x16, .f32⟩
  | 88 => ⟨S10000x1, .i32⟩
  | 89 => ⟨S1000x16, .f32⟩
  | 90 => ⟨S_, .f32⟩
  | 91 => ⟨S10000, .f32⟩
  | 92 => ⟨S1x10000, .i32⟩
  | 93 => ⟨S10000, .i32⟩
  | 94 => ⟨S_, .f32⟩
  | 95 => ⟨S1000, .f32⟩
  | 96 => ⟨S10000x1, .i32⟩
  | 97 => ⟨S1000, .f32⟩
  | 98 => ⟨S_, .f32⟩
  | 99 => ⟨S_, .f32⟩
  | 100 => ⟨S1000, .f32⟩
  | 101 => ⟨S1000, .f32⟩
  | 102 => ⟨S1000x1, .f32⟩
  | 103 => ⟨S1000x16, .f32⟩
  | 104 => ⟨S1000x16, .f32⟩
  | 105 => ⟨S_, .i1⟩
  | 106 => ⟨S320000, .i1⟩
  | 107 => ⟨S10000x16, .f32⟩
  | 108 => ⟨S_, .f32⟩
  | 109 => ⟨S10000, .f32⟩
  | 110 => ⟨S10000x1, .f32⟩
  | 111 => ⟨S16x1000, .f32⟩
  | 112 => ⟨S10000x1000, .f32⟩
  | 113 => ⟨S_, .f32⟩
  | 114 => ⟨S10000x1000, .f32⟩
  | 115 => ⟨S10000x1000, .f32⟩
  | 116 => ⟨S10000x1000, .f32⟩
  | 117 => ⟨S10000x1000, .f32⟩
  | 118 => ⟨S1000x16, .f32⟩
  | 119 => ⟨S_, .f32⟩
  | 120 => ⟨S1000, .f32⟩
  | 121 => ⟨S1x1000, .f32⟩
  | 122 => ⟨S10000x1000, .f32⟩
  | 123 => ⟨S10000x1000, .f32⟩
  | 124 => ⟨S10000x1000, .f32⟩
  | 125 => ⟨S10000x5, .f32⟩
  | 126 => ⟨S10000x5, .i32⟩
  | 127 => ⟨S10000, .i32⟩
  | _ => ⟨S10000x128, .f32⟩

abbrev hbmTy0_1 (i : Nat) : BufTy := match i % 128 with
  | 0 => ⟨S10000x5, .i32⟩
  | 1 => ⟨S50000, .i32⟩
  | 2 => ⟨S50000, .i32⟩
  | 3 => ⟨S1x50000, .i32⟩
  | 4 => ⟨S1x50000, .i32⟩
  | 5 => ⟨S2x50000, .i32⟩
  | 6 => ⟨S_, .i32⟩
  | 7 => ⟨S50000, .i32⟩
  | 8 => ⟨S50000, .i1⟩
  | 9 => ⟨S_, .i32⟩
  | 10 => ⟨S50000, .i32⟩
  | 11 => ⟨S50000, .i32⟩
  | 12 => ⟨S50000, .i32⟩
  | 13 => ⟨S50000x1, .i32⟩
  | 14 => ⟨S1, .i32⟩
  | 15 => ⟨S_, .i32⟩
  | 16 => ⟨S50000x1, .i32⟩
  | 17 => ⟨S50000x1, .i1⟩
  | 18 => ⟨S1x1, .i32⟩
  | 19 => ⟨S50000x1, .i32⟩
  | 20 => ⟨S50000x1, .i1⟩
  | 21 => ⟨S50000x1, .i1⟩
  | 22 => ⟨S_, .i1⟩
  | 23 => ⟨S50000, .i1⟩
  | 24 => ⟨S50000x16, .f32⟩
  | 25 => ⟨S50000x16, .i1⟩
  | 26 => ⟨S_, .f32⟩
  | 27 => ⟨S50000x16, .f32⟩
  | 28 => ⟨S50000x16, .f32⟩
  | 29 => ⟨S_, .i32⟩
  | 30 => ⟨S50000, .i32⟩
  | 31 => ⟨S50000, .i1⟩
  | 32 => ⟨S_, .i32⟩
  | 33 => ⟨S50000, .i32⟩
  | 34 => ⟨S50000, .i32⟩
  | 35 => ⟨S50000, .i32⟩
  | 36 => ⟨S50000x1, .i32⟩
  | 37 => ⟨S1, .i32⟩
  | 38 => ⟨S_, .i32⟩
  | 39 => ⟨S50000x1, .i32⟩
  | 40 => ⟨S50000x1, .i1⟩
  | 41 => ⟨S1x1, .i32⟩
  | 42 => ⟨S50000x1, .i32⟩
  | 43 => ⟨S50000x1, .i1⟩
  | 44 => ⟨S50000x1, .i1⟩
  | 45 => ⟨S_, .i1⟩
  | 46 => ⟨S50000, .i1⟩
  | 47 => ⟨S50000x16, .f32⟩
  | 48 => ⟨S50000x16, .i1⟩
  | 49 => ⟨S_, .f32⟩
  | 50 => ⟨S50000x16, .f32⟩
  | 51 => ⟨S50000x16, .f32⟩
  | 52 => ⟨S50000x16, .f32⟩
  | 53 => ⟨S50000x16, .f32⟩
  | 54 => ⟨S_, .f32⟩
  | 55 => ⟨S50000, .f32⟩
  | 56 => ⟨S50000, .f32⟩
  | 57 => ⟨S50000, .f32⟩
  | 58 => ⟨S50000, .f32⟩
  | 59 => ⟨S50000, .f32⟩
  | 60 => ⟨S50000, .f32⟩
  | 61 => ⟨S50000, .f32⟩
  | 62 => ⟨S_, .f32⟩
  | 63 => ⟨S10000, .f32⟩
  | 64 => ⟨S50000x1, .i32⟩
  | 65 => ⟨S10000, .f32⟩
  | 66 => ⟨S_, .i32⟩
  | 67 => ⟨S50000, .i32⟩
  | 68 => ⟨S50000, .i1⟩
  | 69 => ⟨S_, .i32⟩
  | 70 => ⟨S50000, .i32⟩
  | 71 => ⟨S50000, .i32⟩
  | 72 => ⟨S50000, .i32⟩
  | 73 => ⟨S50000x1, .i32⟩
  | 74 => ⟨S50000, .f32⟩
  | 75 => ⟨S_, .f32⟩
  | 76 => ⟨S50000, .f32⟩
  | 77 => ⟨S50000, .f32⟩
  | 78 => ⟨S50000, .f32⟩
  | 79 => ⟨S50000x1, .f32⟩
  | 80 => ⟨S1000x16, .f32⟩
  | 81 => ⟨S_, .f32⟩
  | 82 => ⟨S1000, .f32⟩
  | 83 => ⟨S1000x1, .f32⟩
  | 84 => ⟨S16x1000, .f32⟩
  | 85 => ⟨S1000x1000, .f32⟩
  | 86 => ⟨S_, .f32⟩
  | 87 => ⟨S1000x1000, .f32⟩
  | 88 => ⟨S1000x1000, .f32⟩
  | 89 => ⟨S1000x1000, .f32⟩
  | 90 => ⟨S1000x1000, .f32⟩
  | 91 => ⟨S1000x16, .f32⟩
  | 92 => ⟨S_, .f32⟩
  | 93 => ⟨S1000, .f32⟩
  | 94 => ⟨S1x1000, .f32⟩
  | 95 => ⟨S1000x1000, .f32⟩
  | 96 => ⟨S1000x1000, .f32⟩
  | 97 => ⟨S1000x1000, .f32⟩
  | 98 => ⟨S1000x10, .f32⟩
  | 99 => ⟨S1000x10, .i32⟩
  | 100 => ⟨S1000, .i32⟩
  | 101 => ⟨S1000x10, .i32⟩
  | 102 => ⟨S10000, .i32⟩
  | 103 => ⟨S10000, .i32⟩
  | 104 => ⟨S20000, .i32⟩
  | 105 => ⟨S20000, .i32⟩
  | 106 => ⟨S1x20000, .i32⟩
  | 107 => ⟨S1x20000, .i32⟩
  | 108 => ⟨S2x20000, .i32⟩
  | 109 => ⟨S_, .i32⟩
  | 110 => ⟨S20000, .i32⟩
  | 111 => ⟨S20000, .i1⟩
  | 112 => ⟨S_, .i32⟩
  | 113 => ⟨S20000, .i32⟩
  | 114 => ⟨S20000, .i32⟩
  | 115 => ⟨S20000, .i32⟩
  | 116 => ⟨S20000x1, .i32⟩
  | 117 => ⟨S1, .i32⟩
  | 118 => ⟨S_, .i32⟩
  | 119 => ⟨S20000x1, .i32⟩
  | 120 => ⟨S20000x1, .i1⟩
  | 121 => ⟨S1x1, .i32⟩
  | 122 => ⟨S20000x1, .i32⟩
  | 123 => ⟨S20000x1, .i1⟩
  | 124 => ⟨S20000x1, .i1⟩
  | 125 => ⟨S_, .i1⟩
  | 126 => ⟨S20000, .i1⟩
  | 127 => ⟨S20000x16, .f32⟩
  | _ => ⟨S10000x128, .f32⟩

abbrev hbmTy0_2 (i : Nat) : BufTy := match i % 128 with
  | 0 => ⟨S20000x16, .i1⟩
  | 1 => ⟨S_, .f32⟩
  | 2 => ⟨S20000x16, .f32⟩
  | 3 => ⟨S20000x16, .f32⟩
  | 4 => ⟨S_, .i32⟩
  | 5 => ⟨S20000, .i32⟩
  | 6 => ⟨S20000, .i1⟩
  | 7 => ⟨S_, .i32⟩
  | 8 => ⟨S20000, .i32⟩
  | 9 => ⟨S20000, .i32⟩
  | 10 => ⟨S20000, .i32⟩
  | 11 => ⟨S20000x1, .i32⟩
  | 12 => ⟨S1, .i32⟩
  | 13 => ⟨S_, .i32⟩
  | 14 => ⟨S20000x1, .i32⟩
  | 15 => ⟨S20000x1, .i1⟩
  | 16 => ⟨S1x1, .i32⟩
  | 17 => ⟨S20000x1, .i32⟩
  | 18 => ⟨S20000x1, .i1⟩
  | 19 => ⟨S20000x1, .i1⟩
  | 20 => ⟨S_, .i1⟩
  | 21 => ⟨S20000, .i1⟩
  | 22 => ⟨S20000x16, .f32⟩
  | 23 => ⟨S20000x16, .i1⟩
  | 24 => ⟨S_, .f32⟩
  | 25 => ⟨S20000x16, .f32⟩
  | 26 => ⟨S20000x16, .f32⟩
  | 27 => ⟨S20000x16, .f32⟩
  | 28 => ⟨S20000x16, .f32⟩
  | 29 => ⟨S_, .f32⟩
  | 30 => ⟨S20000, .f32⟩
  | 31 => ⟨S20000, .f32⟩
  | 32 => ⟨S20000, .f32⟩
  | 33 => ⟨S20000, .f32⟩
  | 34 => ⟨S20000, .f32⟩
  | 35 => ⟨S20000, .f32⟩
  | 36 => ⟨S20000, .f32⟩
  | 37 => ⟨S20000, .f32⟩
  | 38 => ⟨S_, .f32⟩
  | 39 => ⟨S20000, .f32⟩
  | 40 => ⟨S20000, .f32⟩
  | 41 => ⟨S_, .f32⟩
  | 42 => ⟨S20000, .f32⟩
  | 43 => ⟨S20000, .f32⟩
  | 44 => ⟨S_, .f32⟩
  | 45 => ⟨S1000, .f32⟩
  | 46 => ⟨S20000x1, .i32⟩
  | 47 => ⟨S1000, .f32⟩
  | 48 => ⟨S_, .i32⟩
  | 49 => ⟨S20000, .i32⟩
  | 50 => ⟨S20000, .i1⟩
  | 51 => ⟨S_, .i32⟩
  | 52 => ⟨S20000, .i32⟩
  | 53 => ⟨S20000, .i32⟩
  | 54 => ⟨S20000, .i32⟩
  | 55 => ⟨S20000x1, .i32⟩
  | 56 => ⟨S20000, .f32⟩
  | 57 => ⟨S_, .f32⟩
  | 58 => ⟨S20000, .f32⟩
  | 59 => ⟨S20000, .f32⟩
  | 60 => ⟨S20000, .f32⟩
  | 61 => ⟨S20000x1, .f32⟩
  | _ => ⟨S10000x128, .f32⟩

abbrev hbmTy (i : Nat) : BufTy := match i / 128 with
  | 0 => hbmTy0_0 i
  | 1 => hbmTy0_1 i
  | 2 => hbmTy0_2 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_4 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_call0_c : Ref sig .tc := ⟨.hbm, 61, rfl⟩
abbrev main_call0_v0 : Ref sig .tc := ⟨.hbm, 62, rfl⟩
abbrev main_call0_v1 : Ref sig .tc := ⟨.hbm, 63, rfl⟩
abbrev main_call0_c_0 : Ref sig .tc := ⟨.hbm, 64, rfl⟩
abbrev main_call0_v2 : Ref sig .tc := ⟨.hbm, 65, rfl⟩
abbrev main_call0_v3 : Ref sig .tc := ⟨.hbm, 66, rfl⟩
abbrev main_call0_v4 : Ref sig .tc := ⟨.hbm, 67, rfl⟩
abbrev main_call0_v5 : Ref sig .tc := ⟨.hbm, 68, rfl⟩
abbrev main_call0_c_1 : Ref sig .tc := ⟨.hbm, 69, rfl⟩
abbrev main_call0_c_2 : Ref sig .tc := ⟨.hbm, 70, rfl⟩
abbrev main_call0_v6 : Ref sig .tc := ⟨.hbm, 71, rfl⟩
abbrev main_call0_v7 : Ref sig .tc := ⟨.hbm, 72, rfl⟩
abbrev main_call0_v8 : Ref sig .tc := ⟨.hbm, 73, rfl⟩
abbrev main_call0_v9 : Ref sig .tc := ⟨.hbm, 74, rfl⟩
abbrev main_call0_v10 : Ref sig .tc := ⟨.hbm, 75, rfl⟩
abbrev main_call0_v11 : Ref sig .tc := ⟨.hbm, 76, rfl⟩
abbrev main_call0_c_3 : Ref sig .tc := ⟨.hbm, 77, rfl⟩
abbrev main_call0_v12 : Ref sig .tc := ⟨.hbm, 78, rfl⟩
abbrev main_call0_v13 : Ref sig .tc := ⟨.hbm, 79, rfl⟩
abbrev main_call0_v14 : Ref sig .tc := ⟨.hbm, 80, rfl⟩
abbrev main_call0_cst : Ref sig .tc := ⟨.hbm, 81, rfl⟩
abbrev main_call0_v15 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_7 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_cst_8 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_cst_9 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_cst_10 : Ref sig .tc := ⟨.hbm, 98, rfl⟩
abbrev main_call1_v0 : Ref sig .tc := ⟨.hbm, 99, rfl⟩
abbrev main_call1_v1 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_c : Ref sig .tc := ⟨.hbm, 105, rfl⟩
abbrev main_v56 : Ref sig .tc := ⟨.hbm, 106, rfl⟩
abbrev main_v57 : Ref sig .tc := ⟨.hbm, 107, rfl⟩
abbrev main_cst_11 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_12 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_13 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_values : Ref sig .tc := ⟨.hbm, 125, rfl⟩
abbrev main_indices : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_call2_c : Ref sig .tc := ⟨.hbm, 134, rfl⟩
abbrev main_call2_v0 : Ref sig .tc := ⟨.hbm, 135, rfl⟩
abbrev main_call2_v1 : Ref sig .tc := ⟨.hbm, 136, rfl⟩
abbrev main_call2_c_0 : Ref sig .tc := ⟨.hbm, 137, rfl⟩
abbrev main_call2_v2 : Ref sig .tc := ⟨.hbm, 138, rfl⟩
abbrev main_call2_v3 : Ref sig .tc := ⟨.hbm, 139, rfl⟩
abbrev main_call2_v4 : Ref sig .tc := ⟨.hbm, 140, rfl⟩
abbrev main_call2_v5 : Ref sig .tc := ⟨.hbm, 141, rfl⟩
abbrev main_call2_c_1 : Ref sig .tc := ⟨.hbm, 142, rfl⟩
abbrev main_call2_c_2 : Ref sig .tc := ⟨.hbm, 143, rfl⟩
abbrev main_call2_v6 : Ref sig .tc := ⟨.hbm, 144, rfl⟩
abbrev main_call2_v7 : Ref sig .tc := ⟨.hbm, 145, rfl⟩
abbrev main_call2_v8 : Ref sig .tc := ⟨.hbm, 146, rfl⟩
abbrev main_call2_v9 : Ref sig .tc := ⟨.hbm, 147, rfl⟩
abbrev main_call2_v10 : Ref sig .tc := ⟨.hbm, 148, rfl⟩
abbrev main_call2_v11 : Ref sig .tc := ⟨.hbm, 149, rfl⟩
abbrev main_call2_c_3 : Ref sig .tc := ⟨.hbm, 150, rfl⟩
abbrev main_call2_v12 : Ref sig .tc := ⟨.hbm, 151, rfl⟩
abbrev main_call2_v13 : Ref sig .tc := ⟨.hbm, 152, rfl⟩
abbrev main_call2_v14 : Ref sig .tc := ⟨.hbm, 153, rfl⟩
abbrev main_call2_cst : Ref sig .tc := ⟨.hbm, 154, rfl⟩
abbrev main_call2_v15 : Ref sig .tc := ⟨.hbm, 155, rfl⟩
abbrev main_v79 : Ref sig .tc := ⟨.hbm, 156, rfl⟩
abbrev main_call3_c : Ref sig .tc := ⟨.hbm, 157, rfl⟩
abbrev main_call3_v0 : Ref sig .tc := ⟨.hbm, 158, rfl⟩
abbrev main_call3_v1 : Ref sig .tc := ⟨.hbm, 159, rfl⟩
abbrev main_call3_c_0 : Ref sig .tc := ⟨.hbm, 160, rfl⟩
abbrev main_call3_v2 : Ref sig .tc := ⟨.hbm, 161, rfl⟩
abbrev main_call3_v3 : Ref sig .tc := ⟨.hbm, 162, rfl⟩
abbrev main_call3_v4 : Ref sig .tc := ⟨.hbm, 163, rfl⟩
abbrev main_call3_v5 : Ref sig .tc := ⟨.hbm, 164, rfl⟩
abbrev main_call3_c_1 : Ref sig .tc := ⟨.hbm, 165, rfl⟩
abbrev main_call3_c_2 : Ref sig .tc := ⟨.hbm, 166, rfl⟩
abbrev main_call3_v6 : Ref sig .tc := ⟨.hbm, 167, rfl⟩
abbrev main_call3_v7 : Ref sig .tc := ⟨.hbm, 168, rfl⟩
abbrev main_call3_v8 : Ref sig .tc := ⟨.hbm, 169, rfl⟩
abbrev main_call3_v9 : Ref sig .tc := ⟨.hbm, 170, rfl⟩
abbrev main_call3_v10 : Ref sig .tc := ⟨.hbm, 171, rfl⟩
abbrev main_call3_v11 : Ref sig .tc := ⟨.hbm, 172, rfl⟩
abbrev main_call3_c_3 : Ref sig .tc := ⟨.hbm, 173, rfl⟩
abbrev main_call3_v12 : Ref sig .tc := ⟨.hbm, 174, rfl⟩
abbrev main_call3_v13 : Ref sig .tc := ⟨.hbm, 175, rfl⟩
abbrev main_call3_v14 : Ref sig .tc := ⟨.hbm, 176, rfl⟩
abbrev main_call3_cst : Ref sig .tc := ⟨.hbm, 177, rfl⟩
abbrev main_call3_v15 : Ref sig .tc := ⟨.hbm, 178, rfl⟩
abbrev main_v80 : Ref sig .tc := ⟨.hbm, 179, rfl⟩
abbrev main_v81 : Ref sig .tc := ⟨.hbm, 180, rfl⟩
abbrev main_v82 : Ref sig .tc := ⟨.hbm, 181, rfl⟩
abbrev main_cst_14 : Ref sig .tc := ⟨.hbm, 182, rfl⟩
abbrev main_v83 : Ref sig .tc := ⟨.hbm, 183, rfl⟩
abbrev main_v84 : Ref sig .tc := ⟨.hbm, 184, rfl⟩
abbrev main_v85 : Ref sig .tc := ⟨.hbm, 185, rfl⟩
abbrev main_v86 : Ref sig .tc := ⟨.hbm, 186, rfl⟩
abbrev main_v87 : Ref sig .tc := ⟨.hbm, 187, rfl⟩
abbrev main_v88 : Ref sig .tc := ⟨.hbm, 188, rfl⟩
abbrev main_v89 : Ref sig .tc := ⟨.hbm, 189, rfl⟩
abbrev main_cst_15 : Ref sig .tc := ⟨.hbm, 190, rfl⟩
abbrev main_v90 : Ref sig .tc := ⟨.hbm, 191, rfl⟩
abbrev main_v91 : Ref sig .tc := ⟨.hbm, 192, rfl⟩
abbrev main_v92 : Ref sig .tc := ⟨.hbm, 193, rfl⟩
abbrev main_c_16 : Ref sig .tc := ⟨.hbm, 194, rfl⟩
abbrev main_v93 : Ref sig .tc := ⟨.hbm, 195, rfl⟩
abbrev main_v94 : Ref sig .tc := ⟨.hbm, 196, rfl⟩
abbrev main_c_17 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_v98 : Ref sig .tc := ⟨.hbm, 201, rfl⟩
abbrev main_v99 : Ref sig .tc := ⟨.hbm, 202, rfl⟩
abbrev main_cst_18 : Ref sig .tc := ⟨.hbm, 203, rfl⟩
abbrev main_v100 : Ref sig .tc := ⟨.hbm, 204, rfl⟩
abbrev main_v101 : Ref sig .tc := ⟨.hbm, 205, rfl⟩
abbrev main_v102 : Ref sig .tc := ⟨.hbm, 206, rfl⟩
abbrev main_v103 : Ref sig .tc := ⟨.hbm, 207, rfl⟩
abbrev main_v104 : Ref sig .tc := ⟨.hbm, 208, rfl⟩
abbrev main_cst_19 : Ref sig .tc := ⟨.hbm, 209, rfl⟩
abbrev main_v105 : Ref sig .tc := ⟨.hbm, 210, rfl⟩
abbrev main_v106 : Ref sig .tc := ⟨.hbm, 211, rfl⟩
abbrev main_v107 : Ref sig .tc := ⟨.hbm, 212, rfl⟩
abbrev main_v108 : Ref sig .tc := ⟨.hbm, 213, rfl⟩
abbrev main_cst_20 : Ref sig .tc := ⟨.hbm, 214, rfl⟩
abbrev main_v109 : Ref sig .tc := ⟨.hbm, 215, rfl⟩
abbrev main_v110 : Ref sig .tc := ⟨.hbm, 216, rfl⟩
abbrev main_v111 : Ref sig .tc := ⟨.hbm, 217, rfl⟩
abbrev main_v112 : Ref sig .tc := ⟨.hbm, 218, rfl⟩
abbrev main_v113 : Ref sig .tc := ⟨.hbm, 219, rfl⟩
abbrev main_cst_21 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_values_22 : Ref sig .tc := ⟨.hbm, 226, rfl⟩
abbrev main_indices_23 : Ref sig .tc := ⟨.hbm, 227, rfl⟩
abbrev main_v119 : Ref sig .tc := ⟨.hbm, 228, rfl⟩
abbrev main_v120 : Ref sig .tc := ⟨.hbm, 229, rfl⟩
abbrev main_v121 : Ref sig .tc := ⟨.hbm, 230, rfl⟩
abbrev main_v122 : Ref sig .tc := ⟨.hbm, 231, rfl⟩
abbrev main_v123 : Ref sig .tc := ⟨.hbm, 232, rfl⟩
abbrev main_v124 : Ref sig .tc := ⟨.hbm, 233, rfl⟩
abbrev main_v125 : Ref sig .tc := ⟨.hbm, 234, rfl⟩
abbrev main_v126 : Ref sig .tc := ⟨.hbm, 235, rfl⟩
abbrev main_v127 : Ref sig .tc := ⟨.hbm, 236, rfl⟩
abbrev main_call4_c : Ref sig .tc := ⟨.hbm, 237, rfl⟩
abbrev main_call4_v0 : Ref sig .tc := ⟨.hbm, 238, rfl⟩
abbrev main_call4_v1 : Ref sig .tc := ⟨.hbm, 239, rfl⟩
abbrev main_call4_c_0 : Ref sig .tc := ⟨.hbm, 240, rfl⟩
abbrev main_call4_v2 : Ref sig .tc := ⟨.hbm, 241, rfl⟩
abbrev main_call4_v3 : Ref sig .tc := ⟨.hbm, 242, rfl⟩
abbrev main_call4_v4 : Ref sig .tc := ⟨.hbm, 243, rfl⟩
abbrev main_call4_v5 : Ref sig .tc := ⟨.hbm, 244, rfl⟩
abbrev main_call4_c_1 : Ref sig .tc := ⟨.hbm, 245, rfl⟩
abbrev main_call4_c_2 : Ref sig .tc := ⟨.hbm, 246, rfl⟩
abbrev main_call4_v6 : Ref sig .tc := ⟨.hbm, 247, rfl⟩
abbrev main_call4_v7 : Ref sig .tc := ⟨.hbm, 248, rfl⟩
abbrev main_call4_v8 : Ref sig .tc := ⟨.hbm, 249, rfl⟩
abbrev main_call4_v9 : Ref sig .tc := ⟨.hbm, 250, rfl⟩
abbrev main_call4_v10 : Ref sig .tc := ⟨.hbm, 251, rfl⟩
abbrev main_call4_v11 : Ref sig .tc := ⟨.hbm, 252, rfl⟩
abbrev main_call4_c_3 : Ref sig .tc := ⟨.hbm, 253, rfl⟩
abbrev main_call4_v12 : Ref sig .tc := ⟨.hbm, 254, rfl⟩
abbrev main_call4_v13 : Ref sig .tc := ⟨.hbm, 255, rfl⟩
abbrev main_call4_v14 : Ref sig .tc := ⟨.hbm, 256, rfl⟩
abbrev main_call4_cst : Ref sig .tc := ⟨.hbm, 257, rfl⟩
abbrev main_call4_v15 : Ref sig .tc := ⟨.hbm, 258, rfl⟩
abbrev main_v128 : Ref sig .tc := ⟨.hbm, 259, rfl⟩
abbrev main_call5_c : Ref sig .tc := ⟨.hbm, 260, rfl⟩
abbrev main_call5_v0 : Ref sig .tc := ⟨.hbm, 261, rfl⟩
abbrev main_call5_v1 : Ref sig .tc := ⟨.hbm, 262, rfl⟩
abbrev main_call5_c_0 : Ref sig .tc := ⟨.hbm, 263, rfl⟩
abbrev main_call5_v2 : Ref sig .tc := ⟨.hbm, 264, rfl⟩
abbrev main_call5_v3 : Ref sig .tc := ⟨.hbm, 265, rfl⟩
abbrev main_call5_v4 : Ref sig .tc := ⟨.hbm, 266, rfl⟩
abbrev main_call5_v5 : Ref sig .tc := ⟨.hbm, 267, rfl⟩
abbrev main_call5_c_1 : Ref sig .tc := ⟨.hbm, 268, rfl⟩
abbrev main_call5_c_2 : Ref sig .tc := ⟨.hbm, 269, rfl⟩
abbrev main_call5_v6 : Ref sig .tc := ⟨.hbm, 270, rfl⟩
abbrev main_call5_v7 : Ref sig .tc := ⟨.hbm, 271, rfl⟩
abbrev main_call5_v8 : Ref sig .tc := ⟨.hbm, 272, rfl⟩
abbrev main_call5_v9 : Ref sig .tc := ⟨.hbm, 273, rfl⟩
abbrev main_call5_v10 : Ref sig .tc := ⟨.hbm, 274, rfl⟩
abbrev main_call5_v11 : Ref sig .tc := ⟨.hbm, 275, rfl⟩
abbrev main_call5_c_3 : Ref sig .tc := ⟨.hbm, 276, rfl⟩
abbrev main_call5_v12 : Ref sig .tc := ⟨.hbm, 277, rfl⟩
abbrev main_call5_v13 : Ref sig .tc := ⟨.hbm, 278, rfl⟩
abbrev main_call5_v14 : Ref sig .tc := ⟨.hbm, 279, rfl⟩
abbrev main_call5_cst : Ref sig .tc := ⟨.hbm, 280, rfl⟩
abbrev main_call5_v15 : Ref sig .tc := ⟨.hbm, 281, rfl⟩
abbrev main_v129 : Ref sig .tc := ⟨.hbm, 282, rfl⟩
abbrev main_v130 : Ref sig .tc := ⟨.hbm, 283, rfl⟩
abbrev main_v131 : Ref sig .tc := ⟨.hbm, 284, rfl⟩
abbrev main_cst_24 : Ref sig .tc := ⟨.hbm, 285, rfl⟩
abbrev main_v132 : Ref sig .tc := ⟨.hbm, 286, rfl⟩
abbrev main_v133 : Ref sig .tc := ⟨.hbm, 287, rfl⟩
abbrev main_v134 : Ref sig .tc := ⟨.hbm, 288, rfl⟩
abbrev main_v135 : Ref sig .tc := ⟨.hbm, 289, rfl⟩
abbrev main_v136 : Ref sig .tc := ⟨.hbm, 290, rfl⟩
abbrev main_v137 : Ref sig .tc := ⟨.hbm, 291, rfl⟩
abbrev main_v138 : Ref sig .tc := ⟨.hbm, 292, rfl⟩
abbrev main_v139 : Ref sig .tc := ⟨.hbm, 293, rfl⟩
abbrev main_cst_25 : Ref sig .tc := ⟨.hbm, 294, rfl⟩
abbrev main_v140 : Ref sig .tc := ⟨.hbm, 295, rfl⟩
abbrev main_v141 : Ref sig .tc := ⟨.hbm, 296, rfl⟩
abbrev main_cst_26 : Ref sig .tc := ⟨.hbm, 297, rfl⟩
abbrev main_v142 : Ref sig .tc := ⟨.hbm, 298, rfl⟩
abbrev main_v143 : Ref sig .tc := ⟨.hbm, 299, rfl⟩
abbrev main_cst_27 : Ref sig .tc := ⟨.hbm, 300, rfl⟩
abbrev main_v144 : Ref sig .tc := ⟨.hbm, 301, rfl⟩
abbrev main_v145 : Ref sig .tc := ⟨.hbm, 302, rfl⟩
abbrev main_v146 : Ref sig .tc := ⟨.hbm, 303, rfl⟩
abbrev main_c_28 : Ref sig .tc := ⟨.hbm, 304, rfl⟩
abbrev main_v147 : Ref sig .tc := ⟨.hbm, 305, rfl⟩
abbrev main_v148 : Ref sig .tc := ⟨.hbm, 306, rfl⟩
abbrev main_c_29 : Ref sig .tc := ⟨.hbm, 307, rfl⟩
abbrev main_v149 : Ref sig .tc := ⟨.hbm, 308, rfl⟩
abbrev main_v150 : Ref sig .tc := ⟨.hbm, 309, rfl⟩
abbrev main_v151 : Ref sig .tc := ⟨.hbm, 310, rfl⟩
abbrev main_v152 : Ref sig .tc := ⟨.hbm, 311, rfl⟩
abbrev main_v153 : Ref sig .tc := ⟨.hbm, 312, rfl⟩
abbrev main_cst_30 : Ref sig .tc := ⟨.hbm, 313, rfl⟩
abbrev main_v154 : Ref sig .tc := ⟨.hbm, 314, rfl⟩
abbrev main_v155 : Ref sig .tc := ⟨.hbm, 315, rfl⟩
abbrev main_v156 : Ref sig .tc := ⟨.hbm, 316, rfl⟩
abbrev main_v157 : Ref sig .tc := ⟨.hbm, 317, rfl⟩

abbrev nD : Nat := 1
abbrev τ : Topo := Topo.v7x

variable {F : FTy → Type} [FloatOps F]
-- ==== Proof.TopPick.lean ====
/-
  Choosing the greatest entries of a row one after another: the greatest entry's value, the first position that holds
  it, that position put to `-∞`, and again. On a row of entries above `-∞` the positions chosen are, in order, the first
  positions of the stable descending sort of the row.
-/
module

public import Idealize.ShloMosaic.Lib.SortPrefix
public import Mathlib.Data.EReal.Basic

@[expose] public section

noncomputable section

open Idealize.ShloMosaic

namespace Cert.TopPick

variable {n : ℕ}

/-- The greatest entry of a row. -/
def top (f : Fin n → EReal) : EReal := Finset.univ.sup f

/-- Some position holds the greatest entry of a row that is not empty. -/
theorem exists_top [NeZero n] (f : Fin n → EReal) : ∃ p, f p = top f := by
  obtain ⟨p, _, hp⟩ := Finset.exists_mem_eq_sup (Finset.univ : Finset (Fin n)) ⟨0, Finset.mem_univ _⟩ f
  exact ⟨p, hp.symm⟩

/-- The first position that holds the greatest entry. -/
def at' [NeZero n] (f : Fin n → EReal) : Fin n :=
  (Finset.univ.filter fun p => f p = top f).min' (by
    obtain ⟨p, hp⟩ := exists_top f
    exact ⟨p, Finset.mem_filter.2 ⟨Finset.mem_univ _, hp⟩⟩)

/-- The row with its first greatest entry put to `-∞`. -/
def rest [NeZero n] (f : Fin n → EReal) : Fin n → EReal := fun q => if q = at' f then ⊥ else f q

/-- The row after `k` choices. -/
def after [NeZero n] (f : Fin n → EReal) : ℕ → Fin n → EReal
  | 0 => f
  | k + 1 => rest (after f k)

/-- The position chosen at choice `k`. -/
def pos [NeZero n] (f : Fin n → EReal) (k : ℕ) : Fin n := at' (after f k)

/-- The value chosen at choice `k`. -/
def val [NeZero n] (f : Fin n → EReal) (k : ℕ) : EReal := top (after f k)

variable [NeZero n]

/-- The chosen position holds the greatest entry. -/
theorem apply_at' (f : Fin n → EReal) : f (at' f) = top f :=
  (Finset.mem_filter.1 (Finset.min'_mem (Finset.univ.filter fun p => f p = top f) _)).2

/-- No position before the chosen one holds the greatest entry. -/
theorem at'_le (f : Fin n → EReal) {p : Fin n} (h : f p = top f) : at' f ≤ p :=
  Finset.min'_le (Finset.univ.filter fun p => f p = top f) p (Finset.mem_filter.2 ⟨Finset.mem_univ _, h⟩)

omit [NeZero n] in
/-- Every entry is at most the greatest. -/
theorem le_top' (f : Fin n → EReal) (p : Fin n) : f p ≤ top f := Finset.le_sup (Finset.mem_univ p)

/-- What the row holds after `k` choices: `-∞` at a chosen position, the entry itself elsewhere. -/
theorem after_apply (f : Fin n → EReal) (k : ℕ) (p : Fin n) :
    after f k p = if ∃ j < k, pos f j = p then ⊥ else f p := by
  induction k with
  | zero => simp [after]
  | succ k ih =>
    show (if p = at' (after f k) then ⊥ else after f k p) = _
    by_cases hp : p = at' (after f k)
    · rw [if_pos hp, if_pos ⟨k, Nat.lt_succ_self k, hp.symm⟩]
    · rw [if_neg hp, ih]
      by_cases h : ∃ j < k, pos f j = p
      · rw [if_pos h]
        obtain ⟨j, hj, e⟩ := h
        rw [if_pos ⟨j, Nat.lt_succ_of_lt hj, e⟩]
      · rw [if_neg h, if_neg]
        rintro ⟨j, hj, e⟩
        rcases Nat.lt_succ_iff_lt_or_eq.1 hj with h1 | h1
        · exact h ⟨j, h1, e⟩
        · exact hp (by rw [← e, h1]; rfl)

/-- While fewer than `n` choices were made some position is not chosen, so the next one chosen is a new one. -/
theorem pos_fresh (f : Fin n → EReal) (hf : ∀ p, f p ≠ ⊥) {k : ℕ} (hk : k < n) : ∀ j < k, pos f j ≠ pos f k := by
  intro j hj e
  have hb : after f k (pos f k) = ⊥ := by rw [after_apply, if_pos ⟨j, hj, e⟩]
  have ht : top (after f k) = ⊥ := by rw [← apply_at']; exact hb
  have hcard : ((Finset.range k).image (pos f)).card < (Finset.univ : Finset (Fin n)).card := by
    refine lt_of_le_of_lt Finset.card_image_le ?_
    simpa using hk
  obtain ⟨p, _, hp⟩ := Finset.exists_mem_notMem_of_card_lt_card hcard
  have h1 : after f k p = f p := by
    rw [after_apply, if_neg]
    rintro ⟨i, hi, e⟩
    exact hp (Finset.mem_image.2 ⟨i, Finset.mem_range.2 hi, e⟩)
  have h2 := le_top' (after f k) p
  rw [ht, h1, le_bot_iff] at h2
  exact hf p h2

/-- The value chosen is the row's own entry at the chosen position. -/
theorem val_eq (f : Fin n → EReal) (hf : ∀ p, f p ≠ ⊥) {k : ℕ} (hk : k < n) : val f k = f (pos f k) := by
  have h : after f k (pos f k) = f (pos f k) := by
    rw [after_apply, if_neg]
    rintro ⟨j, hj, e⟩
    exact pos_fresh f hf hk j hj e
  rw [← h]; exact (apply_at' _).symm

/-- A row entry chosen later, or never, is not greater than the one chosen at `k`, and at a tie stands later. -/
theorem later (f : Fin n → EReal) (hf : ∀ p, f p ≠ ⊥) {k : ℕ} (hk : k < n) (p : Fin n)
    (hp : ∀ j < k, pos f j ≠ p) : f p ≤ f (pos f k) ∧ (f p = f (pos f k) → pos f k ≤ p) := by
  have h1 : after f k p = f p := by
    rw [after_apply, if_neg]
    rintro ⟨j, hj, e⟩
    exact hp j hj e
  have hv : top (after f k) = f (pos f k) := val_eq f hf hk
  refine ⟨?_, fun e => ?_⟩
  · rw [← h1, ← hv]; exact le_top' _ _
  · exact at'_le _ (by rw [h1, hv]; exact e)

/-- A stable sort of an increasing list of positions by a relation is its sort by any relation that agrees with it on a
    later position against an earlier one. -/
theorem stableSort_of_increasing (R R' : Fin n → Fin n → Bool) (l : List (Fin n)) (hl : l.Pairwise (· < ·))
    (h : ∀ a b, a < b → R b a = R' b a) : stableSort R l = stableSort R' l := by
  induction l with
  | nil => rfl
  | cons a l ih =>
    rw [List.pairwise_cons] at hl
    unfold stableSort
    rw [ih hl.2]
    exact insertBefore_congr R R' a _ fun b hb => h a b (hl.1 b ((perm_stableSort R' l).mem_iff.mp hb))

/-- The stable descending sort of a row of entries above `-∞` comes, position by position, from the choices in turn. -/
theorem sortedFrom_eq_pos (f : Fin n → EReal) (hf : ∀ p, f p ≠ ⊥) (R : Fin n → Fin n → Bool)
    (hR : ∀ a b, R a b = decide (f b < f a)) (k : Fin n) : sortedFrom R k = pos f k := by
  classical
  let B : Fin n → Fin n → Bool := fun a b => decide (f b < f a) || (decide (f a = f b) && decide (a < b))
  have hB : StrictTotalBefore B :=
    StrictTotalBefore.of_key_then_position (fun x y : EReal => decide (y < x)) f (by simp)
      (by simp only [decide_eq_true_eq]; intro a b c h1 h2; exact h2.trans h1)
      (by simp only [decide_eq_true_eq]; intro a b; rcases lt_trichotomy a b with h | h | h <;> simp [h])
  have e : sortPositions n R = sortPositions n B :=
    stableSort_of_increasing R B _ (List.pairwise_lt_finRange n) fun a b hab => by
      simp [B, hR, not_lt_of_gt hab, le_of_lt hab]
  have e2 : sortedFrom R = sortedFrom B := by
    funext k
    unfold sortedFrom
    rw [List.get_of_eq e]
    rfl
  rw [e2]
  have := hB.sortedFrom_eq_of_prefix (le_refl n) (fun i : Fin n => pos f i)
    (fun i j hij => by
      by_contra hne
      rcases lt_or_gt_of_ne (fun h : i.val = j.val => hne (Fin.ext h)) with h | h
      · exact pos_fresh f hf j.isLt i.val h hij
      · exact pos_fresh f hf i.isLt j.val h hij.symm)
    (fun i j hij => by
      have h := later f hf i.isLt (pos f j) fun l hl => pos_fresh f hf j.isLt l (lt_trans hl hij)
      simp only [B, Bool.or_eq_false_iff, Bool.and_eq_false_iff, decide_eq_false_iff_not, not_lt]
      refine ⟨h.1, ?_⟩
      by_cases e : f (pos f j) = f (pos f i)
      · exact Or.inr (h.2 e)
      · exact Or.inl e)
    (fun i p hp => by
      have h := later f hf i.isLt p fun l hl => hp ⟨l, lt_trans hl i.isLt⟩
      simp only [B, Bool.or_eq_false_iff, Bool.and_eq_false_iff, decide_eq_false_iff_not, not_lt]
      refine ⟨h.1, ?_⟩
      by_cases e : f p = f (pos f i)
      · exact Or.inr (h.2 e)
      · exact Or.inl e) k
  simpa using this

end Cert.TopPick
-- ==== Proof.Reads.lean ====
/-
  Reading the arrays of the program at an index: the operations of the kernel's bodies over literal two-axis shapes, at
  the extended reals.
-/
module

public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws
public import Idealize.ShloMosaic.Lib.SortNet.Extract
public import Idealize.ShloMosaic.Lib.Affine
public import proofs.«01_k».proof.Proof.TopPick

@[expose] public section

noncomputable section

open Idealize.ShloMosaic
open Idealize.ShloMosaic.ValueIdx

namespace Cert.Reads

variable {α : Type} {a b : ℕ}

/-- A two-axis index from its coordinates. -/
theorem ix2_of {p : Fin a} {q : Fin b} {j : (⟨2, ![a, b]⟩ : Shape).Idx} (h0 : (j 0).val = p.val) (h1 : (j 1).val = q.val) :
    j = ix2 p q := by
  funext c
  match c with
  | ⟨0, _⟩ => exact Fin.ext h0
  | ⟨1, _⟩ => exact Fin.ext h1

/-- A one-axis index from its coordinate. -/
theorem ix1_of {p : Fin a} {j : (⟨1, ![a]⟩ : Shape).Idx} (h0 : (j 0).val = p.val) : j = ix1 p := by
  funext c
  match c with
  | ⟨0, _⟩ => exact Fin.ext h0

/-- A column spread over a matrix reads, at `(p, q)`, the column at `p`. -/
theorem spreadCol (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p 0) := by
  refine broadcastTo_apply v h (ix2 p q) (ix2 p 0) fun c => ?_
  match c with
  | ⟨0, _⟩ =>
    show p.val = if a = 1 then 0 else p.val
    split
    · have := p.isLt; omega
    · rfl
  | ⟨1, _⟩ => rfl

/-- A row spread over a matrix reads, at `(p, q)`, the row at `q`. -/
theorem spreadRow (v : (⟨2, ![1, b]⟩ : Shape).Idx → α) (h : (⟨2, ![1, b]⟩ : Shape).Broadcasts ⟨2, ![a, b]⟩)
    (p : Fin a) (q : Fin b) : broadcastTo ⟨2, ![a, b]⟩ v h (ix2 p q) = v (ix2 0 q) :=
  broadcastTo_1b_ab_apply v h p q

/-- Putting `q` back on the second axis of a row index `p`. -/
theorem lift_one (h : (⟨2, ![a, b]⟩ : Shape).Reduces [1] ⟨1, ![a]⟩) (p : Fin a) (q : Fin b) :
    h.lift (ix1 p) q = ix2 p q := by
  funext c
  match c with
  | ⟨0, _⟩ => exact Fin.ext rfl
  | ⟨1, _⟩ => exact Fin.ext rfl

/-- Putting `p` back on the first axis of a column index `q`. -/
theorem lift_zero (h : (⟨2, ![a, b]⟩ : Shape).Reduces [0] ⟨1, ![b]⟩) (p : Fin a) (q : Fin b) :
    h.lift (ix1 q) p = ix2 p q := by
  funext c
  match c with
  | ⟨0, _⟩ => exact Fin.ext rfl
  | ⟨1, _⟩ => exact Fin.ext rfl

/-- A row sum at `p`. -/
theorem sumRow (x : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ x 0x00000000#32 h hφ hacc (ix1 p) = ∑ q : Fin b, x (ix2 p q) := by
  rw [Ideal.multiReduction_add_single]
  exact Finset.sum_congr rfl fun q _ => congrArg x (lift_one h p q)

/-- A column sum at `q`. -/
theorem sumCol (x : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (q : Fin b) :
    multiReduction .add [0] ⟨1, ![b]⟩ x 0x00000000#32 h hφ hacc (ix1 q) = ∑ p : Fin a, x (ix2 p q) := by
  rw [Ideal.multiReduction_add_single]
  exact Finset.sum_congr rfl fun p _ => congrArg x (lift_zero h p q)

/-- A fold of `max` from `-∞` is the greatest entry. -/
theorem fold_max (f : Fin b → EReal) : (Finset.univ : Finset (Fin b)).fold max ⊥ f = TopPick.top f := by
  unfold TopPick.top
  rw [Finset.sup_def]; rfl

/-- A row maximum at `p` is the greatest entry of the row. -/
theorem maxRow (x : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction .maximumf [1] ⟨1, ![a]⟩ x 0xFF800000#32 h hφ hacc (ix1 p) = TopPick.top fun q => x (ix2 p q) := by
  rw [Ideal.multiReduction_maximumf_single]
  have e : (FloatOps.ofBits .f32 0xFF800000#32 : Ideal .f32) = ⊥ := by
    show Ideal.ofBits .f32 0xFF800000#32 = ⊥
    simp [Ideal.ofBits, Ideal.ieee]
  rw [e, ← fold_max]
  congr 1
  funext q
  exact congrArg x (lift_one h p q)

/-- A vector cast to its own shape is itself, at an index. -/
theorem castSelf {s : Shape} (x : s.Idx → α) (h : s.ShapeCasts s) (i : s.Idx) : shapeCast s x h i = x i := by
  rw [shapeCast_self]

/-- A fold of the signed minimum is the word that is at most the start and every word, and is one of them. -/
theorem fold_minsi (f : Fin b → BitVec 32) (c w : BitVec 32) (hc : w.toInt ≤ c.toInt) (hle : ∀ q, w.toInt ≤ (f q).toInt)
    (hmem : ∃ q, f q = w) : (Finset.univ : Finset (Fin b)).fold IntOp.minsi c f = w := by
  apply BitVec.eq_of_toInt_eq
  rw [← Finset.fold_hom (op' := min) (m := BitVec.toInt) SortNet.toInt_minsi]
  apply le_antisymm
  · obtain ⟨q, hq⟩ := hmem
    exact (Finset.fold_min_le _).2 (Or.inr ⟨q, Finset.mem_univ _, by rw [hq]⟩)
  · exact (Finset.le_fold_min _).2 ⟨hc, fun q _ => hle q⟩

/-- A small word read as a signed number. -/
theorem toInt_small {n : ℕ} (hn : n < 2 ^ 31) : (BitVec.ofNat 32 n).toInt = n := by
  rw [BitVec.toInt_eq_toNat_cond, BitVec.toNat_ofNat, Nat.mod_eq_of_lt (by omega)]
  rw [if_pos (by omega)]

/-- Two small words are equal when the numbers are. -/
theorem ofNat_inj {n k : ℕ} (hn : n < 2 ^ 31) (hk : k < 2 ^ 31) : BitVec.ofNat 32 n = BitVec.ofNat 32 k ↔ n = k := by
  constructor
  · intro h
    have := congrArg BitVec.toNat h
    rwa [BitVec.toNat_ofNat, BitVec.toNat_ofNat, Nat.mod_eq_of_lt (by omega), Nat.mod_eq_of_lt (by omega)] at this
  · rintro rfl; rfl

/-- Choosing by an equality test of words. -/
theorem select_cmpi_eq {w : ℕ} (x y : BitVec w) (u v : α) : Scalar.select (IntOp.cmpi .eq x y) u v = if x = y then u else v := by
  unfold Scalar.select IntOp.cmpi
  by_cases h : x = y
  · simp [h]
  · have e : (x == y) = false := by simpa using h
    simp [h, e]

/-- Choosing by an equality test of numbers. -/
theorem select_cmpf_eq (x y : Ideal .f32) (u v : α) :
    Scalar.select (FloatOps.cmpf .oeq x y) u v = if x = y then u else v := by
  show (if Ideal.cmp .oeq x y = 1 then u else v) = _
  unfold Ideal.cmp
  by_cases h : x = y <;> simp [h]

/-- The signed minimum of a row's positions, those that do not hold the row's greatest entry replaced by a large word, is
    the first position that holds it. -/
theorem firstTop [NeZero b] (hb : b ≤ 2 ^ 30) (x : FVec Ideal ⟨2, ![a, b]⟩ .f32) (m : FVec Ideal ⟨2, ![a, 1]⟩ .f32)
    (hB : (⟨2, ![a, 1]⟩ : Shape).Broadcasts ⟨2, ![a, b]⟩) (hI : (⟨2, ![a, b]⟩ : Shape).Iotas .tc 32 [1])
    (h : (⟨2, ![a, b]⟩ : Shape).Reduces [1] ⟨1, ![a]⟩) (hacc : (2147483647#32 : BitVec 32) = IKind.minsi.neutral) (p : Fin a)
    (hm : m (ix2 p 0) = TopPick.top fun q => x (ix2 p q)) :
    multiReductionI .minsi [1] ⟨1, ![a]⟩
        (select (cmpf .oeq x (broadcastTo ⟨2, ![a, b]⟩ m hB)) (iota .tc ⟨2, ![a, b]⟩ 32 [1] hI)
          (broadcast ⟨2, ![a, b]⟩ 1073741824#32)) 2147483647#32 h hacc (ix1 p)
      = BitVec.ofNat 32 (TopPick.at' fun q => x (ix2 p q)).val := by
  rw [multiReductionI_eq_fold, h.fold_filter_drop_single]
  have hv : ∀ q : Fin b, (select (cmpf .oeq x (broadcastTo ⟨2, ![a, b]⟩ m hB)) (iota .tc ⟨2, ![a, b]⟩ 32 [1] hI)
          (broadcast ⟨2, ![a, b]⟩ 1073741824#32) ∘ h.lift (ix1 p)) q
      = if x (ix2 p q) = TopPick.top (fun q => x (ix2 p q)) then BitVec.ofNat 32 q.val else 1073741824#32 := by
    intro q
    show select _ _ _ (h.lift (ix1 p) q) = _
    rw [lift_one, select_apply, cmpf_apply, select_cmpf_eq, spreadCol, hm, iota_single_apply]
    rfl
  have hlt := (TopPick.at' fun q => x (ix2 p q)).isLt
  refine (congrArg (fun f : Fin b → BitVec 32 => Finset.univ.fold IntOp.minsi 2147483647#32 f) (funext hv)).trans ?_
  refine fold_minsi _ _ _ ?_ ?_ ⟨TopPick.at' fun q => x (ix2 p q), ?_⟩
  · rw [toInt_small (by omega)]
    have : ((2147483647#32 : BitVec 32)).toInt = 2147483647 := by decide
    omega
  · intro q
    rw [toInt_small (by omega)]
    have hq := q.isLt
    split
    · rename_i hq'
      rw [toInt_small (by omega)]
      exact_mod_cast (TopPick.at'_le _ hq' : (TopPick.at' fun q => x (ix2 p q)) ≤ q)
    · have : ((1073741824#32 : BitVec 32)).toInt = 1073741824 := by decide
      omega
  · rw [if_pos (TopPick.apply_at' fun q => x (ix2 p q))]

/-- The matrix with, in every row, the position a column of words names put to `-∞`. -/
theorem maskTop [NeZero b] (hb : b ≤ 2 ^ 30) (x : FVec Ideal ⟨2, ![a, b]⟩ .f32) (v : IVec ⟨2, ![a, 1]⟩ 32)
    (hB : (⟨2, ![a, 1]⟩ : Shape).Broadcasts ⟨2, ![a, b]⟩) (hI : (⟨2, ![a, b]⟩ : Shape).Iotas .tc 32 [1])
    (c : Ideal .f32) (hc : c = (⊥ : EReal)) (p : Fin a)
    (hv : v (ix2 p 0) = BitVec.ofNat 32 (TopPick.at' fun q => x (ix2 p q)).val) (q : Fin b) :
    select (cmpi .eq (iota .tc ⟨2, ![a, b]⟩ 32 [1] hI) (broadcastTo ⟨2, ![a, b]⟩ v hB)) (broadcast ⟨2, ![a, b]⟩ c) x (ix2 p q)
      = TopPick.rest (fun q => x (ix2 p q)) q := by
  rw [select_apply]
  show Scalar.select (IntOp.cmpi .eq _ _) _ _ = _
  rw [select_cmpi_eq, spreadCol, hv, iota_single_apply, hc]
  have hlt := (TopPick.at' fun q => x (ix2 p q)).isLt
  have hq := q.isLt
  show (if BitVec.ofNat 32 q.val = _ then _ else _) = _
  unfold TopPick.rest
  by_cases h : q = TopPick.at' fun q => x (ix2 p q)
  · rw [if_pos h, if_pos (by rw [h])]; rfl
  · rw [if_neg h, if_neg]
    intro e
    exact h (Fin.ext ((ofNat_inj (by omega) (by omega)).1 e))

/-- Columns set side by side read, at `(p, k)`, column `k` at `p`. -/
theorem joinCols {N : ℕ} (f : Fin N → ((⟨2, ![a, 1]⟩ : Shape).Idx → α)) (xs : List ((s : Shape) × (s.Idx → α)))
    (hxs : xs = List.ofFn fun n : Fin N => (⟨⟨2, ![a, 1]⟩, f n⟩ : (s : Shape) × (s.Idx → α)))
    (h : Shape.Concatenates (xs.map (·.1)) ⟨2, ![a, N]⟩ 1) (p : Fin a) (k : Fin N) :
    concatenate ⟨2, ![a, N]⟩ 1 xs h (ix2 p k) = f k (ix2 p 0) := by
  subst hxs
  exact concatenate_ofFn_unit_apply (t := ⟨2, ![a, N]⟩) (s₁ := ⟨2, ![a, 1]⟩) (1 : Fin 2) f h rfl rfl (ix2 p k) k rfl (ix2 p 0) (fun c hc => by
    match c with
    | ⟨0, _⟩ => rfl
    | ⟨1, _⟩ => exact absurd rfl hc)

/-- A product contracted on the first axes, `[K,M]ᵀ × [K,N]`, read at `(r, c)`. -/
theorem matmulTN {M K N : ℕ} (D : DotDims ⟨2, ![K, M]⟩ ⟨2, ![K, N]⟩ ⟨2, ![M, N]⟩) (hr : D.contr.rank = 1)
    (hs : D.contr.size ⟨0, by omega⟩ = K)
    (hl : ∀ (r : Fin M) (c : Fin N) k, D.lhsIdx (ix2 r c) ((contrEquiv1 D K hr hs).symm k) = ix2 k r)
    (hR : ∀ (r : Fin M) (c : Fin N) k, D.rhsIdx (ix2 r c) ((contrEquiv1 D K hr hs).symm k) = ix2 k c)
    (prec : Option ContractPrecision) (lhs : FVec Ideal ⟨2, ![K, M]⟩ .f32) (rhs : FVec Ideal ⟨2, ![K, N]⟩ .f32)
    (acc : FVec Ideal ⟨2, ![M, N]⟩ .f32) (r : Fin M) (c : Fin N) :
    FloatOps.matmul D prec lhs rhs acc (ix2 r c) = acc (ix2 r c) + ∑ k : Fin K, lhs (ix2 k r) * rhs (ix2 k c) := by
  rw [Ideal.matmul_apply, ← Equiv.sum_comp (contrEquiv1 D K hr hs).symm]
  exact congrArg (acc (ix2 r c) + ·) (Finset.sum_congr rfl fun k _ => by rw [hl, hR])

end Cert.Reads
-- ==== Proof.Mlp.lean ====
/-
  The encoder of one node: three dense layers, the first two followed by the tanh form of the Gaussian unit. One block
  of the kernel and the reference compute the same numbers, the cube multiplied up in a different order.
-/
module

public import proofs.«01_k».proof.Proof.Reads
public import proofs.«01_k».proof.Proof.Gen.KernelIdeal.Skeleton
public import proofs.«01_k».proof.Proof.Gen.ReferenceIdeal.Read

@[expose] public section

noncomputable section

open Idealize.ShloMosaic
open Idealize.ShloMosaic.ValueIdx

namespace Cert.Mlp

/-- The tanh form of the Gaussian unit. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- One output of a dense layer. -/
def dense {K M : ℕ} (x : Fin K → EReal) (W : Fin K → Fin M → EReal) (b : Fin M → EReal) (q : Fin M) : EReal :=
  (∑ k, x k * W k q) + b q

/-- The encoding of one node. -/
def encode (x : Fin 128 → EReal) (W1 : Fin 128 → Fin 256 → EReal) (b1 : Fin 256 → EReal) (W2 : Fin 256 → Fin 256 → EReal)
    (b2 : Fin 256 → EReal) (W3 : Fin 256 → Fin 16 → EReal) (b3 : Fin 16 → EReal) (q : Fin 16) : EReal :=
  dense (fun k => gelu (dense (fun l => gelu (dense x W1 b1 l)) W2 b2 k)) W3 b3 q

section Kernel
open Cert.KernelIdeal Cert.KernelIdeal.Gen

/-- The Gaussian unit on a block, as the kernel writes it. -/
def unitBlock (x : FVec Ideal S1000x256 .f32) : FVec Ideal S1000x256 .f32 :=
  mulf x (mulf (broadcast S1000x256 (Scalar.ofBits .f32 0x3F000000#32)) (addf (broadcast S1000x256 (Scalar.ofBits .f32 0x3F800000#32))
    (tanh (mulf (broadcast S1000x256 (Scalar.ofBits .f32 0x3F4C422A#32)) (addf x
      (mulf (broadcast S1000x256 (Scalar.ofBits .f32 0x3D372713#32)) (mulf x (mulf x x))))))))

/-- A dense layer on a block reads, at `(p, q)`, the dense layer of row `p`. -/
theorem denseBlock {K M : ℕ} (x : FVec Ideal ⟨2, ![1000, K]⟩ .f32) (W : FVec Ideal ⟨2, ![K, M]⟩ .f32) (b : FVec Ideal ⟨2, ![1, M]⟩ .f32)
    (hc : (⟨2, ![1, M]⟩ : Shape).ShapeCasts ⟨2, ![1, M]⟩) (hB : (⟨2, ![1, M]⟩ : Shape).Broadcasts ⟨2, ![1000, M]⟩) (p : Fin 1000) (q : Fin M) :
    addf (F := Ideal) (matmul (DotDims.plain 1000 K M) none x W (constant ⟨2, ![1000, M]⟩ .f32 0x00000000#32))
        (broadcastTo ⟨2, ![1000, M]⟩ (shapeCast ⟨2, ![1, M]⟩ b hc) hB) (ix2 p q)
      = dense (fun k => x (ix2 p k)) (fun k l => W (ix2 k l)) (fun l => b (ix2 0 l)) q := by
  simp only [matmul]
  rw [addf_apply, Reads.spreadRow, Reads.castSelf, Ideal.matmul_plain_apply]
  show Ideal.ofBits .f32 0x00000000#32 + _ + _ = _
  rw [Ideal.ofBits_zero_f32, zero_add]
  rfl

/-- The hidden block before the last layer. -/
theorem hidden (v0 : Vec Ideal S1000x128 .f32) (v1 : Vec Ideal S128x256 .f32) (v3 : Vec Ideal S1x256 .f32)
    (v20 : Vec Ideal S256x256 .f32) (v22 : Vec Ideal S1x256 .f32) (p : Fin 1000) (q : Fin 256) :
    k0_pay2 (F := Ideal) v0 v1 v3 v20 v22 (ix2 p q)
      = gelu (dense (fun l => gelu (dense (fun k => v0 (ix2 p k)) (fun k l => v1 (ix2 k l)) (fun l => v3 (ix2 0 l)) l))
          (fun k l => v20 (ix2 k l)) (fun l => v22 (ix2 0 l)) q) := by
  have e : k0_pay2 (F := Ideal) v0 v1 v3 v20 v22 = unitBlock (addf (F := Ideal) (matmul (DotDims.plain 1000 256 256) none
      (unitBlock (addf (F := Ideal) (matmul (DotDims.plain 1000 128 256) none v0 v1 (constant S1000x256 .f32 0x00000000#32))
        (broadcastTo S1000x256 (shapeCast S1x256 v3 shapeCasts_S1x256_S1x256) broadcasts_S1x256_S1000x256)))
      v20 (constant S1000x256 .f32 0x00000000#32))
        (broadcastTo S1000x256 (shapeCast S1x256 v22 shapeCasts_S1x256_S1x256) broadcasts_S1x256_S1000x256)) := rfl
  have u : ∀ (x : FVec Ideal S1000x256 .f32) (l : Fin 256), unitBlock x (ix2 p l) = gelu (x (ix2 p l)) := fun _ _ => rfl
  rw [e, u, denseBlock]
  simp only [u, denseBlock]

/-- One block of encodings. -/
theorem block (v0 : Vec Ideal S1000x128 .f32) (v1 : Vec Ideal S128x256 .f32) (v3 : Vec Ideal S1x256 .f32)
    (v20 : Vec Ideal S256x256 .f32) (v22 : Vec Ideal S1x256 .f32) (v39 : Vec Ideal S256x16 .f32) (v41 : Vec Ideal S1x16 .f32)
    (p : Fin 1000) (q : Fin 16) :
    k0_pay1 (F := Ideal) (k0_pay2 v0 v1 v3 v20 v22) v39 v41 (ix2 p q)
      = encode (fun k => v0 (ix2 p k)) (fun k l => v1 (ix2 k l)) (fun l => v3 (ix2 0 l)) (fun k l => v20 (ix2 k l))
          (fun l => v22 (ix2 0 l)) (fun k l => v39 (ix2 k l)) (fun l => v41 (ix2 0 l)) q := by
  have e : ∀ x : FVec Ideal S1000x256 .f32, k0_pay1 (F := Ideal) x v39 v41 (ix2 p q)
      = dense (fun k => x (ix2 p k)) (fun k l => v39 (ix2 k l)) (fun l => v41 (ix2 0 l)) q := fun x => denseBlock x v39 v41 _ _ p q
  rw [e]
  simp only [hidden]
  rfl
end Kernel

section Reference
open Cert.ReferenceIdeal Cert.ReferenceIdeal.Read

variable (x0 : Vec Ideal S10000x128 .f32) (x3 : Vec Ideal S128x256 .f32) (x4 : Vec Ideal S256 .f32)
    (x5 : Vec Ideal S256x256 .f32) (x6 : Vec Ideal S256 .f32) (x7 : Vec Ideal S256x16 .f32) (x8 : Vec Ideal S16 .f32)

/-- The reference's first dense layer. -/
theorem ref1 (p : Fin 10000) (q : Fin 256) : val_main_v3 (F := Ideal) x0 x3 x4 (ix2 p q)
    = dense (fun k => x0 (ix2 p k)) (fun k l => x3 (ix2 k l)) (fun l => x4 (ix1 l)) q := by
  rw [val_main_v3_apply, val_main_v0_apply, val_main_v2_apply, val_main_v1_apply]
  show (∑ k, _) + _ = _
  refine congrArg₂ (· + ·) (Finset.sum_congr rfl fun k _ => ?_) ?_
  · rw [Reads.ix2_of (j := lidx_main_v0 (ix2 p q) k) (p := p) (q := k) rfl rfl,
      Reads.ix2_of (j := ridx_main_v0 (ix2 p q) k) (p := k) (q := q) rfl rfl]
  · rw [Reads.ix1_of (j := idx_main_v1 (idx_main_v2 (ix2 p q))) (p := q) rfl]

/-- The product the reference writes is the Gaussian unit. -/
theorem gelu_cube (x : EReal) : x * (Ideal.ofBits .f32 0x3F000000#32 * (Ideal.ofBits .f32 0x3F800000#32
    + Ideal.tanh (Ideal.ofBits .f32 0x3F4C422A#32 * (x + Ideal.ofBits .f32 0x3D372713#32 * (x * x * x))))) = gelu x := by
  unfold gelu
  rw [mul_assoc x x x]

/-- The reference's first hidden layer. -/
theorem refHidden1 (i : S10000x256.Idx) : val_main_v16 (F := Ideal) x0 x3 x4 i = gelu (val_main_v3 (F := Ideal) x0 x3 x4 i) := by
  rw [val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply]
  exact gelu_cube _

/-- The reference's second dense layer. -/
theorem ref2 (p : Fin 10000) (q : Fin 256) : val_main_v20 (F := Ideal) x0 x3 x4 x5 x6 (ix2 p q)
    = dense (fun k => gelu (val_main_v3 (F := Ideal) x0 x3 x4 (ix2 p k))) (fun k l => x5 (ix2 k l)) (fun l => x6 (ix1 l)) q := by
  rw [val_main_v20_apply, val_main_v17_apply, val_main_v19_apply, val_main_v18_apply]
  show (∑ k, _) + _ = _
  refine congrArg₂ (· + ·) (Finset.sum_congr rfl fun k _ => ?_) ?_
  · rw [Reads.ix2_of (j := lidx_main_v17 (ix2 p q) k) (p := p) (q := k) rfl rfl,
      Reads.ix2_of (j := ridx_main_v17 (ix2 p q) k) (p := k) (q := q) rfl rfl, refHidden1]
  · rw [Reads.ix1_of (j := idx_main_v18 (idx_main_v19 (ix2 p q))) (p := q) rfl]

/-- The reference's second hidden layer. -/
theorem refHidden2 (i : S10000x256.Idx) :
    val_main_v33 (F := Ideal) x0 x3 x4 x5 x6 i = gelu (val_main_v20 (F := Ideal) x0 x3 x4 x5 x6 i) := by
  rw [val_main_v33_apply, val_main_v32_apply, val_main_v31_apply, val_main_v30_apply, val_main_v29_apply, val_main_v28_apply,
    val_main_v27_apply, val_main_v26_apply, val_main_v25_apply, val_main_v24_apply, val_main_v23_apply, val_main_v22_apply, val_main_v21_apply]
  exact gelu_cube _

/-- The reference's encodings. -/
theorem ref (p : Fin 10000) (q : Fin 16) : val_main_v37 (F := Ideal) x0 x3 x4 x5 x6 x7 x8 (ix2 p q)
    = encode (fun k => x0 (ix2 p k)) (fun k l => x3 (ix2 k l)) (fun l => x4 (ix1 l)) (fun k l => x5 (ix2 k l))
        (fun l => x6 (ix1 l)) (fun k l => x7 (ix2 k l)) (fun l => x8 (ix1 l)) q := by
  rw [val_main_v37_apply, val_main_v34_apply, val_main_v36_apply, val_main_v35_apply]
  show (∑ k, _) + _ = _
  refine congrArg₂ (· + ·) (Finset.sum_congr rfl fun k _ => ?_) ?_
  · rw [Reads.ix2_of (j := lidx_main_v34 (ix2 p q) k) (p := p) (q := k) rfl rfl,
      Reads.ix2_of (j := ridx_main_v34 (ix2 p q) k) (p := k) (q := q) rfl rfl, refHidden2, ref2]
    simp only [ref1]
  · rw [Reads.ix1_of (j := idx_main_v35 (idx_main_v36 (ix2 p q))) (p := q) rfl]

end Reference

end Cert.Mlp
-- ==== Proof.Pool.lean ====
/-
  The cluster sums: what one block of the pooling kernel adds. A one-hot product picks a row, and a one-hot product on
  the left adds the rows that belong to a cluster.
-/
module

public import proofs.«01_k».proof.Proof.Mlp
public import Idealize.ShloMosaic.Lib.IdealHost

@[expose] public section

noncomputable section

open Idealize.ShloMosaic
open Idealize.ShloMosaic.ValueIdx

namespace Cert.Pool

/-- The row a word names among the first thousand. -/
def src (w : BitVec 32) : Fin 1000 := ⟨w.toNat % 1000, Nat.mod_lt _ (by decide)⟩

/-- The sum of the entries whose word is `p`. -/
def pooled {n : ℕ} (g : Fin n → EReal) (w : Fin n → BitVec 32) (p : ℕ) : EReal :=
  ∑ i, if w i = BitVec.ofNat 32 p then g i else 0

section Kernel
open Cert.KernelIdeal Cert.KernelIdeal.Gen

/-- The test of a word against a position, as a number. -/
theorem hot (x y : BitVec 32) : (FloatOps.sitofp .f32 ((IntOp.cmpi .eq x y).setWidth 32) : Ideal .f32) = if x = y then (1 : EReal) else 0 := by
  show (((((IntOp.cmpi .eq x y).setWidth 32).toInt : ℝ)) : EReal) = _
  by_cases h : x = y
  · simp [IntOp.cmpi, h]
  · have e : (x == y) = false := by simpa using h
    simp [IntOp.cmpi, h, e]

/-- The one-hot matrix of a column of words. -/
theorem oneHot (v : Vec Ideal S1000x1 .i32) (r p : Fin 1000) :
    k1_pay3 (F := Ideal) v (ix2 r p) = if v (ix2 r 0) = BitVec.ofNat 32 p.val then (1 : EReal) else 0 := by
  unfold k1_pay3
  show FloatOps.sitofp .f32 ((IntOp.cmpi .eq (broadcastTo S1000x1000 _ _ (ix2 r p)) (iota .tc S1000x1000 32 [1] _ (ix2 r p))).setWidth 32) = _
  rw [hot, Reads.spreadCol, Reads.castSelf, iota_single_apply]

/-- The kernel's product contracted on the first axes. -/
theorem leftProduct {N : ℕ} (prec : Option ContractPrecision) (D : DotDims ⟨2, ![1000, 1000]⟩ ⟨2, ![1000, N]⟩ ⟨2, ![1000, N]⟩)
    (hr : D.contr.rank = 1) (hs : D.contr.size ⟨0, by omega⟩ = 1000)
    (hl : ∀ (r : Fin 1000) (c : Fin N) k, D.lhsIdx (ix2 r c) ((contrEquiv1 D 1000 hr hs).symm k) = ix2 k r)
    (hR : ∀ (r : Fin 1000) (c : Fin N) k, D.rhsIdx (ix2 r c) ((contrEquiv1 D 1000 hr hs).symm k) = ix2 k c)
    (v : Vec Ideal S1000x1 .i32) (x : FVec Ideal ⟨2, ![1000, N]⟩ .f32) (p : Fin 1000) (q : Fin N) :
    matmul D prec (k1_pay3 (F := Ideal) v) x (constant ⟨2, ![1000, N]⟩ .f32 0x00000000#32) (ix2 p q)
      = pooled (fun r => x (ix2 r q)) (fun r => v (ix2 r 0)) p.val := by
  simp only [matmul]
  rw [Reads.matmulTN D hr hs hl hR]
  show Ideal.ofBits .f32 0x00000000#32 + _ = _
  rw [Ideal.ofBits_zero_f32, zero_add]
  refine Finset.sum_congr rfl fun r _ => ?_
  rw [oneHot, ite_mul, one_mul, zero_mul]

/-- What one block adds to the sums. -/
theorem sums (v3 : Vec Ideal S1000x16 .f32) (v5 v7 : Vec Ideal S1000x1 .i32) (v19 : Vec Ideal S1000x16 .f32)
    (h : ∀ r : Fin 1000, (v5 (ix2 r 0)).toNat < 1000) (p : Fin 1000) (q : Fin 16) :
    k1_pay4 (F := Ideal) v3 v5 v7 v19 (ix2 p q)
      = v19 (ix2 p q) + pooled (fun r => v3 (ix2 (src (v5 (ix2 r 0))) q)) (fun r => v7 (ix2 r 0)) p.val := by
  have e : k1_pay4 (F := Ideal) v3 v5 v7 v19 = addf (shapeCast S1000x16 v19 shapeCasts_S1000x16_S1000x16)
      (matmul dot_S1000x1000_S1000x16_S1000x16_0_0_1_1_n_n (some .fp32) (k1_pay3 v7)
        (matmul (DotDims.plain 1000 1000 16) (some .fp32) (k1_pay3 v5) (shapeCast S1000x16 v3 shapeCasts_S1000x16_S1000x16)
          (constant S1000x16 .f32 0x00000000#32)) (constant S1000x16 .f32 0x00000000#32)) := rfl
  rw [e, addf_apply, Reads.castSelf, leftProduct _ dot_S1000x1000_S1000x16_S1000x16_0_0_1_1_n_n rfl rfl]
  · refine congrArg (v19 (ix2 p q) + ·) (congrArg (fun g => pooled g _ _) (funext fun r => ?_))
    simp only [matmul]
    rw [Ideal.matmul_plain_apply]
    show Ideal.ofBits .f32 0x00000000#32 + _ = _
    rw [Ideal.ofBits_zero_f32, zero_add]
    rw [Finset.sum_eq_single (src (v5 (ix2 r 0)))]
    · rw [oneHot, if_pos, one_mul, Reads.castSelf]
      apply BitVec.eq_of_toNat_eq
      show _ = (BitVec.ofNat 32 ((v5 (ix2 r 0)).toNat % 1000)).toNat
      rw [Nat.mod_eq_of_lt (h r), BitVec.toNat_ofNat]
      exact (Nat.mod_eq_of_lt (v5 (ix2 r 0)).isLt).symm
    · intro s _ hs
      rw [oneHot, if_neg, zero_mul]
      intro e
      apply hs
      apply Fin.ext
      show s.val = (v5 (ix2 r 0)).toNat % 1000
      have := s.isLt
      rw [e, BitVec.toNat_ofNat]
      omega
    · exact fun h => absurd (Finset.mem_univ _) h
  · intro r c k
    exact Reads.ix2_of (contrEquiv1_symm_val dot_S1000x1000_S1000x16_S1000x16_0_0_1_1_n_n 1000 rfl rfl k) rfl
  · intro r c k
    exact Reads.ix2_of (contrEquiv1_symm_val dot_S1000x1000_S1000x16_S1000x16_0_0_1_1_n_n 1000 rfl rfl k) rfl

/-- What one block adds to the counts. -/
theorem counts (v7 : Vec Ideal S1000x1 .i32) (v25 : Vec Ideal S1000x1 .f32) (p : Fin 1000) :
    k1_pay5 (F := Ideal) v7 v25 (ix2 p 0) = v25 (ix2 p 0) + pooled (fun _ => 1) (fun r => v7 (ix2 r 0)) p.val := by
  have e : k1_pay5 (F := Ideal) v7 v25 = addf (shapeCast S1000x1 v25 shapeCasts_S1000x1_S1000x1)
      (matmul dot_S1000x1000_S1000x1_S1000x1_0_0_1_1_n_n (some .fp32) (k1_pay3 v7)
        (broadcast S1000x1 (Scalar.ofBits .f32 0x3F800000#32)) (constant S1000x1 .f32 0x00000000#32)) := rfl
  rw [e, addf_apply, Reads.castSelf, leftProduct _ dot_S1000x1000_S1000x1_S1000x1_0_0_1_1_n_n rfl rfl]
  · refine congrArg (v25 (ix2 p 0) + ·) (congrArg (fun g => pooled g _ _) (funext fun r => ?_))
    exact Ideal.ofBits_one_f32
  · intro r c k
    exact Reads.ix2_of (contrEquiv1_symm_val dot_S1000x1000_S1000x1_S1000x1_0_0_1_1_n_n 1000 rfl rfl k) rfl
  · intro r c k
    exact Reads.ix2_of (contrEquiv1_symm_val dot_S1000x1000_S1000x1_S1000x1_0_0_1_1_n_n 1000 rfl rfl k) rfl

end Kernel

end Cert.Pool
-- ==== Proof.Rounds.lean ====
/-
  The repeated row maximum: what one round of the kernel's search reads and leaves, and the expanded squared distance the
  rounds search.
-/
module

public import proofs.«01_k».proof.Proof.Pool

@[expose] public section

noncomputable section

open Idealize.ShloMosaic
open Idealize.ShloMosaic.ValueIdx

namespace Cert.Rounds

/-- The literal two, as the programs spell it. -/
def two : EReal := Ideal.ofBits .f32 0x40000000#32

/-- The negated squared distance, expanded. -/
def negDist (a b : Fin 16 → EReal) : EReal := -(((∑ j, a j * a j) - two * ∑ j, a j * b j) + ∑ j, b j * b j)

/-- A sum over a count, the count taken to be at least one. -/
def mean (s c : EReal) : EReal := s * Ideal.div 1 (max 1 c)

open Cert.KernelIdeal Cert.KernelIdeal.Gen

/-- The value a chosen position is replaced by. -/
def low : Ideal .f32 := Named.named (F := Ideal) κ "mask" 0xF149F2CA#32

/-- It is `-∞`. -/
theorem low_eq : low = (⊥ : EReal) := IdealRules.named_const.ideal_named_scalar _ _ _ _ rfl

/-- Each column's number, along the rows. -/
def lanes : IVec S1000x1000 32 := iota .tc S1000x1000 32 [1] iota_S1000x1000_d1_w32

/-- Each row's greatest entry. -/
def best (x : FVec Ideal S1000x1000 .f32) : FVec Ideal S1000x1 .f32 :=
  shapeCast S1000x1 (multiReduction .maximumf [1] S1000 x 0xFF800000#32 reduces_S1000x1000_S1000 (.inl rfl) rfl) shapeCasts_S1000_S1000x1

/-- Where each row first holds it. -/
def place (x : FVec Ideal S1000x1000 .f32) : IVec S1000x1 32 :=
  shapeCast S1000x1 (multiReductionI .minsi [1] S1000
    (select (cmpf .oeq x (broadcastTo S1000x1000 (best x) broadcasts_S1000x1_S1000x1000)) lanes (broadcast S1000x1000 1073741824#32))
    2147483647#32 reduces_S1000x1000_S1000 rfl) shapeCasts_S1000_S1000x1

/-- The matrix with that entry of each row replaced. -/
def next (x : FVec Ideal S1000x1000 .f32) : FVec Ideal S1000x1000 .f32 :=
  select (cmpi .eq lanes (broadcastTo S1000x1000 (place x) broadcasts_S1000x1_S1000x1000)) (broadcast S1000x1000 low) x

/-- The matrix after `k` rounds. -/
def step (x : FVec Ideal S1000x1000 .f32) : ℕ → FVec Ideal S1000x1000 .f32
  | 0 => x
  | k + 1 => next (step x k)

/-- A round's maximum of a row. -/
theorem best_apply (x : FVec Ideal S1000x1000 .f32) (p : Fin 1000) : best x (ix2 p 0) = TopPick.top fun q : Fin 1000 => x (ix2 p q) := by
  unfold best
  rw [shapeCast_a_a1_apply]
  exact Reads.maxRow x _ _ _ p

/-- A round's position in a row. -/
theorem place_apply (x : FVec Ideal S1000x1000 .f32) (p : Fin 1000) :
    place x (ix2 p 0) = BitVec.ofNat 32 (TopPick.at' fun q : Fin 1000 => x (ix2 p q)).val := by
  unfold place
  rw [shapeCast_a_a1_apply]
  exact Reads.firstTop (by decide) x (best x) _ _ _ _ p (best_apply x p)

/-- A row after a round. -/
theorem next_apply (x : FVec Ideal S1000x1000 .f32) (p q : Fin 1000) : next x (ix2 p q) = TopPick.rest (fun q : Fin 1000 => x (ix2 p q)) q :=
  Reads.maskTop (by decide) x (place x) _ _ low low_eq p (place_apply x p) q

/-- The rows after `k` rounds. -/
theorem step_read (x : FVec Ideal S1000x1000 .f32) (f : Fin 1000 → Fin 1000 → EReal) (h : ∀ p q, x (ix2 p q) = f p q) (k : ℕ)
    (p q : Fin 1000) : step x k (ix2 p q) = TopPick.after (f p) k q := by
  induction k generalizing q with
  | zero => exact h p q
  | succ k ih =>
    show next (step x k) (ix2 p q) = TopPick.rest (TopPick.after (f p) k) q
    rw [next_apply]
    exact congrArg (fun g => TopPick.rest g q) (funext ih)

/-- The `k`-th round's maximum. -/
theorem best_read (x : FVec Ideal S1000x1000 .f32) (f : Fin 1000 → Fin 1000 → EReal) (h : ∀ p q, x (ix2 p q) = f p q) (k : ℕ)
    (p : Fin 1000) : best (step x k) (ix2 p 0) = TopPick.val (f p) k := by
  rw [best_apply]
  exact congrArg TopPick.top (funext (step_read x f h k p))

/-- The `k`-th round's position. -/
theorem place_read (x : FVec Ideal S1000x1000 .f32) (f : Fin 1000 → Fin 1000 → EReal) (h : ∀ p q, x (ix2 p q) = f p q) (k : ℕ)
    (p : Fin 1000) : place (step x k) (ix2 p 0) = BitVec.ofNat 32 (TopPick.pos (f p) k).val := by
  rw [place_apply]
  exact congrArg (fun g => BitVec.ofNat 32 (TopPick.at' g).val) (funext (step_read x f h k p))

/-- The matrix of expanded distances between the rows of two matrices. -/
def dist (a b : FVec Ideal S1000x16 .f32) : FVec Ideal S1000x1000 .f32 :=
  subf (broadcast S1000x1000 (Scalar.ofBits .f32 0x00000000#32))
    (addf (subf (broadcastTo S1000x1000 (shapeCast S1000x1 (multiReduction .add [1] S1000 (mulf a a) 0x00000000#32
        reduces_S1000x16_S1000 (.inl rfl) rfl) shapeCasts_S1000_S1000x1) broadcasts_S1000x1_S1000x1000)
        (mulf (broadcast S1000x1000 (Scalar.ofBits .f32 0x40000000#32))
          (matmul (DotDims.transposedRhs 1000 16 1000) none a b (constant S1000x1000 .f32 0x00000000#32))))
      (broadcastTo S1000x1000 (matmul (DotDims.transposedRhs 1 16 1000) (some .fp32)
        (broadcast S1x16 (Scalar.ofBits .f32 0x3F800000#32)) (mulf b b) (constant S1x1000 .f32 0x00000000#32)) broadcasts_S1x1000_S1000x1000))

/-- Its entries. -/
theorem dist_read (a b : FVec Ideal S1000x16 .f32) (p q : Fin 1000) :
    dist a b (ix2 p q) = negDist (fun j => a (ix2 p j)) (fun j => b (ix2 q j)) := by
  unfold dist
  rw [subf_apply, addf_apply, subf_apply, mulf_apply, Reads.spreadCol, shapeCast_a_a1_apply,
    show multiReduction .add [1] S1000 (mulf a a) 0x00000000#32 reduces_S1000x16_S1000 (.inl rfl) rfl (ix1 p) = _ from
      Reads.sumRow (mulf a a) _ _ _ p, Reads.spreadRow]
  simp only [matmul]
  rw [Ideal.matmul_transposedRhs_apply, Ideal.matmul_transposedRhs_apply]
  show Ideal.ofBits .f32 0x00000000#32 - (((∑ j : Fin 16, a (ix2 p j) * a (ix2 p j)) - two * (Ideal.ofBits .f32 0x00000000#32 + ∑ j : Fin 16, a (ix2 p j) * b (ix2 q j)))
    + (Ideal.ofBits .f32 0x00000000#32 + ∑ j : Fin 16, Ideal.ofBits .f32 0x3F800000#32 * (b (ix2 q j) * b (ix2 q j)))) = _
  rw [Ideal.ofBits_zero_f32, Ideal.ofBits_one_f32, zero_add, zero_add]
  simp only [one_mul]
  show (0 : EReal) - _ = -_
  rw [sub_eq_add_neg, zero_add]

/-- The means of the clusters. -/
theorem mean_read (c : Vec Ideal S1000x1 .f32) (s : Vec Ideal S1000x16 .f32) (p : Fin 1000) (q : Fin 16) :
    k3_pay2 (F := Ideal) c s (ix2 p q) = mean (s (ix2 p q)) (c (ix2 p 0)) := by
  have e : k3_pay2 (F := Ideal) c s = mulf (shapeCast S1000x16 s shapeCasts_S1000x16_S1000x16)
      (broadcastTo S1000x16 (divf (broadcast S1000x1 (Scalar.ofBits .f32 0x3F800000#32))
        (maximumf (broadcast S1000x1 (Scalar.ofBits .f32 0x3F800000#32)) (shapeCast S1000x1 c shapeCasts_S1000x1_S1000x1)))
        broadcasts_S1000x1_S1000x16) := rfl
  rw [e, mulf_apply, Reads.castSelf, Reads.spreadCol, divf_apply, maximumf_apply, Reads.castSelf]
  show s (ix2 p q) * Ideal.div (Ideal.ofBits .f32 0x3F800000#32) (max (Ideal.ofBits .f32 0x3F800000#32) (c (ix2 p 0))) = _
  rw [Ideal.ofBits_one_f32]
  rfl

/-- The block kernel's distances. -/
theorem bip_dist (v0 : Vec Ideal S1000x16 .f32) (v2 : Vec Ideal S1000x1 .f32) (v4 : Vec Ideal S1000x16 .f32) (p q : Fin 1000) :
    k2_pay3 (F := Ideal) v0 v2 v4 (ix2 p q)
      = negDist (fun j => v0 (ix2 p j)) (fun j => mean (v4 (ix2 q j)) (v2 (ix2 q 0))) := by
  have e : k2_pay3 (F := Ideal) v0 v2 v4 = dist (shapeCast S1000x16 v0 shapeCasts_S1000x16_S1000x16) (k3_pay2 v2 v4) := rfl
  rw [e, dist_read]
  simp only [Reads.castSelf, mean_read]

/-- The square kernel's distances. -/
theorem snn_dist (v0 : Vec Ideal S1000x1 .f32) (v2 : Vec Ideal S1000x16 .f32) (p q : Fin 1000) :
    k3_pay3 (F := Ideal) v0 v2 (ix2 p q)
      = negDist (fun j => mean (v2 (ix2 p j)) (v0 (ix2 p 0))) (fun j => mean (v2 (ix2 q j)) (v0 (ix2 q 0))) := by
  have e : k3_pay3 (F := Ideal) v0 v2 = dist (k3_pay2 v0 v2) (k3_pay2 v0 v2) := rfl
  rw [e, dist_read]
  simp only [mean_read]

end Cert.Rounds
-- ==== Proof.Bip.lean ====
/-
  One block of the kernel that joins rows to clusters: the five places and values its rounds find, the scores and the
  weights it makes of them.
-/
module

public import proofs.«01_k».proof.Proof.Rounds

@[expose] public section

noncomputable section

open Idealize.ShloMosaic
open Idealize.ShloMosaic.ValueIdx

namespace Cert.Bip

open Cert.Rounds
open Cert.KernelIdeal Cert.KernelIdeal.Gen

/-- The small literal the denominators start from. -/
def eps : EReal := Ideal.ofBits .f32 0x2B8CBCCC#32

/-- The places found, at column `k`. -/
theorem places (v0 : Vec Ideal S1000x16 .f32) (v2 : Vec Ideal S1000x1 .f32) (v4 : Vec Ideal S1000x16 .f32) (p : Fin 1000) (k : Fin 5) :
    k2_pay18 (F := Ideal) lanes (k2_pay5 v0 v2 v4) (k2_pay6 v0 v2 v4) (ix2 p k) = place (step (k2_pay3 v0 v2 v4) k.val) (ix2 p 0) := by
  have e : k2_pay18 (F := Ideal) lanes (k2_pay5 v0 v2 v4) (k2_pay6 v0 v2 v4)
      = concatenate S1000x5 1 [⟨S1000x1, place (step (k2_pay3 v0 v2 v4) 0)⟩, ⟨S1000x1, place (step (k2_pay3 v0 v2 v4) 1)⟩,
        ⟨S1000x1, place (step (k2_pay3 v0 v2 v4) 2)⟩, ⟨S1000x1, place (step (k2_pay3 v0 v2 v4) 3)⟩,
        ⟨S1000x1, place (step (k2_pay3 v0 v2 v4) 4)⟩] concatenates_S1000x1_S1000x1_S1000x1_S1000x1_S1000x1_S1000x5_d1 := rfl
  rw [e]
  exact Reads.joinCols (fun k : Fin 5 => place (step (k2_pay3 v0 v2 v4) k.val)) _ rfl _ p k

/-- The values found, at column `k`. -/
theorem values (v0 : Vec Ideal S1000x16 .f32) (v2 : Vec Ideal S1000x1 .f32) (v4 : Vec Ideal S1000x16 .f32) (p : Fin 1000) (k : Fin 5) :
    k2_pay17 (F := Ideal) lanes (k2_pay4 v0 v2 v4) (k2_pay6 v0 v2 v4) (ix2 p k) = best (step (k2_pay3 v0 v2 v4) k.val) (ix2 p 0) := by
  have e : k2_pay17 (F := Ideal) lanes (k2_pay4 v0 v2 v4) (k2_pay6 v0 v2 v4)
      = concatenate S1000x5 1 [⟨S1000x1, best (step (k2_pay3 v0 v2 v4) 0)⟩, ⟨S1000x1, best (step (k2_pay3 v0 v2 v4) 1)⟩,
        ⟨S1000x1, best (step (k2_pay3 v0 v2 v4) 2)⟩, ⟨S1000x1, best (step (k2_pay3 v0 v2 v4) 3)⟩,
        ⟨S1000x1, best (step (k2_pay3 v0 v2 v4) 4)⟩] concatenates_S1000x1_S1000x1_S1000x1_S1000x1_S1000x1_S1000x5_d1 := rfl
  rw [e]
  exact Reads.joinCols (fun k : Fin 5 => best (step (k2_pay3 v0 v2 v4) k.val)) _ rfl _ p k

/-- The scores: the values scaled and shifted. -/
theorem scores (x : FVec Ideal S1000x5 .f32) (g b : Vec Ideal S1x1 .f32) (p : Fin 1000) (k : Fin 5) :
    k2_pay1 (F := Ideal) x g b (ix2 p k) = g (ix2 0 0) * x (ix2 p k) + b (ix2 0 0) := by
  have e : k2_pay1 (F := Ideal) x g b = addf (mulf (broadcast S1000x5 (extractAt ![0, 0] g inpos_S1x1_p0_0)) x)
      (broadcast S1000x5 (extractAt ![0, 0] b inpos_S1x1_p0_0)) := rfl
  have z (v : Vec Ideal S1x1 .f32) : extractAt ![0, 0] v inpos_S1x1_p0_0 = v (ix2 0 0) := congrArg v (Reads.ix2_of rfl rfl)
  rw [e, addf_apply, mulf_apply, z, z]
  rfl

/-- The weight of one of five scores. -/
def weight (s : Fin 5 → EReal) (k : Fin 5) : EReal := Ideal.div (Ideal.exp (s k)) (eps + ∑ l, Ideal.exp (s l))

/-- The weights of the scores. -/
theorem weights (x : FVec Ideal S1000x5 .f32) (g b : Vec Ideal S1x1 .f32) (p : Fin 1000) (k : Fin 5) :
    k2_pay2 (F := Ideal) x g b (ix2 p k) = weight (fun l => k2_pay1 (F := Ideal) x g b (ix2 p l)) k := by
  have e : k2_pay2 (F := Ideal) x g b = divf (exp (k2_pay1 x g b)) (broadcastTo S1000x5
      (addf (broadcast S1000x1 (Scalar.ofBits .f32 0x2B8CBCCC#32)) (shapeCast S1000x1 (multiReduction .add [1] S1000 (exp (k2_pay1 x g b))
        0x00000000#32 reduces_S1000x5_S1000 (.inl rfl) rfl) shapeCasts_S1000_S1000x1)) broadcasts_S1000x1_S1000x5) := rfl
  rw [e, divf_apply, Reads.spreadCol, addf_apply, shapeCast_a_a1_apply,
    show multiReduction .add [1] S1000 (exp (k2_pay1 (F := Ideal) x g b)) 0x00000000#32 reduces_S1000x5_S1000 (.inl rfl) rfl (ix1 p) = _ from
      Reads.sumRow (exp (k2_pay1 (F := Ideal) x g b)) _ _ _ p]
  rfl

end Cert.Bip
-- ==== Proof.Snn.lean ====
/-
  The kernel that joins clusters to clusters: the ten places and values its rounds find, the weights it makes of them, and the
  sums over both ends of an edge that divide them.
-/
module

public import proofs.«01_k».proof.Proof.Bip
public import proofs.«01_k».proof.Proof.Gen.KernelIdeal.Frame

@[expose] public section

noncomputable section

open Idealize.ShloMosaic
open Idealize.ShloMosaic.ValueIdx

namespace Cert.Snn

open Cert.Rounds
open Cert.KernelIdeal Cert.KernelIdeal.Gen

/-- Both offsets zero. -/
theorem off0 : (![0, 0] : Fin 2 → Nat) = fun _ => 0 := by
  funext a; match a with | ⟨0, _⟩ => rfl | ⟨1, _⟩ => rfl

variable (x0 : Vec Ideal S1000x16 .f32) (x1 : Vec Ideal S1000x1 .f32) (x2 x3 : Vec Ideal S1x1 .f32)

/-- The distances searched. -/
def net : FVec Ideal S1000x1000 .f32 := k3_pay3 (View.ld x1 r3_0) (View.ld x0 r3_1)

/-- What one round picks: the best score. -/
theorem e57 : k3_pay57 (F := Ideal) x0 x1 x2 x3 = best (step (net x0 x1) 0) := rfl
/-- What one round picks: the place of the best score. -/
theorem e58 : k3_pay58 (F := Ideal) x0 x1 x2 x3 = place (step (net x0 x1) 0) := rfl
/-- What one round leaves: the distances with the picks so far masked. -/
theorem e59 : k3_pay59 (F := Ideal) x0 x1 x2 x3 = step (net x0 x1) 1 := rfl
/-- What one round picks: the best score. -/
theorem e61 : k3_pay61 (F := Ideal) x0 x1 x2 x3 = best (step (net x0 x1) 1) := rfl
/-- What one round picks: the place of the best score. -/
theorem e62 : k3_pay62 (F := Ideal) x0 x1 x2 x3 = place (step (net x0 x1) 1) := rfl
/-- What one round picks: the best score. -/
theorem e63 : k3_pay63 (F := Ideal) x0 x1 x2 x3 = best (step (net x0 x1) 2) := rfl
/-- What one round picks: the place of the best score. -/
theorem e64 : k3_pay64 (F := Ideal) x0 x1 x2 x3 = place (step (net x0 x1) 2) := rfl
/-- What one round picks: the best score. -/
theorem e65 : k3_pay65 (F := Ideal) x0 x1 x2 x3 = best (step (net x0 x1) 3) := rfl
/-- What one round picks: the place of the best score. -/
theorem e66 : k3_pay66 (F := Ideal) x0 x1 x2 x3 = place (step (net x0 x1) 3) := rfl
/-- What one round leaves: the distances with the picks so far masked. -/
theorem e67 : k3_pay67 (F := Ideal) x0 x1 x2 x3 = step (net x0 x1) 4 := rfl
/-- What one round picks: the best score. -/
theorem e68 : k3_pay68 (F := Ideal) x0 x1 x2 x3 = best (step (net x0 x1) 4) := rfl
/-- What one round picks: the place of the best score. -/
theorem e69 : k3_pay69 (F := Ideal) x0 x1 x2 x3 = place (step (net x0 x1) 4) := rfl
/-- What one round picks: the best score. -/
theorem e71 : k3_pay71 (F := Ideal) x0 x1 x2 x3 = best (step (net x0 x1) 5) := rfl
/-- What one round picks: the place of the best score. -/
theorem e72 : k3_pay72 (F := Ideal) x0 x1 x2 x3 = place (step (net x0 x1) 5) := rfl
/-- What one round picks: the best score. -/
theorem e73 : k3_pay73 (F := Ideal) x0 x1 x2 x3 = best (step (net x0 x1) 6) := rfl
/-- What one round picks: the place of the best score. -/
theorem e74 : k3_pay74 (F := Ideal) x0 x1 x2 x3 = place (step (net x0 x1) 6) := rfl
/-- What one round picks: the best score. -/
theorem e75 : k3_pay75 (F := Ideal) x0 x1 x2 x3 = best (step (net x0 x1) 7) := rfl
/-- What one round picks: the place of the best score. -/
theorem e76 : k3_pay76 (F := Ideal) x0 x1 x2 x3 = place (step (net x0 x1) 7) := rfl
/-- What one round leaves: the distances with the picks so far masked. -/
theorem e77 : k3_pay77 (F := Ideal) x0 x1 x2 x3 = step (net x0 x1) 8 := rfl
/-- What one round picks: the best score. -/
theorem e78 : k3_pay78 (F := Ideal) x0 x1 x2 x3 = best (step (net x0 x1) 8) := rfl

/-- The places found, at column `k`. -/
theorem places (p : Fin 1000) (k : Fin 10) : k3_pay81 (F := Ideal) x0 x1 x2 x3 (ix2 p k) = place (step (net x0 x1) k.val) (ix2 p 0) := by
  have e : k3_pay81 (F := Ideal) x0 x1 x2 x3
      = concatenate S1000x10 1 [⟨S1000x1, place (step (net x0 x1) 0)⟩, ⟨S1000x1, place (step (net x0 x1) 1)⟩,
        ⟨S1000x1, place (step (net x0 x1) 2)⟩, ⟨S1000x1, place (step (net x0 x1) 3)⟩,
        ⟨S1000x1, place (step (net x0 x1) 4)⟩, ⟨S1000x1, place (step (net x0 x1) 5)⟩,
        ⟨S1000x1, place (step (net x0 x1) 6)⟩, ⟨S1000x1, place (step (net x0 x1) 7)⟩,
        ⟨S1000x1, place (step (net x0 x1) 8)⟩, ⟨S1000x1, place (step (net x0 x1) 9)⟩]
        concatenates_S1000x1_S1000x1_S1000x1_S1000x1_S1000x1_S1000x1_S1000x1_S1000x1_S1000x1_S1000x1_S1000x10_d1 := rfl
  rw [e]
  exact Reads.joinCols (fun k : Fin 10 => place (step (net x0 x1) k.val)) _ rfl _ p k

/-- The values found, side by side. -/
def found : FVec Ideal S1000x10 .f32 :=
  concatenate S1000x10 1 [⟨S1000x1, best (step (net x0 x1) 0)⟩, ⟨S1000x1, best (step (net x0 x1) 1)⟩,
        ⟨S1000x1, best (step (net x0 x1) 2)⟩, ⟨S1000x1, best (step (net x0 x1) 3)⟩,
        ⟨S1000x1, best (step (net x0 x1) 4)⟩, ⟨S1000x1, best (step (net x0 x1) 5)⟩,
        ⟨S1000x1, best (step (net x0 x1) 6)⟩, ⟨S1000x1, best (step (net x0 x1) 7)⟩,
        ⟨S1000x1, best (step (net x0 x1) 8)⟩, ⟨S1000x1, best (step (net x0 x1) 9)⟩]
        concatenates_S1000x1_S1000x1_S1000x1_S1000x1_S1000x1_S1000x1_S1000x1_S1000x1_S1000x1_S1000x1_S1000x10_d1

/-- The weights before the division, at column `k`. -/
theorem raw (p : Fin 1000) (k : Fin 10) : k3_pay82 (F := Ideal) x0 x1 x2 x3 (ix2 p k)
    = Ideal.logistic (x2 (ix2 0 0) * best (step (net x0 x1) k.val) (ix2 p 0) + x3 (ix2 0 0)) := by
  have e : k3_pay82 (F := Ideal) x0 x1 x2 x3 = logistic (addf (mulf (broadcast S1000x10 (extractAt ![0, 0] (View.ld x2 r3_2) inpos_S1x1_p0_0))
      (found x0 x1)) (broadcast S1000x10 (extractAt ![0, 0] (View.ld x3 r3_2) inpos_S1x1_p0_0))) := rfl
  have z (v : Vec Ideal S1x1 .f32) : extractAt ![0, 0] (View.ld v r3_2) inpos_S1x1_p0_0 = v (ix2 0 0) := by
    rw [View.ld_unit_zero off0]
    exact congrArg v (Reads.ix2_of rfl rfl)
  rw [e, z, z]
  show Ideal.logistic (x2 (ix2 0 0) * found x0 x1 (ix2 p k) + x3 (ix2 0 0)) = _
  rw [show found x0 x1 (ix2 p k) = _ from Reads.joinCols (fun k : Fin 10 => best (step (net x0 x1) k.val)) _ rfl _ p k]

/-- A column taken out of a matrix. -/
theorem column {α : Type} (x : S1000x10.Idx → α) (k : ℕ) (hk : k < 10) (h : S1000x10.Slices ![0, k] S1000x1) (p : Fin 1000) :
    extractStridedSlice S1000x1 ![0, k] x h (ix2 p 0) = x (ix2 p ⟨k, hk⟩) :=
  extractStridedSlice_apply _ x h _ _ fun a => by
    match a with
    | ⟨0, _⟩ => show p.val = 0 + p.val; omega
    | ⟨1, _⟩ => rfl

/-- A matrix that holds, in each row, one weight at the place the row found. -/
def spread (I : IVec S1000x10 32) (W : FVec Ideal S1000x10 .f32) (k : ℕ) (h : S1000x10.Slices ![0, k] S1000x1) : FVec Ideal S1000x1000 .f32 :=
  select (cmpi .eq (broadcastTo S1000x1000 (extractStridedSlice S1000x1 ![0, k] I h) broadcasts_S1000x1_S1000x1000) lanes)
    (broadcastTo S1000x1000 (shapeCast S1000x1 (extractStridedSlice S1000x1 ![0, k] W h) shapeCasts_S1000x1_S1000x1) broadcasts_S1000x1_S1000x1000)
    (broadcast S1000x1000 (Scalar.ofBits .f32 0x00000000#32))

/-- Its entries. -/
theorem spread_read (I : IVec S1000x10 32) (W : FVec Ideal S1000x10 .f32) (k : ℕ) (hk : k < 10) (h : S1000x10.Slices ![0, k] S1000x1)
    (p q : Fin 1000) : spread I W k h (ix2 p q) = if I (ix2 p ⟨k, hk⟩) = BitVec.ofNat 32 q.val then W (ix2 p ⟨k, hk⟩) else 0 := by
  unfold spread
  rw [select_apply]
  show Scalar.select (IntOp.cmpi .eq (broadcastTo S1000x1000 _ _ (ix2 p q)) (lanes (ix2 p q))) _ (Ideal.ofBits .f32 0x00000000#32) = _
  rw [Reads.select_cmpi_eq, Reads.spreadCol, Reads.spreadCol, Reads.castSelf, column _ k hk, column _ k hk, Ideal.ofBits_zero_f32]
  rw [show lanes (ix2 p q) = BitVec.ofNat 32 q.val from iota_single_apply _ _ _ _ _ _]

/-- The position test along the diagonal. -/
theorem diagonal (x y : Ideal .f32) (p q : Fin 1000) : Scalar.select (k3_pay37 (ix2 p q)) x y = if p = q then x else y := by
  show Scalar.select (IntOp.cmpi .eq (iota .tc S1000x1000 32 [0] _ (ix2 p q)) (iota .tc S1000x1000 32 [1] _ (ix2 p q))) x y = _
  rw [Reads.select_cmpi_eq, iota_single_apply, iota_single_apply]
  refine if_congr ?_ rfl rfl
  show BitVec.ofNat 32 p.val = BitVec.ofNat 32 q.val ↔ _
  have := p.isLt
  have := q.isLt
  rw [Reads.ofNat_inj (by omega) (by omega)]
  exact Fin.ext_iff.symm

/-- The sum of the weights at both ends of the edges at `q`. -/
def ends (I : Fin 1000 → Fin 10 → BitVec 32) (W : Fin 1000 → Fin 10 → EReal) (q : Fin 1000) : EReal :=
  (∑ k, W q k) + ∑ p, ∑ k, if I p k = BitVec.ofNat 32 q.val then W p k else 0

/-- The places, as a matrix of words. -/
abbrev I : IVec S1000x10 32 := k3_pay81 (F := Ideal) x0 x1 x2 x3

/-- The weights before the division, as a matrix. -/
abbrev W : FVec Ideal S1000x10 .f32 := k3_pay82 (F := Ideal) x0 x1 x2 x3

/-- All ten spread weights, added. -/
def ten : FVec Ideal S1000x1000 .f32 :=
  addf (addf (addf (addf (addf (addf (addf (addf (addf (addf (broadcast S1000x1000 (Scalar.ofBits .f32 0x00000000#32))
    (spread (I x0 x1 x2 x3) (W x0 x1 x2 x3) 0 slices_S1000x10_o0_0_S1000x1)) (spread (I x0 x1 x2 x3) (W x0 x1 x2 x3) 1 slices_S1000x10_o0_1_S1000x1))
    (spread (I x0 x1 x2 x3) (W x0 x1 x2 x3) 2 slices_S1000x10_o0_2_S1000x1)) (spread (I x0 x1 x2 x3) (W x0 x1 x2 x3) 3 slices_S1000x10_o0_3_S1000x1))
    (spread (I x0 x1 x2 x3) (W x0 x1 x2 x3) 4 slices_S1000x10_o0_4_S1000x1)) (spread (I x0 x1 x2 x3) (W x0 x1 x2 x3) 5 slices_S1000x10_o0_5_S1000x1))
    (spread (I x0 x1 x2 x3) (W x0 x1 x2 x3) 6 slices_S1000x10_o0_6_S1000x1)) (spread (I x0 x1 x2 x3) (W x0 x1 x2 x3) 7 slices_S1000x10_o0_7_S1000x1))
    (spread (I x0 x1 x2 x3) (W x0 x1 x2 x3) 8 slices_S1000x10_o0_8_S1000x1)) (spread (I x0 x1 x2 x3) (W x0 x1 x2 x3) 9 slices_S1000x10_o0_9_S1000x1)

/-- Their entries. -/
theorem ten_read (p q : Fin 1000) : ten x0 x1 x2 x3 (ix2 p q)
    = ∑ k, if I x0 x1 x2 x3 (ix2 p k) = BitVec.ofNat 32 q.val then W x0 x1 x2 x3 (ix2 p k) else 0 := by
  unfold ten
  simp only [addf_apply]
  rw [spread_read _ _ 0 (by decide), spread_read _ _ 1 (by decide), spread_read _ _ 2 (by decide), spread_read _ _ 3 (by decide),
    spread_read _ _ 4 (by decide), spread_read _ _ 5 (by decide), spread_read _ _ 6 (by decide), spread_read _ _ 7 (by decide),
    spread_read _ _ 8 (by decide), spread_read _ _ 9 (by decide)]
  rw [show broadcast S1000x1000 (Scalar.ofBits (F := Ideal) .f32 0x00000000#32) (ix2 p q) = (0 : EReal) from Ideal.ofBits_zero_f32, zero_add]
  simp only [Fin.sum_univ_succ, Fin.sum_univ_zero, add_zero]
  simp only [add_assoc]
  rfl

/-- The sums over both ends. -/
theorem both (q : Fin 1000) : k3_pay86 (F := Ideal) x0 x1 x2 x3 (ix2 0 q)
    = ends (fun p k => I x0 x1 x2 x3 (ix2 p k)) (fun p k => W x0 x1 x2 x3 (ix2 p k)) q := by
  have e : k3_pay86 (F := Ideal) x0 x1 x2 x3 = addf
      (shapeCast S1x1000 (multiReduction .add [0] S1000 (select k3_pay37 (broadcastTo S1000x1000 (shapeCast S1000x1
        (shapeCast S1000x1 (multiReduction .add [1] S1000 (W x0 x1 x2 x3) 0x00000000#32 reduces_S1000x10_S1000 (.inl rfl) rfl) shapeCasts_S1000_S1000x1)
        shapeCasts_S1000x1_S1000x1) broadcasts_S1000x1_S1000x1000) (broadcast S1000x1000 (Scalar.ofBits .f32 0x00000000#32))) 0x00000000#32
        reduces_S1000x1000_S1000_2 (.inl rfl) rfl) shapeCasts_S1000_S1x1000)
      (shapeCast S1x1000 (multiReduction .add [0] S1000 (ten x0 x1 x2 x3) 0x00000000#32 reduces_S1000x1000_S1000_2 (.inl rfl) rfl)
        shapeCasts_S1000_S1x1000) := rfl
  rw [e, addf_apply, shapeCast_a_1a_apply, shapeCast_a_1a_apply]
  refine congrArg₂ (· + ·) ((Reads.sumCol _ _ _ _ q).trans ?_) ((Reads.sumCol _ _ _ _ q).trans (Finset.sum_congr rfl fun p _ => ten_read x0 x1 x2 x3 p q))
  have h (p : Fin 1000) : select k3_pay37 (broadcastTo S1000x1000 (shapeCast S1000x1
        (shapeCast S1000x1 (multiReduction .add [1] S1000 (W x0 x1 x2 x3) 0x00000000#32 reduces_S1000x10_S1000 (.inl rfl) rfl) shapeCasts_S1000_S1000x1)
        shapeCasts_S1000x1_S1000x1) broadcasts_S1000x1_S1000x1000) (broadcast S1000x1000 (Scalar.ofBits .f32 0x00000000#32)) (ix2 p q)
      = if p = q then ∑ k : Fin 10, W x0 x1 x2 x3 (ix2 p k) else 0 := by
    rw [select_apply, diagonal, Reads.spreadCol, Reads.castSelf, shapeCast_a_a1_apply,
      show multiReduction .add [1] S1000 (W x0 x1 x2 x3) 0x00000000#32 reduces_S1000x10_S1000 (.inl rfl) rfl (ix1 p) = _ from
        Reads.sumRow (W x0 x1 x2 x3) _ _ _ p,
      show broadcast S1000x1000 (Scalar.ofBits (F := Ideal) .f32 0x00000000#32) (ix2 p q) = (0 : EReal) from Ideal.ofBits_zero_f32]
  rw [Finset.sum_congr rfl fun p _ => h p, Finset.sum_ite_eq' Finset.univ q]
  exact if_pos (Finset.mem_univ q)

/-- The weight divided by the sum at its row. -/
theorem out6 (p : Fin 1000) (k : Fin 10) : out3_6 (F := Ideal) x0 x1 x2 x3 (ix2 p k)
    = Ideal.div (W x0 x1 x2 x3 (ix2 p k)) (Bip.eps + ends (fun p k => I x0 x1 x2 x3 (ix2 p k)) (fun p k => W x0 x1 x2 x3 (ix2 p k)) p) := by
  unfold out3_6
  rw [View.canon_unit_zero off0]
  have e : k3_pay42 (F := Ideal) (k3_pay81 x0 x1 x2 x3) (k3_pay82 x0 x1 x2 x3) (k3_pay80 x0 x1 x2 x3) (k3_pay83 x0 x1 x2 x3) (k3_pay84 x0 x1 x2 x3) (k3_pay85 x0 x1 x2 x3)
      = divf (W x0 x1 x2 x3) (broadcastTo S1000x10 (addf (broadcast S1000x1 (Scalar.ofBits .f32 0x2B8CBCCC#32))
        (shapeCast S1000x1 (multiReduction .add [1] S1000 (select k3_pay37 (broadcastTo S1000x1000
          (shapeCast S1x1000 (k3_pay86 x0 x1 x2 x3) shapeCasts_S1x1000_S1x1000) broadcasts_S1x1000_S1000x1000)
          (broadcast S1000x1000 (Scalar.ofBits .f32 0x00000000#32))) 0x00000000#32 reduces_S1000x1000_S1000 (.inl rfl) rfl) shapeCasts_S1000_S1000x1))
        broadcasts_S1000x1_S1000x10) := rfl
  rw [e, divf_apply, Reads.spreadCol, addf_apply, shapeCast_a_a1_apply]
  refine congrArg (fun d => Ideal.div (W x0 x1 x2 x3 (ix2 p k)) (Bip.eps + d)) ((Reads.sumRow _ _ _ _ p).trans ?_)
  have h (q : Fin 1000) : select k3_pay37 (broadcastTo S1000x1000
          (shapeCast S1x1000 (k3_pay86 (F := Ideal) x0 x1 x2 x3) shapeCasts_S1x1000_S1x1000) broadcasts_S1x1000_S1000x1000)
          (broadcast S1000x1000 (Scalar.ofBits .f32 0x00000000#32)) (ix2 p q)
      = if p = q then ends (fun p k => I x0 x1 x2 x3 (ix2 p k)) (fun p k => W x0 x1 x2 x3 (ix2 p k)) q else 0 := by
    rw [select_apply, diagonal, Reads.spreadRow, Reads.castSelf, both,
      show broadcast S1000x1000 (Scalar.ofBits (F := Ideal) .f32 0x00000000#32) (ix2 p q) = (0 : EReal) from Ideal.ofBits_zero_f32]
  rw [Finset.sum_congr rfl fun q _ => h q, Finset.sum_ite_eq Finset.univ p]
  exact if_pos (Finset.mem_univ p)

/-- One column of the weights divided by the sums at the places found. -/
def share (k : ℕ) (h : S1000x10.Slices ![0, k] S1000x1) : FVec Ideal S1000x1 .f32 :=
  divf (extractStridedSlice S1000x1 ![0, k] (W x0 x1 x2 x3) h) (addf (broadcast S1000x1 (Scalar.ofBits .f32 0x2B8CBCCC#32))
    (shapeCast S1000x1 (multiReduction .add [1] S1000 (select
      (cmpi .eq (broadcastTo S1000x1000 (extractStridedSlice S1000x1 ![0, k] (I x0 x1 x2 x3) h) broadcasts_S1000x1_S1000x1000) lanes)
      (broadcastTo S1000x1000 (shapeCast S1x1000 (k3_pay86 x0 x1 x2 x3) shapeCasts_S1x1000_S1x1000) broadcasts_S1x1000_S1000x1000)
      (broadcast S1000x1000 (Scalar.ofBits .f32 0x00000000#32))) 0x00000000#32 reduces_S1000x1000_S1000 (.inl rfl) rfl) shapeCasts_S1000_S1000x1))

/-- Its entries. -/
theorem share_read (k : ℕ) (hk : k < 10) (h : S1000x10.Slices ![0, k] S1000x1) (p : Fin 1000) : share x0 x1 x2 x3 k h (ix2 p 0)
    = Ideal.div (W x0 x1 x2 x3 (ix2 p ⟨k, hk⟩)) (Bip.eps + ∑ q : Fin 1000, if I x0 x1 x2 x3 (ix2 p ⟨k, hk⟩) = BitVec.ofNat 32 q.val then
        ends (fun p k => I x0 x1 x2 x3 (ix2 p k)) (fun p k => W x0 x1 x2 x3 (ix2 p k)) q else 0) := by
  unfold share
  rw [divf_apply, addf_apply, column _ k hk, shapeCast_a_a1_apply]
  refine congrArg (fun d => Ideal.div (W x0 x1 x2 x3 (ix2 p ⟨k, hk⟩)) (Bip.eps + d)) ((Reads.sumRow _ _ _ _ p).trans (Finset.sum_congr rfl fun q _ => ?_))
  rw [select_apply]
  show Scalar.select (IntOp.cmpi .eq (broadcastTo S1000x1000 _ _ (ix2 p q)) (lanes (ix2 p q))) _ (Ideal.ofBits .f32 0x00000000#32) = _
  rw [Reads.select_cmpi_eq, Reads.spreadCol, Reads.spreadRow, Reads.castSelf, column _ k hk, Ideal.ofBits_zero_f32, both]
  rw [show lanes (ix2 p q) = BitVec.ofNat 32 q.val from iota_single_apply _ _ _ _ _ _]

/-- Every column can be taken. -/
theorem cut (k : Fin 10) : S1000x10.Slices ![0, k.val] S1000x1 := by
  revert k; decide

/-- The weight divided by the sum at the place its row found. -/
theorem out7 (p : Fin 1000) (k : Fin 10) : out3_7 (F := Ideal) x0 x1 x2 x3 (ix2 p k) = share x0 x1 x2 x3 k.val (cut k) (ix2 p 0) := by
  unfold out3_7
  rw [View.canon_unit_zero off0]
  have e : (k3_pay1 (k3_pay81 x0 x1 x2 x3) (k3_pay82 x0 x1 x2 x3) (k3_pay80 x0 x1 x2 x3) (k3_pay86 x0 x1 x2 x3) (k3_pay44 (k3_pay82 x0 x1 x2 x3) (k3_pay43 (k3_pay81 x0 x1 x2 x3) (k3_pay82 x0 x1 x2 x3) (k3_pay80 x0 x1 x2 x3) (k3_pay83 x0 x1 x2 x3) (k3_pay84 x0 x1 x2 x3) (k3_pay85 x0 x1 x2 x3))) (k3_pay45 (k3_pay81 x0 x1 x2 x3) (k3_pay82 x0 x1 x2 x3) (k3_pay80 x0 x1 x2 x3) (k3_pay86 x0 x1 x2 x3)) (k3_pay46 (k3_pay81 x0 x1 x2 x3) (k3_pay82 x0 x1 x2 x3) (k3_pay80 x0 x1 x2 x3) (k3_pay86 x0 x1 x2 x3)) (k3_pay47 (k3_pay81 x0 x1 x2 x3) (k3_pay82 x0 x1 x2 x3) (k3_pay80 x0 x1 x2 x3) (k3_pay86 x0 x1 x2 x3)) (k3_pay51 (k3_pay82 x0 x1 x2 x3) (k3_pay48 (k3_pay81 x0 x1 x2 x3) (k3_pay80 x0 x1 x2 x3)) (k3_pay49 (k3_pay86 x0 x1 x2 x3)) (k3_pay50 (F := Ideal))) (k3_pay52 (k3_pay81 x0 x1 x2 x3) (k3_pay82 x0 x1 x2 x3) (k3_pay80 x0 x1 x2 x3) (k3_pay86 x0 x1 x2 x3)) (k3_pay53 (k3_pay81 x0 x1 x2 x3) (k3_pay82 x0 x1 x2 x3) (k3_pay80 x0 x1 x2 x3) (k3_pay86 x0 x1 x2 x3)) (k3_pay54 (k3_pay81 x0 x1 x2 x3) (k3_pay82 x0 x1 x2 x3) (k3_pay80 x0 x1 x2 x3) (k3_pay86 x0 x1 x2 x3)) (k3_pay55 (k3_pay81 x0 x1 x2 x3) (k3_pay80 x0 x1 x2 x3)) : FVec Ideal S1000x10 .f32)
      = concatenate S1000x10 1 [⟨S1000x1, share x0 x1 x2 x3 0 slices_S1000x10_o0_0_S1000x1⟩, ⟨S1000x1, share x0 x1 x2 x3 1 slices_S1000x10_o0_1_S1000x1⟩,
        ⟨S1000x1, share x0 x1 x2 x3 2 slices_S1000x10_o0_2_S1000x1⟩, ⟨S1000x1, share x0 x1 x2 x3 3 slices_S1000x10_o0_3_S1000x1⟩,
        ⟨S1000x1, share x0 x1 x2 x3 4 slices_S1000x10_o0_4_S1000x1⟩, ⟨S1000x1, share x0 x1 x2 x3 5 slices_S1000x10_o0_5_S1000x1⟩,
        ⟨S1000x1, share x0 x1 x2 x3 6 slices_S1000x10_o0_6_S1000x1⟩, ⟨S1000x1, share x0 x1 x2 x3 7 slices_S1000x10_o0_7_S1000x1⟩,
        ⟨S1000x1, share x0 x1 x2 x3 8 slices_S1000x10_o0_8_S1000x1⟩, ⟨S1000x1, share x0 x1 x2 x3 9 slices_S1000x10_o0_9_S1000x1⟩]
        concatenates_S1000x1_S1000x1_S1000x1_S1000x1_S1000x1_S1000x1_S1000x1_S1000x1_S1000x1_S1000x1_S1000x10_d1 := rfl
  rw [e]
  exact Reads.joinCols (fun k : Fin 10 => share x0 x1 x2 x3 k.val (cut k)) _ rfl _ p k

end Cert.Snn
-- ==== Proof.Emb.lean ====
/- What the embeddings array holds when the first region is done. -/
module

public import proofs.«01_k».proof.Proof.Mlp
public import proofs.«01_k».proof.Proof.Gen.KernelIdeal.Frame
public import Idealize.ShloMosaic.Lib.Pipeline.Value

@[expose] public section

noncomputable section

open Idealize.ShloMosaic Idealize.ShloMosaic.TcCoe Idealize.SL.Sem Idealize.ShloMosaic.ValueIdx
open Idealize.ShloMosaic.Pipeline (Dat)

namespace Cert.Emb

open Cert.KernelIdeal Cert.KernelIdeal.Gen

variable (V : (c : Dev nD) → (b : Ref sig .tc) → Buf (Elt Ideal) ((c : Thread nD τ).loc b))

/-- Row `r` of block `t` in an array of ten thousand rows. -/
def at' (t : ℕ) (r : Fin 1000) (h : t < 10) : Fin 10000 := ⟨1000 * t + r.val, by omega⟩

/-- The offset that is zero on both axes. -/
theorem off0 : (![0, 0] : Fin 2 → Nat) = fun _ => 0 := by funext a; fin_cases a <;> rfl

/-- A point of the first grid is below ten. -/
theorem lt0 (t : Fin cfg0.N) : t.val < 10 := lt_of_lt_of_eq t.isLt N_0

/-- The moving windows of the first region are at block row `t`. -/
theorem moves0 (t : Fin cfg0.N) : (win0_0.index t 0 = t.val ∧ win0_0.index t 1 = 0) ∧
    (win0_7.index t 0 = t.val ∧ win0_7.index t 1 = 0) := by
  rcases fin_N0 t with rfl | rfl | rfl | rfl | rfl | rfl | rfl | rfl | rfl | rfl <;> decide

/-- The fixed windows of the first region are at block zero. -/
theorem stays0 (t : Fin cfg0.N) : (win0_1.index t 0 = 0 ∧ win0_1.index t 1 = 0) ∧
    (win0_2.index t 0 = 0 ∧ win0_2.index t 1 = 0) ∧ (win0_3.index t 0 = 0 ∧ win0_3.index t 1 = 0) ∧
    (win0_4.index t 0 = 0 ∧ win0_4.index t 1 = 0) ∧ (win0_5.index t 0 = 0 ∧ win0_5.index t 1 = 0) ∧
    (win0_6.index t 0 = 0 ∧ win0_6.index t 1 = 0) := by
  rcases fin_N0 t with rfl | rfl | rfl | rfl | rfl | rfl | rfl | rfl | rfl | rfl <;> decide

/-- The node block at a point is a thousand rows of the node array. -/
theorem nodes (c : Dev nD) (t : Fin cfg0.N) (p : Fin 1000) (q : Fin 128) :
    (iblk0 V c 0 t : Vec Ideal S1000x128 .f32) (ix2 p q) = V c main_arg0 (ix2 (at' t.val p (lt0 t)) q) := by
  unfold iblk0
  rw [View.read_apply]
  show V c main_arg0 _ = _
  congr 1
  funext a
  apply Fin.ext
  match a with
  | ⟨0, _⟩ => show win0_0.index t 0 * 1000 + 1 * p.val = 1000 * t.val + p.val; rw [(moves0 t).1.1]; omega
  | ⟨1, _⟩ => show win0_0.index t 1 * 128 + 1 * q.val = q.val; rw [(moves0 t).1.2]; omega

/-- The first weight block is the first weight array. -/
theorem weight1 (c : Dev nD) (t : Fin cfg0.N) : (iblk0 V c 1 t : Vec Ideal S128x256 .f32) = V c main_arg3 := by
  funext j
  unfold iblk0
  rw [View.read_apply]
  show V c main_arg3 _ = _
  congr 1
  funext a
  apply Fin.ext
  match a with
  | ⟨0, _⟩ => show win0_1.index t 0 * 128 + 1 * (j 0).val = (j 0).val; rw [(stays0 t).1.1]; omega
  | ⟨1, _⟩ => show win0_1.index t 1 * 256 + 1 * (j 1).val = (j 1).val; rw [(stays0 t).1.2]; omega

/-- The first bias block is the first bias row. -/
theorem bias1 (c : Dev nD) (t : Fin cfg0.N) : (iblk0 V c 2 t : Vec Ideal S1x256 .f32) = V c main_v0 := by
  funext j
  unfold iblk0
  rw [View.read_apply]
  show V c main_v0 _ = _
  congr 1
  funext a
  apply Fin.ext
  match a with
  | ⟨0, _⟩ => show win0_2.index t 0 * 1 + 1 * (j 0).val = (j 0).val; rw [(stays0 t).2.1.1]; omega
  | ⟨1, _⟩ => show win0_2.index t 1 * 256 + 1 * (j 1).val = (j 1).val; rw [(stays0 t).2.1.2]; omega

/-- The second weight block is the second weight array. -/
theorem weight2 (c : Dev nD) (t : Fin cfg0.N) : (iblk0 V c 3 t : Vec Ideal S256x256 .f32) = V c main_arg5 := by
  funext j
  unfold iblk0
  rw [View.read_apply]
  show V c main_arg5 _ = _
  congr 1
  funext a
  apply Fin.ext
  match a with
  | ⟨0, _⟩ => show win0_3.index t 0 * 256 + 1 * (j 0).val = (j 0).val; rw [(stays0 t).2.2.1.1]; omega
  | ⟨1, _⟩ => show win0_3.index t 1 * 256 + 1 * (j 1).val = (j 1).val; rw [(stays0 t).2.2.1.2]; omega

/-- The second bias block is the second bias row. -/
theorem bias2 (c : Dev nD) (t : Fin cfg0.N) : (iblk0 V c 4 t : Vec Ideal S1x256 .f32) = V c main_v1 := by
  funext j
  unfold iblk0
  rw [View.read_apply]
  show V c main_v1 _ = _
  congr 1
  funext a
  apply Fin.ext
  match a with
  | ⟨0, _⟩ => show win0_4.index t 0 * 1 + 1 * (j 0).val = (j 0).val; rw [(stays0 t).2.2.2.1.1]; omega
  | ⟨1, _⟩ => show win0_4.index t 1 * 256 + 1 * (j 1).val = (j 1).val; rw [(stays0 t).2.2.2.1.2]; omega

/-- The third weight block is the third weight array. -/
theorem weight3 (c : Dev nD) (t : Fin cfg0.N) : (iblk0 V c 5 t : Vec Ideal S256x16 .f32) = V c main_arg7 := by
  funext j
  unfold iblk0
  rw [View.read_apply]
  show V c main_arg7 _ = _
  congr 1
  funext a
  apply Fin.ext
  match a with
  | ⟨0, _⟩ => show win0_5.index t 0 * 256 + 1 * (j 0).val = (j 0).val; rw [(stays0 t).2.2.2.2.1.1]; omega
  | ⟨1, _⟩ => show win0_5.index t 1 * 16 + 1 * (j 1).val = (j 1).val; rw [(stays0 t).2.2.2.2.1.2]; omega

/-- The third bias block is the third bias row. -/
theorem bias3 (c : Dev nD) (t : Fin cfg0.N) : (iblk0 V c 6 t : Vec Ideal S1x16 .f32) = V c main_v2 := by
  funext j
  unfold iblk0
  rw [View.read_apply]
  show V c main_v2 _ = _
  congr 1
  funext a
  apply Fin.ext
  match a with
  | ⟨0, _⟩ => show win0_6.index t 0 * 1 + 1 * (j 0).val = (j 0).val; rw [(stays0 t).2.2.2.2.2.1]; omega
  | ⟨1, _⟩ => show win0_6.index t 1 * 16 + 1 * (j 1).val = (j 1).val; rw [(stays0 t).2.2.2.2.2.2]; omega

/-- The encoded row `r`, at feature `q`, from the arrays the region finds. -/
def row (c : Dev nD) (r : Fin 10000) (q : Fin 16) : EReal :=
  Mlp.encode (fun k => V c main_arg0 (ix2 r k)) (fun k l => V c main_arg3 (ix2 k l))
    (fun l => V c main_v0 (ix2 0 l)) (fun k l => V c main_arg5 (ix2 k l)) (fun l => V c main_v1 (ix2 0 l))
    (fun k l => V c main_arg7 (ix2 k l)) (fun l => V c main_v2 (ix2 0 l)) q

/-- The embeddings array, row by row. -/
def result (c : Dev nD) : Buf (Elt Ideal) ((c : Thread nD τ).loc main_v3) :=
  fun i => row V c (i 0) (i 1)

/-- What a point leaves in the output block: the encoded rows of its block. -/
theorem left (c : Dev nD) (t : Fin cfg0.N) (p : Fin 1000) (q : Fin 16) :
    ((dat0 V c).after 7 t : Vec Ideal S1000x16 .f32) (ix2 p q) = row V c (at' t.val p (lt0 t)) q := by
  rw [after0_7]
  unfold out0_7
  rw [View.canon_unit_zero off0]
  simp only [View.ld_unit_zero (S := S1000x128) off0, View.ld_unit_zero (S := S128x256) off0,
    View.ld_unit_zero (S := S1x256) off0, View.ld_unit_zero (S := S256x256) off0,
    View.ld_unit_zero (S := S256x16) off0, View.ld_unit_zero (S := S1x16) off0]
  refine (Mlp.block _ _ _ _ _ _ _ p q).trans ?_
  unfold row
  simp only [nodes, weight1, bias1, weight2, bias2, weight3, bias3]

/-- What a point writes back is its block of the embeddings array. -/
theorem flushed_eq (c : Dev nD) (t : Fin cfg0.N) :
    (dat0 V c).flushed 7 t = ((cfg0.win 7).blk t).view.read (Elt Ideal) (result V c) := by
  show (cfg0.win 7).cut (grid0.coords t) ((dat0 V c).after 7 t) = _
  funext j
  rw [View.read_apply]
  show ((dat0 V c).after 7 t : Vec Ideal S1000x16 .f32) j = result V c _
  have hj : j = ix2 (j 0) (j 1) := eq_ix2 j
  refine (congrArg _ hj).trans ((left V c t (j 0) (j 1)).trans ?_)
  unfold result
  congr 1 <;> apply Fin.ext
  · show 1000 * t.val + (j 0).val = win0_7.index t 0 * 1000 + 1 * (j 0).val
    rw [(moves0 t).2.1]; omega
  · show (j 1).val = win0_7.index t 1 * 16 + 1 * (j 1).val
    rw [(moves0 t).2.2]; omega

/-- When the first region is done its output array holds every row encoded. -/
theorem final (c : Dev nD) : (dat0 V c).arrAt 7 cfg0.N = result V c :=
  (dat0 V c).arrAt_eq_of_cover 7 (result V c) (fun t _ => flushed_eq V c t) fun i => by
    have h0 : (i 0 : Nat) < 10000 := (i 0).isLt
    have h1 : (i 1 : Nat) < 16 := (i 1).isLt
    have hN : cfg0.N = 10 := N_0
    refine ⟨⟨(i 0 : Nat) / 1000, by omega⟩, flush0_7 _, ?_⟩
    generalize ht : (⟨(i 0 : Nat) / 1000, by omega⟩ : Fin cfg0.N) = t
    have hv : t.val = (i 0 : Nat) / 1000 := by rw [← ht]
    show i ∈ ((View.whole main_v3).slice (win0_7.rect t)).set
    rw [View.set_slice_whole, Rect.mem_set_unit]
    intro a
    match a with
    | ⟨0, _⟩ => show win0_7.index t 0 * 1000 ≤ (i 0 : Nat) ∧ (i 0 : Nat) < win0_7.index t 0 * 1000 + 1000
                rw [(moves0 t).2.1]; omega
    | ⟨1, _⟩ => show win0_7.index t 1 * 16 ≤ (i 1 : Nat) ∧ (i 1 : Nat) < win0_7.index t 1 * 16 + 16
                rw [(moves0 t).2.2]; omega

end Cert.Emb
-- ==== Proof.Near.lean ====
/- What the arrays of the third region hold when it is done: the places, the scores and the weights of the five
   clusters nearest to each embedding. -/
module

public import proofs.«01_k».proof.Proof.Bip
public import proofs.«01_k».proof.Proof.Emb

@[expose] public section

noncomputable section

open Idealize.ShloMosaic Idealize.ShloMosaic.TcCoe Idealize.SL.Sem Idealize.ShloMosaic.ValueIdx
open Idealize.ShloMosaic.Pipeline (Dat)

namespace Cert.Near

open Cert.KernelIdeal Cert.KernelIdeal.Gen Cert.Emb

variable (V : (c : Dev nD) → (b : Ref sig .tc) → Buf (Elt Ideal) ((c : Thread nD τ).loc b))

/-- A point of the third grid is below ten. -/
theorem lt2 (t : Fin cfg2.N) : t.val < 10 := lt_of_lt_of_eq t.isLt N_2

/-- The moving windows of the third region. -/
theorem moves (t : Fin cfg2.N) : (win2_0.index t 0 = t.val ∧ win2_0.index t 1 = 0) ∧
    (win2_5.index t 0 = t.val ∧ win2_5.index t 1 = 0) ∧ (win2_6.index t 0 = t.val ∧ win2_6.index t 1 = 0) ∧
    (win2_7.index t 0 = t.val ∧ win2_7.index t 1 = 0) := by
  rcases fin_N2 t with rfl | rfl | rfl | rfl | rfl | rfl | rfl | rfl | rfl | rfl <;> decide

/-- The fixed windows of the third region. -/
theorem stays (t : Fin cfg2.N) : (win2_1.index t 0 = 0 ∧ win2_1.index t 1 = 0) ∧
    (win2_2.index t 0 = 0 ∧ win2_2.index t 1 = 0) ∧ (win2_3.index t 0 = 0 ∧ win2_3.index t 1 = 0) ∧
    (win2_4.index t 0 = 0 ∧ win2_4.index t 1 = 0) := by
  rcases fin_N2 t with rfl | rfl | rfl | rfl | rfl | rfl | rfl | rfl | rfl | rfl <;> decide

/-- The block of embeddings is a thousand of the embeddings. -/
theorem rows (c : Dev nD) (t : Fin cfg2.N) (p : Fin 1000) (q : Fin 16) :
    (iblk2 V c 0 t : Vec Ideal S1000x16 .f32) (ix2 p q) = V c main_v3 (ix2 (at' t.val p (lt2 t)) q) := by
  unfold iblk2
  rw [View.read_apply]
  show V c main_v3 _ = _
  congr 1
  funext a
  apply Fin.ext
  match a with
  | ⟨0, _⟩ => show win2_0.index t 0 * 1000 + 1 * p.val = 1000 * t.val + p.val; rw [(moves t).1.1]; omega
  | ⟨1, _⟩ => show win2_0.index t 1 * 16 + 1 * q.val = q.val; rw [(moves t).1.2]; omega

/-- The sums block is the sums array. -/
theorem sums (c : Dev nD) (t : Fin cfg2.N) : (iblk2 V c 1 t : Vec Ideal S1000x16 .f32) = V c main_v11_0 := by
  funext j
  unfold iblk2
  rw [View.read_apply]
  show V c main_v11_0 _ = _
  congr 1
  funext a
  apply Fin.ext
  match a with
  | ⟨0, _⟩ => show win2_1.index t 0 * 1000 + 1 * (j 0).val = (j 0).val; rw [(stays t).1.1]; omega
  | ⟨1, _⟩ => show win2_1.index t 1 * 16 + 1 * (j 1).val = (j 1).val; rw [(stays t).1.2]; omega

/-- The counts block is the counts array. -/
theorem counts (c : Dev nD) (t : Fin cfg2.N) : (iblk2 V c 2 t : Vec Ideal S1000x1 .f32) = V c main_v11_1 := by
  funext j
  unfold iblk2
  rw [View.read_apply]
  show V c main_v11_1 _ = _
  congr 1
  funext a
  apply Fin.ext
  match a with
  | ⟨0, _⟩ => show win2_2.index t 0 * 1000 + 1 * (j 0).val = (j 0).val; rw [(stays t).2.1.1]; omega
  | ⟨1, _⟩ => show win2_2.index t 1 * 1 + 1 * (j 1).val = (j 1).val; rw [(stays t).2.1.2]; omega

/-- The gain block is the gain array. -/
theorem gain (c : Dev nD) (t : Fin cfg2.N) : (iblk2 V c 3 t : Vec Ideal S1x1 .f32) = V c main_v12 := by
  funext j
  unfold iblk2
  rw [View.read_apply]
  show V c main_v12 _ = _
  congr 1
  funext a
  apply Fin.ext
  match a with
  | ⟨0, _⟩ => show win2_3.index t 0 * 1 + 1 * (j 0).val = (j 0).val; rw [(stays t).2.2.1.1]; omega
  | ⟨1, _⟩ => show win2_3.index t 1 * 1 + 1 * (j 1).val = (j 1).val; rw [(stays t).2.2.1.2]; omega

/-- The shift block is the shift array. -/
theorem shift (c : Dev nD) (t : Fin cfg2.N) : (iblk2 V c 4 t : Vec Ideal S1x1 .f32) = V c main_v13 := by
  funext j
  unfold iblk2
  rw [View.read_apply]
  show V c main_v13 _ = _
  congr 1
  funext a
  apply Fin.ext
  match a with
  | ⟨0, _⟩ => show win2_4.index t 0 * 1 + 1 * (j 0).val = (j 0).val; rw [(stays t).2.2.2.1]; omega
  | ⟨1, _⟩ => show win2_4.index t 1 * 1 + 1 * (j 1).val = (j 1).val; rw [(stays t).2.2.2.2]; omega

/-- The negated distance of embedding `r` from the mean of cluster `q`. -/
def far (c : Dev nD) (r : Fin 10000) (q : Fin 1000) : EReal :=
  Rounds.negDist (fun j => V c main_v3 (ix2 r j))
    (fun j => Rounds.mean (V c main_v11_0 (ix2 q j)) (V c main_v11_1 (ix2 q 0)))

/-- The score of a value. -/
def line (g x b : EReal) : EReal := g * x + b

/-- The score of the `k`-th nearest cluster of embedding `r`. -/
def score (c : Dev nD) (r : Fin 10000) (k : Fin 5) : EReal :=
  line (V c main_v12 (ix2 0 0)) (TopPick.val (far V c r) k.val) (V c main_v13 (ix2 0 0))

/-- The places array. -/
def result5 (c : Dev nD) : Buf (Elt Ideal) ((c : Thread nD τ).loc main_v14_0) :=
  fun i => BitVec.ofNat 32 (TopPick.pos (far V c (i 0)) (i 1).val).val

/-- The scores array. -/
def result6 (c : Dev nD) : Buf (Elt Ideal) ((c : Thread nD τ).loc main_v14_1) := fun i => score V c (i 0) (i 1)

/-- The weights array. -/
def result7 (c : Dev nD) : Buf (Elt Ideal) ((c : Thread nD τ).loc main_v14_2) :=
  fun i => Bip.weight (score V c (i 0)) (i 1)

/-- The distances of a block. -/
theorem block (c : Dev nD) (t : Fin cfg2.N) (p q : Fin 1000) :
    k2_pay3 (F := Ideal) (iblk2 V c 0 t) (iblk2 V c 2 t) (iblk2 V c 1 t) (ix2 p q) = far V c (at' t.val p (lt2 t)) q := by
  refine (Rounds.bip_dist _ _ _ p q).trans ?_
  simp only [rows, sums, counts]
  rfl

/-- What a point leaves in the places block. -/
theorem left5 (c : Dev nD) (t : Fin cfg2.N) (p : Fin 1000) (k : Fin 5) :
    ((dat2 V c).after 5 t : Vec Ideal S1000x5 .i32) (ix2 p k) = result5 V c (ix2 (at' t.val p (lt2 t)) k) := by
  rw [after2_5]
  unfold out2_5
  rw [View.canon_unit_zero off0]
  unfold k2_pay20
  simp only [View.ld_unit_zero (S := S1000x16) off0, View.ld_unit_zero (S := S1000x1) off0]
  refine (Bip.places _ _ _ p k).trans ?_
  exact Rounds.place_read _ (fun p q => far V c (at' t.val p (lt2 t)) q) (block V c t) k.val p

/-- What a point leaves in the scores block. -/
theorem left6 (c : Dev nD) (t : Fin cfg2.N) (p : Fin 1000) (k : Fin 5) :
    ((dat2 V c).after 6 t : Vec Ideal S1000x5 .f32) (ix2 p k) = result6 V c (ix2 (at' t.val p (lt2 t)) k) := by
  rw [after2_6]
  unfold out2_6
  rw [View.canon_unit_zero off0]
  unfold k2_pay21 k2_pay20
  simp only [View.ld_unit_zero (S := S1000x16) off0, View.ld_unit_zero (S := S1000x1) off0, View.ld_unit_zero (S := S1x1) off0]
  refine (Bip.scores _ _ _ p k).trans ?_
  have hv : k2_pay17 (F := Ideal) (k2_pay19 (iblk2 V c 0 t) (iblk2 V c 1 t) (iblk2 V c 2 t) (iblk2 V c 3 t) (iblk2 V c 4 t))
      (k2_pay4 (iblk2 V c 0 t) (iblk2 V c 2 t) (iblk2 V c 1 t)) (k2_pay6 (iblk2 V c 0 t) (iblk2 V c 2 t) (iblk2 V c 1 t)) (ix2 p k)
      = TopPick.val (far V c (at' t.val p (lt2 t))) k.val :=
    (Bip.values _ _ _ p k).trans (Rounds.best_read _ (fun p q => far V c (at' t.val p (lt2 t)) q) (block V c t) k.val p)
  rw [hv, gain, shift]
  rfl

/-- What a point leaves in the weights block. -/
theorem left7 (c : Dev nD) (t : Fin cfg2.N) (p : Fin 1000) (k : Fin 5) :
    ((dat2 V c).after 7 t : Vec Ideal S1000x5 .f32) (ix2 p k) = result7 V c (ix2 (at' t.val p (lt2 t)) k) := by
  have h6 (k : Fin 5) := left6 V c t p k
  rw [after2_6] at h6
  unfold out2_6 at h6
  rw [View.canon_unit_zero off0] at h6
  rw [after2_7]
  unfold out2_7
  rw [View.canon_unit_zero off0]
  refine (Bip.weights _ _ _ p k).trans ?_
  simp only [h6]
  rfl

/-- A block of the places window, read off an array. -/
theorem read5 (c : Dev nD) (t : Fin cfg2.N) (G : Buf (Elt Ideal) ((c : Thread nD τ).loc main_v14_0)) (p : Fin 1000) (k : Fin 5) :
    ((cfg2.win 5).blk t).view.read (Elt Ideal) G (ix2 p k) = G (ix2 (at' t.val p (lt2 t)) k) := by
  rw [View.read_apply]
  show G _ = _
  congr 1
  funext a
  apply Fin.ext
  match a with
  | ⟨0, _⟩ => show win2_5.index t 0 * 1000 + 1 * p.val = 1000 * t.val + p.val; rw [(moves t).2.1.1]; omega
  | ⟨1, _⟩ => show win2_5.index t 1 * 5 + 1 * k.val = k.val; rw [(moves t).2.1.2]; omega

/-- When the third region is done the places array is this. -/
theorem final5 (c : Dev nD) : (dat2 V c).arrAt 5 cfg2.N = result5 V c :=
  (dat2 V c).arrAt_eq_of_cover 5 (result5 V c) (fun t _ => by
      show (cfg2.win 5).cut (grid2.coords t) ((dat2 V c).after 5 t) = _
      funext j
      have hj : j = ix2 (j 0) (j 1) := eq_ix2 j
      refine Eq.trans ?_ ((congrArg _ hj).trans (read5 c t _ (j 0) (j 1))).symm
      show ((dat2 V c).after 5 t : Vec Ideal S1000x5 .i32) j = _
      exact (congrArg _ hj).trans (left5 V c t (j 0) (j 1)))
    fun i => by
      have h0 : (i 0 : Nat) < 10000 := (i 0).isLt
      have h1 : (i 1 : Nat) < 5 := (i 1).isLt
      have hN : cfg2.N = 10 := N_2
      refine ⟨⟨(i 0 : Nat) / 1000, by omega⟩, flush2_5 _, ?_⟩
      generalize ht : (⟨(i 0 : Nat) / 1000, by omega⟩ : Fin cfg2.N) = t
      have hv : t.val = (i 0 : Nat) / 1000 := by rw [← ht]
      show i ∈ ((View.whole main_v14_0).slice (win2_5.rect t)).set
      rw [View.set_slice_whole, Rect.mem_set_unit]
      intro a
      match a with
      | ⟨0, _⟩ => show win2_5.index t 0 * 1000 ≤ (i 0 : Nat) ∧ (i 0 : Nat) < win2_5.index t 0 * 1000 + 1000
                  rw [(moves t).2.1.1]; omega
      | ⟨1, _⟩ => show win2_5.index t 1 * 5 ≤ (i 1 : Nat) ∧ (i 1 : Nat) < win2_5.index t 1 * 5 + 5
                  rw [(moves t).2.1.2]; omega

/-- A block of the scores window, read off an array. -/
theorem read6 (c : Dev nD) (t : Fin cfg2.N) (G : Buf (Elt Ideal) ((c : Thread nD τ).loc main_v14_1)) (p : Fin 1000) (k : Fin 5) :
    ((cfg2.win 6).blk t).view.read (Elt Ideal) G (ix2 p k) = G (ix2 (at' t.val p (lt2 t)) k) := by
  rw [View.read_apply]
  show G _ = _
  congr 1
  funext a
  apply Fin.ext
  match a with
  | ⟨0, _⟩ => show win2_6.index t 0 * 1000 + 1 * p.val = 1000 * t.val + p.val; rw [(moves t).2.2.1.1]; omega
  | ⟨1, _⟩ => show win2_6.index t 1 * 5 + 1 * k.val = k.val; rw [(moves t).2.2.1.2]; omega

/-- When the third region is done the scores array is this. -/
theorem final6 (c : Dev nD) : (dat2 V c).arrAt 6 cfg2.N = result6 V c :=
  (dat2 V c).arrAt_eq_of_cover 6 (result6 V c) (fun t _ => by
      show (cfg2.win 6).cut (grid2.coords t) ((dat2 V c).after 6 t) = _
      funext j
      have hj : j = ix2 (j 0) (j 1) := eq_ix2 j
      refine Eq.trans ?_ ((congrArg _ hj).trans (read6 c t _ (j 0) (j 1))).symm
      show ((dat2 V c).after 6 t : Vec Ideal S1000x5 .f32) j = _
      exact (congrArg _ hj).trans (left6 V c t (j 0) (j 1)))
    fun i => by
      have h0 : (i 0 : Nat) < 10000 := (i 0).isLt
      have h1 : (i 1 : Nat) < 5 := (i 1).isLt
      have hN : cfg2.N = 10 := N_2
      refine ⟨⟨(i 0 : Nat) / 1000, by omega⟩, flush2_6 _, ?_⟩
      generalize ht : (⟨(i 0 : Nat) / 1000, by omega⟩ : Fin cfg2.N) = t
      have hv : t.val = (i 0 : Nat) / 1000 := by rw [← ht]
      show i ∈ ((View.whole main_v14_1).slice (win2_6.rect t)).set
      rw [View.set_slice_whole, Rect.mem_set_unit]
      intro a
      match a with
      | ⟨0, _⟩ => show win2_6.index t 0 * 1000 ≤ (i 0 : Nat) ∧ (i 0 : Nat) < win2_6.index t 0 * 1000 + 1000
                  rw [(moves t).2.2.1.1]; omega
      | ⟨1, _⟩ => show win2_6.index t 1 * 5 ≤ (i 1 : Nat) ∧ (i 1 : Nat) < win2_6.index t 1 * 5 + 5
                  rw [(moves t).2.2.1.2]; omega

/-- A block of the weights window, read off an array. -/
theorem read7 (c : Dev nD) (t : Fin cfg2.N) (G : Buf (Elt Ideal) ((c : Thread nD τ).loc main_v14_2)) (p : Fin 1000) (k : Fin 5) :
    ((cfg2.win 7).blk t).view.read (Elt Ideal) G (ix2 p k) = G (ix2 (at' t.val p (lt2 t)) k) := by
  rw [View.read_apply]
  show G _ = _
  congr 1
  funext a
  apply Fin.ext
  match a with
  | ⟨0, _⟩ => show win2_7.index t 0 * 1000 + 1 * p.val = 1000 * t.val + p.val; rw [(moves t).2.2.2.1]; omega
  | ⟨1, _⟩ => show win2_7.index t 1 * 5 + 1 * k.val = k.val; rw [(moves t).2.2.2.2]; omega

/-- When the third region is done the weights array is this. -/
theorem final7 (c : Dev nD) : (dat2 V c).arrAt 7 cfg2.N = result7 V c :=
  (dat2 V c).arrAt_eq_of_cover 7 (result7 V c) (fun t _ => by
      show (cfg2.win 7).cut (grid2.coords t) ((dat2 V c).after 7 t) = _
      funext j
      have hj : j = ix2 (j 0) (j 1) := eq_ix2 j
      refine Eq.trans ?_ ((congrArg _ hj).trans (read7 c t _ (j 0) (j 1))).symm
      show ((dat2 V c).after 7 t : Vec Ideal S1000x5 .f32) j = _
      exact (congrArg _ hj).trans (left7 V c t (j 0) (j 1)))
    fun i => by
      have h0 : (i 0 : Nat) < 10000 := (i 0).isLt
      have h1 : (i 1 : Nat) < 5 := (i 1).isLt
      have hN : cfg2.N = 10 := N_2
      refine ⟨⟨(i 0 : Nat) / 1000, by omega⟩, flush2_7 _, ?_⟩
      generalize ht : (⟨(i 0 : Nat) / 1000, by omega⟩ : Fin cfg2.N) = t
      have hv : t.val = (i 0 : Nat) / 1000 := by rw [← ht]
      show i ∈ ((View.whole main_v14_2).slice (win2_7.rect t)).set
      rw [View.set_slice_whole, Rect.mem_set_unit]
      intro a
      match a with
      | ⟨0, _⟩ => show win2_7.index t 0 * 1000 ≤ (i 0 : Nat) ∧ (i 0 : Nat) < win2_7.index t 0 * 1000 + 1000
                  rw [(moves t).2.2.2.1]; omega
      | ⟨1, _⟩ => show win2_7.index t 1 * 5 ≤ (i 1 : Nat) ∧ (i 1 : Nat) < win2_7.index t 1 * 5 + 5
                  rw [(moves t).2.2.2.2]; omega

end Cert.Near
-- ==== Proof.Net.lean ====
/- What the arrays of the fourth region hold when it is done: the mean embeddings of the clusters, and the places
   and the two weight matrices of the ten clusters nearest to each cluster. -/
module

public import proofs.«01_k».proof.Proof.Snn
public import proofs.«01_k».proof.Proof.Near

@[expose] public section

noncomputable section

open Idealize.ShloMosaic Idealize.ShloMosaic.TcCoe Idealize.SL.Sem Idealize.ShloMosaic.ValueIdx
open Idealize.ShloMosaic.Pipeline (Dat)

namespace Cert.Net

open Cert.KernelIdeal Cert.KernelIdeal.Gen Cert.Emb

variable (V : (c : Dev nD) → (b : Ref sig .tc) → Buf (Elt Ideal) ((c : Thread nD τ).loc b))

/-- The sums block is the sums array. -/
theorem sums (c : Dev nD) (t : Fin cfg3.N) : (iblk3 V c 0 t : Vec Ideal S1000x16 .f32) = V c main_v11_0 := by
  funext j
  unfold iblk3
  rw [View.read_apply]
  show V c main_v11_0 _ = _
  congr 1
  funext a
  apply Fin.ext
  match a with
  | ⟨0, _⟩ => show 0 * 1000 + 1 * (j 0).val = (j 0).val; omega
  | ⟨1, _⟩ => show 0 * 16 + 1 * (j 1).val = (j 1).val; omega

/-- The counts block is the counts array. -/
theorem counts (c : Dev nD) (t : Fin cfg3.N) : (iblk3 V c 1 t : Vec Ideal S1000x1 .f32) = V c main_v11_1 := by
  funext j
  unfold iblk3
  rw [View.read_apply]
  show V c main_v11_1 _ = _
  congr 1
  funext a
  apply Fin.ext
  match a with
  | ⟨0, _⟩ => show 0 * 1000 + 1 * (j 0).val = (j 0).val; omega
  | ⟨1, _⟩ => show 0 * 1 + 1 * (j 1).val = (j 1).val; omega

/-- The gain block is the gain array. -/
theorem gain (c : Dev nD) (t : Fin cfg3.N) : (iblk3 V c 2 t : Vec Ideal S1x1 .f32) = V c main_v15 := by
  funext j
  unfold iblk3
  rw [View.read_apply]
  show V c main_v15 _ = _
  congr 1
  funext a
  apply Fin.ext
  match a with
  | ⟨0, _⟩ => show 0 * 1 + 1 * (j 0).val = (j 0).val; omega
  | ⟨1, _⟩ => show 0 * 1 + 1 * (j 1).val = (j 1).val; omega

/-- The shift block is the shift array. -/
theorem shift (c : Dev nD) (t : Fin cfg3.N) : (iblk3 V c 3 t : Vec Ideal S1x1 .f32) = V c main_v16 := by
  funext j
  unfold iblk3
  rw [View.read_apply]
  show V c main_v16 _ = _
  congr 1
  funext a
  apply Fin.ext
  match a with
  | ⟨0, _⟩ => show 0 * 1 + 1 * (j 0).val = (j 0).val; omega
  | ⟨1, _⟩ => show 0 * 1 + 1 * (j 1).val = (j 1).val; omega

/-- The mean embedding of cluster `p`. -/
def mean (c : Dev nD) (p : Fin 1000) (q : Fin 16) : EReal :=
  Rounds.mean (V c main_v11_0 (ix2 p q)) (V c main_v11_1 (ix2 p 0))

/-- The negated distance between the means of two clusters. -/
def far (c : Dev nD) (p q : Fin 1000) : EReal := Rounds.negDist (mean V c p) (mean V c q)

/-- The place of the `k`-th nearest cluster. -/
def place (c : Dev nD) (p : Fin 1000) (k : Fin 10) : BitVec 32 := BitVec.ofNat 32 (TopPick.pos (far V c p) k.val).val

/-- The weight of the `k`-th nearest cluster before the division. -/
def raw (c : Dev nD) (p : Fin 1000) (k : Fin 10) : EReal :=
  Ideal.logistic (Near.line (V c main_v15 (ix2 0 0)) (TopPick.val (far V c p) k.val) (V c main_v16 (ix2 0 0)))

/-- The sum of the weights of all edges at a cluster. -/
def total (c : Dev nD) (q : Fin 1000) : EReal := Snn.ends (place V c) (raw V c) q

/-- The mean embeddings array. -/
def result4 (c : Dev nD) : Buf (Elt Ideal) ((c : Thread nD τ).loc main_v17_0) := fun i => mean V c (i 0) (i 1)

/-- The places array. -/
def result5 (c : Dev nD) : Buf (Elt Ideal) ((c : Thread nD τ).loc main_v17_1) := fun i => place V c (i 0) (i 1)

/-- The weights array at the edges' sources. -/
def result6 (c : Dev nD) : Buf (Elt Ideal) ((c : Thread nD τ).loc main_v17_2) :=
  fun i => Ideal.div (raw V c (i 0) (i 1)) (Bip.eps + total V c (i 0))

/-- The weights array at the edges' targets. -/
def result7 (c : Dev nD) : Buf (Elt Ideal) ((c : Thread nD τ).loc main_v17_3) :=
  fun i => Ideal.div (raw V c (i 0) (i 1))
    (Bip.eps + ∑ q : Fin 1000, if place V c (i 0) (i 1) = BitVec.ofNat 32 q.val then total V c q else 0)

/-- The distances, as the kernel finds them. -/
theorem block (c : Dev nD) (t : Fin cfg3.N) (p q : Fin 1000) :
    Snn.net (iblk3 V c 0 t) (iblk3 V c 1 t) (ix2 p q) = far V c p q := by
  unfold Snn.net
  rw [View.ld_unit_zero (S := S1000x16) off0, View.ld_unit_zero (S := S1000x1) off0]
  refine (Rounds.snn_dist _ _ p q).trans ?_
  simp only [sums, counts]
  rfl

/-- The places, as the kernel finds them. -/
theorem places (c : Dev nD) (t : Fin cfg3.N) (p : Fin 1000) (k : Fin 10) :
    Snn.I (iblk3 V c 0 t) (iblk3 V c 1 t) (iblk3 V c 2 t) (iblk3 V c 3 t) (ix2 p k) = place V c p k :=
  (Snn.places _ _ _ _ p k).trans (Rounds.place_read _ (far V c) (block V c t) k.val p)

/-- The weights before the division, as the kernel finds them. -/
theorem raws (c : Dev nD) (t : Fin cfg3.N) (p : Fin 1000) (k : Fin 10) :
    Snn.W (iblk3 V c 0 t) (iblk3 V c 1 t) (iblk3 V c 2 t) (iblk3 V c 3 t) (ix2 p k) = raw V c p k := by
  refine (Snn.raw _ _ _ _ p k).trans ?_
  rw [Rounds.best_read _ (far V c) (block V c t) k.val p, gain, shift]
  rfl

/-- What the point leaves in the means block. -/
theorem left4 (c : Dev nD) (t : Fin cfg3.N) (p : Fin 1000) (k : Fin 16) :
    ((dat3 V c).after 4 t : Vec Ideal S1000x16 .f32) (ix2 p k) = result4 V c (ix2 p k) := by
  rw [after3_4]
  unfold out3_4
  rw [View.canon_unit_zero off0]
  simp only [View.ld_unit_zero (S := S1000x16) off0, View.ld_unit_zero (S := S1000x1) off0]
  refine (Rounds.mean_read _ _ p k).trans ?_
  rw [sums, counts]
  rfl

/-- What the point leaves in the places block. -/
theorem left5 (c : Dev nD) (t : Fin cfg3.N) (p : Fin 1000) (k : Fin 10) :
    ((dat3 V c).after 5 t : Vec Ideal S1000x10 .i32) (ix2 p k) = result5 V c (ix2 p k) := by
  rw [after3_5]
  unfold out3_5
  rw [View.canon_unit_zero off0]
  exact places V c t p k

/-- What the point leaves in the first weights block. -/
theorem left6 (c : Dev nD) (t : Fin cfg3.N) (p : Fin 1000) (k : Fin 10) :
    ((dat3 V c).after 6 t : Vec Ideal S1000x10 .f32) (ix2 p k) = result6 V c (ix2 p k) := by
  rw [after3_6]
  refine (Snn.out6 _ _ _ _ p k).trans ?_
  rw [raws]
  simp only [places, raws]
  rfl

/-- What the point leaves in the second weights block. -/
theorem left7 (c : Dev nD) (t : Fin cfg3.N) (p : Fin 1000) (k : Fin 10) :
    ((dat3 V c).after 7 t : Vec Ideal S1000x10 .f32) (ix2 p k) = result7 V c (ix2 p k) := by
  rw [after3_7]
  refine (Snn.out7 _ _ _ _ p k).trans ((Snn.share_read _ _ _ _ k.val k.isLt _ p).trans ?_)
  simp only [places, raws]
  rfl

/-- The block of output window 4, read off an array. -/
theorem read4 (c : Dev nD) (t : Fin cfg3.N) (G : Buf (Elt Ideal) ((c : Thread nD τ).loc main_v17_0)) (p : Fin 1000) (k : Fin 16) :
    ((cfg3.win 4).blk t).view.read (Elt Ideal) G (ix2 p k) = G (ix2 p k) := by
  rw [View.read_apply]
  show G _ = _
  congr 1
  funext a
  apply Fin.ext
  match a with
  | ⟨0, _⟩ => show 0 * 1000 + 1 * p.val = p.val; omega
  | ⟨1, _⟩ => show 0 * 16 + 1 * k.val = k.val; omega

/-- When the fourth region is done the array of output window 4 is this. -/
theorem final4 (c : Dev nD) : (dat3 V c).arrAt 4 cfg3.N = result4 V c :=
  (dat3 V c).arrAt_eq_of_cover 4 (result4 V c) (fun t _ => by
      show (cfg3.win 4).cut (grid3.coords t) ((dat3 V c).after 4 t) = _
      funext j
      have hj : j = ix2 (j 0) (j 1) := eq_ix2 j
      refine Eq.trans ?_ ((congrArg _ hj).trans (read4 c t _ (j 0) (j 1))).symm
      show ((dat3 V c).after 4 t : Vec Ideal S1000x16 .f32) j = _
      exact (congrArg _ hj).trans (left4 V c t (j 0) (j 1)))
    fun i => by
      have h0 : (i 0 : Nat) < 1000 := (i 0).isLt
      have h1 : (i 1 : Nat) < 16 := (i 1).isLt
      refine ⟨t3_0, flush3_4 _, ?_⟩
      show i ∈ ((View.whole main_v17_0).slice (win3_4.rect t3_0)).set
      rw [View.set_slice_whole, Rect.mem_set_unit]
      intro a
      match a with
      | ⟨0, _⟩ => show 0 * 1000 ≤ (i 0 : Nat) ∧ (i 0 : Nat) < 0 * 1000 + 1000; omega
      | ⟨1, _⟩ => show 0 * 16 ≤ (i 1 : Nat) ∧ (i 1 : Nat) < 0 * 16 + 16; omega

/-- The block of output window 5, read off an array. -/
theorem read5 (c : Dev nD) (t : Fin cfg3.N) (G : Buf (Elt Ideal) ((c : Thread nD τ).loc main_v17_1)) (p : Fin 1000) (k : Fin 10) :
    ((cfg3.win 5).blk t).view.read (Elt Ideal) G (ix2 p k) = G (ix2 p k) := by
  rw [View.read_apply]
  show G _ = _
  congr 1
  funext a
  apply Fin.ext
  match a with
  | ⟨0, _⟩ => show 0 * 1000 + 1 * p.val = p.val; omega
  | ⟨1, _⟩ => show 0 * 10 + 1 * k.val = k.val; omega

/-- When the fourth region is done the array of output window 5 is this. -/
theorem final5 (c : Dev nD) : (dat3 V c).arrAt 5 cfg3.N = result5 V c :=
  (dat3 V c).arrAt_eq_of_cover 5 (result5 V c) (fun t _ => by
      show (cfg3.win 5).cut (grid3.coords t) ((dat3 V c).after 5 t) = _
      funext j
      have hj : j = ix2 (j 0) (j 1) := eq_ix2 j
      refine Eq.trans ?_ ((congrArg _ hj).trans (read5 c t _ (j 0) (j 1))).symm
      show ((dat3 V c).after 5 t : Vec Ideal S1000x10 .i32) j = _
      exact (congrArg _ hj).trans (left5 V c t (j 0) (j 1)))
    fun i => by
      have h0 : (i 0 : Nat) < 1000 := (i 0).isLt
      have h1 : (i 1 : Nat) < 10 := (i 1).isLt
      refine ⟨t3_0, flush3_5 _, ?_⟩
      show i ∈ ((View.whole main_v17_1).slice (win3_5.rect t3_0)).set
      rw [View.set_slice_whole, Rect.mem_set_unit]
      intro a
      match a with
      | ⟨0, _⟩ => show 0 * 1000 ≤ (i 0 : Nat) ∧ (i 0 : Nat) < 0 * 1000 + 1000; omega
      | ⟨1, _⟩ => show 0 * 10 ≤ (i 1 : Nat) ∧ (i 1 : Nat) < 0 * 10 + 10; omega

/-- The block of output window 6, read off an array. -/
theorem read6 (c : Dev nD) (t : Fin cfg3.N) (G : Buf (Elt Ideal) ((c : Thread nD τ).loc main_v17_2)) (p : Fin 1000) (k : Fin 10) :
    ((cfg3.win 6).blk t).view.read (Elt Ideal) G (ix2 p k) = G (ix2 p k) := by
  rw [View.read_apply]
  show G _ = _
  congr 1
  funext a
  apply Fin.ext
  match a with
  | ⟨0, _⟩ => show 0 * 1000 + 1 * p.val = p.val; omega
  | ⟨1, _⟩ => show 0 * 10 + 1 * k.val = k.val; omega

/-- When the fourth region is done the array of output window 6 is this. -/
theorem final6 (c : Dev nD) : (dat3 V c).arrAt 6 cfg3.N = result6 V c :=
  (dat3 V c).arrAt_eq_of_cover 6 (result6 V c) (fun t _ => by
      show (cfg3.win 6).cut (grid3.coords t) ((dat3 V c).after 6 t) = _
      funext j
      have hj : j = ix2 (j 0) (j 1) := eq_ix2 j
      refine Eq.trans ?_ ((congrArg _ hj).trans (read6 c t _ (j 0) (j 1))).symm
      show ((dat3 V c).after 6 t : Vec Ideal S1000x10 .f32) j = _
      exact (congrArg _ hj).trans (left6 V c t (j 0) (j 1)))
    fun i => by
      have h0 : (i 0 : Nat) < 1000 := (i 0).isLt
      have h1 : (i 1 : Nat) < 10 := (i 1).isLt
      refine ⟨t3_0, flush3_6 _, ?_⟩
      show i ∈ ((View.whole main_v17_2).slice (win3_6.rect t3_0)).set
      rw [View.set_slice_whole, Rect.mem_set_unit]
      intro a
      match a with
      | ⟨0, _⟩ => show 0 * 1000 ≤ (i 0 : Nat) ∧ (i 0 : Nat) < 0 * 1000 + 1000; omega
      | ⟨1, _⟩ => show 0 * 10 ≤ (i 1 : Nat) ∧ (i 1 : Nat) < 0 * 10 + 10; omega

/-- The block of output window 7, read off an array. -/
theorem read7 (c : Dev nD) (t : Fin cfg3.N) (G : Buf (Elt Ideal) ((c : Thread nD τ).loc main_v17_3)) (p : Fin 1000) (k : Fin 10) :
    ((cfg3.win 7).blk t).view.read (Elt Ideal) G (ix2 p k) = G (ix2 p k) := by
  rw [View.read_apply]
  show G _ = _
  congr 1
  funext a
  apply Fin.ext
  match a with
  | ⟨0, _⟩ => show 0 * 1000 + 1 * p.val = p.val; omega
  | ⟨1, _⟩ => show 0 * 10 + 1 * k.val = k.val; omega

/-- When the fourth region is done the array of output window 7 is this. -/
theorem final7 (c : Dev nD) : (dat3 V c).arrAt 7 cfg3.N = result7 V c :=
  (dat3 V c).arrAt_eq_of_cover 7 (result7 V c) (fun t _ => by
      show (cfg3.win 7).cut (grid3.coords t) ((dat3 V c).after 7 t) = _
      funext j
      have hj : j = ix2 (j 0) (j 1) := eq_ix2 j
      refine Eq.trans ?_ ((congrArg _ hj).trans (read7 c t _ (j 0) (j 1))).symm
      show ((dat3 V c).after 7 t : Vec Ideal S1000x10 .f32) j = _
      exact (congrArg _ hj).trans (left7 V c t (j 0) (j 1)))
    fun i => by
      have h0 : (i 0 : Nat) < 1000 := (i 0).isLt
      have h1 : (i 1 : Nat) < 10 := (i 1).isLt
      refine ⟨t3_0, flush3_7 _, ?_⟩
      show i ∈ ((View.whole main_v17_3).slice (win3_7.rect t3_0)).set
      rw [View.set_slice_whole, Rect.mem_set_unit]
      intro a
      match a with
      | ⟨0, _⟩ => show 0 * 1000 ≤ (i 0 : Nat) ∧ (i 0 : Nat) < 0 * 1000 + 1000; omega
      | ⟨1, _⟩ => show 0 * 10 ≤ (i 1 : Nat) ∧ (i 1 : Nat) < 0 * 10 + 10; omega

end Cert.Net
-- ==== Proof.Spec.lean ====
/- The quantities both programs compute, in plain terms: the pooled means, the distances, the nearest clusters, the
   scores and the weights, as functions of the embeddings, the cluster lists and the four scalars. -/
module

public import proofs.«01_k».proof.Proof.Net

@[expose] public section

noncomputable section

open Idealize.ShloMosaic Idealize.ShloMosaic.ValueIdx

namespace Cert.Spec

/-- One of the first thousand rows, as a row. -/
def low (s : Fin 1000) : Fin 10000 := ⟨s.val, by omega⟩

variable (e : Fin 10000 → Fin 16 → EReal) (c0 c1 : Fin 10000 → BitVec 32)

/-- The sum of the embeddings assigned to a cluster. -/
def sums (p : Fin 1000) (q : Fin 16) : EReal := Pool.pooled (fun i => e (low (Pool.src (c0 i))) q) c1 p.val

/-- The number of embeddings assigned to a cluster. -/
def count (p : Fin 1000) : EReal := Pool.pooled (fun _ => 1) c1 p.val

/-- The mean embedding of a cluster. -/
def mean (p : Fin 1000) (q : Fin 16) : EReal := Rounds.mean (sums e c0 c1 p q) (count c1 p)

/-- The negated distance of an embedding from a cluster. -/
def far (r : Fin 10000) (q : Fin 1000) : EReal := Rounds.negDist (e r) (mean e c0 c1 q)

/-- The negated distance between two clusters. -/
def net (p q : Fin 1000) : EReal := Rounds.negDist (mean e c0 c1 p) (mean e c0 c1 q)

/-- The number of the `k`-th nearest cluster. -/
def near (f : Fin 1000 → EReal) (k : ℕ) : Fin 1000 := TopPick.pos f k

/-- A cluster's number as a word. -/
def word (p : Fin 1000) : BitVec 32 := BitVec.ofNat 32 p.val

/-- Two clusters of the same word are the same. -/
theorem word_inj (p q : Fin 1000) : word p = word q ↔ p = q := by
  unfold word
  rw [Reads.ofNat_inj (by have := p.isLt; omega) (by have := q.isLt; omega)]
  exact Fin.ext_iff.symm

variable (g b : EReal)

/-- The score of the `k`-th nearest cluster. -/
def score (f : Fin 1000 → EReal) (k : ℕ) : EReal := Near.line g (TopPick.val f k) b

/-- The weight of the `k`-th of the five nearest clusters. -/
def weight (f : Fin 1000 → EReal) (k : Fin 5) : EReal := Bip.weight (fun l => score g b f l.val) k

/-- The weight of an edge between clusters before the division. -/
def raw (f : Fin 1000 → EReal) (k : ℕ) : EReal := Ideal.logistic (score g b f k)

/-- The sum of the weights of all edges at a cluster, as source and as target. -/
def total (d : Fin 1000 → Fin 1000 → EReal) (q : Fin 1000) : EReal :=
  (∑ k : Fin 10, raw g b (d q) k.val) + ∑ p : Fin 1000, ∑ k : Fin 10, if near (d p) k.val = q then raw g b (d p) k.val else 0

/-- The weight of an edge seen from its source. -/
def outward (d : Fin 1000 → Fin 1000 → EReal) (p : Fin 1000) (k : ℕ) : EReal :=
  Ideal.div (raw g b (d p) k) (Bip.eps + total g b d p)

/-- The weight of an edge seen from its target. -/
def inward (d : Fin 1000 → Fin 1000 → EReal) (p : Fin 1000) (k : ℕ) : EReal :=
  Ideal.div (raw g b (d p) k) (Bip.eps + total g b d (near (d p) k))

/-- The kernel's sum at a cluster is that sum. -/
theorem total_eq (d : Fin 1000 → Fin 1000 → EReal) (q : Fin 1000) :
    Snn.ends (fun p k => word (near (d p) k.val)) (fun p k => raw g b (d p) k.val) q = total g b d q := by
  unfold Snn.ends total
  refine congrArg (_ + ·) (Finset.sum_congr rfl fun p _ => Finset.sum_congr rfl fun k _ => ?_)
  exact if_congr (word_inj _ q) rfl rfl

/-- The sum a position picks out. -/
theorem picked (f : Fin 1000 → EReal) (p : Fin 1000) :
    (∑ q : Fin 1000, if word p = BitVec.ofNat 32 q.val then f q else 0) = f p := by
  refine (Finset.sum_congr rfl fun q _ => if_congr (word_inj p q) rfl rfl).trans ?_
  rw [Finset.sum_ite_eq, if_pos (Finset.mem_univ _)]

end Cert.Spec
-- ==== Proof.Finite.lean ====
/- Numbers that are not infinite: the encodings and the means of finite inputs are finite, and the distance the kernel
   expands is, for finite rows, the sum of the squared differences. -/
module

public import proofs.«01_k».proof.Proof.Spec
public import Idealize.ShloMosaic.Lib.IdealHost

@[expose] public section

noncomputable section

open Idealize.ShloMosaic Idealize.ShloMosaic.ValueIdx

namespace Cert.Finite

/-- Neither infinity. -/
def Fin' (x : EReal) : Prop := ∃ r : ℝ, x = (r : EReal)

/-- A number of an absolute value below `∞` is finite. -/
theorem of_abs {x : EReal} (h : max x (-x) < ⊤) : Fin' x := by
  induction x with
  | bot => simp at h
  | top => simp at h
  | coe r => exact ⟨r, rfl⟩

/-- A sum is finite. -/
theorem add {x y : EReal} : Fin' x → Fin' y → Fin' (x + y)
  | ⟨a, ha⟩, ⟨b, hb⟩ => ⟨a + b, by rw [ha, hb, EReal.coe_add]⟩

/-- A product is finite. -/
theorem mul {x y : EReal} : Fin' x → Fin' y → Fin' (x * y)
  | ⟨a, ha⟩, ⟨b, hb⟩ => ⟨a * b, by rw [ha, hb, EReal.coe_mul]⟩

/-- Zero is finite. -/
theorem zero : Fin' 0 := ⟨0, EReal.coe_zero.symm⟩

/-- One is finite. -/
theorem one : Fin' 1 := ⟨1, EReal.coe_one.symm⟩

/-- A hyperbolic tangent is finite. -/
theorem tanh {x : EReal} : Fin' x → Fin' (Ideal.tanh x)
  | ⟨a, ha⟩ => ⟨Real.tanh a, by rw [ha]; rfl⟩

/-- A sum of finitely many is finite. -/
theorem sum {ι : Type} (s : Finset ι) (f : ι → EReal) (h : ∀ i, Fin' (f i)) : Fin' (∑ i ∈ s, f i) := by
  classical
  induction s using Finset.induction_on with
  | empty => simpa using zero
  | insert a s ha ih => rw [Finset.sum_insert ha]; exact add (h a) ih

/-- A sum of reals, as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A word whose exponent is not all ones stands for a finite number. -/
theorem word {b : BitVec 32} (h : (b.extractLsb' 23 8).toNat ≠ 255) : Fin' (Ideal.ofBits .f32 b) := by
  show Fin' (Ideal.ieee 8 23 b)
  unfold Ideal.ieee
  simp only []
  rw [if_neg (by exact h)]
  split
  · exact ⟨_, rfl⟩
  · exact ⟨_, rfl⟩

/-- The Gaussian unit of a finite number. -/
theorem gelu {x : EReal} (h : Fin' x) : Fin' (Mlp.gelu x) :=
  mul h (mul (word (by decide)) (add (word (by decide)) (tanh (mul (word (by decide))
    (add h (mul (word (by decide)) (mul h (mul h h))))))))

/-- A dense layer of finite numbers. -/
theorem dense {K M : ℕ} {x : Fin K → EReal} {W : Fin K → Fin M → EReal} {b : Fin M → EReal}
    (hx : ∀ k, Fin' (x k)) (hW : ∀ k l, Fin' (W k l)) (hb : ∀ l, Fin' (b l)) (q : Fin M) : Fin' (Mlp.dense x W b q) :=
  add (sum _ _ fun k => mul (hx k) (hW k q)) (hb q)

/-- The encoding of a finite row by finite layers. -/
theorem encode {x : Fin 128 → EReal} {W1 : Fin 128 → Fin 256 → EReal} {b1 : Fin 256 → EReal} {W2 : Fin 256 → Fin 256 → EReal}
    {b2 : Fin 256 → EReal} {W3 : Fin 256 → Fin 16 → EReal} {b3 : Fin 16 → EReal} (hx : ∀ k, Fin' (x k)) (h1 : ∀ k l, Fin' (W1 k l))
    (hb1 : ∀ l, Fin' (b1 l)) (h2 : ∀ k l, Fin' (W2 k l)) (hb2 : ∀ l, Fin' (b2 l)) (h3 : ∀ k l, Fin' (W3 k l)) (hb3 : ∀ l, Fin' (b3 l))
    (q : Fin 16) : Fin' (Mlp.encode x W1 b1 W2 b2 W3 b3 q) :=
  dense (fun _ => gelu (dense (fun _ => gelu (dense hx h1 hb1 _)) h2 hb2 _)) h3 hb3 q

/-- A sum over a cluster of finite numbers. -/
theorem pooled {n : ℕ} {g : Fin n → EReal} (hg : ∀ i, Fin' (g i)) (w : Fin n → BitVec 32) (p : ℕ) : Fin' (Pool.pooled g w p) :=
  sum _ _ fun i => by split; exacts [hg i, zero]

/-- The mean, as the sum divided by the greater of the count and one. -/
theorem mean_eq {s c : EReal} (hc : Fin' c) : Rounds.mean s c = Ideal.div s (max c 1) := by
  obtain ⟨a, rfl⟩ := hc
  have h1 : (1 : EReal) ≤ max 1 (a : EReal) := le_max_left _ _
  have h0 : max 1 (a : EReal) ≠ 0 := fun e => by rw [e] at h1; exact absurd h1 (by simp)
  unfold Rounds.mean Ideal.div
  rw [max_comm, if_neg (by rwa [max_comm]), if_neg (by rwa [max_comm]), one_mul]

/-- The mean of finite sums over a finite count. -/
theorem mean {s c : EReal} (hs : Fin' s) (hc : Fin' c) : Fin' (Rounds.mean s c) := by
  have e := mean_eq (s := s) hc
  obtain ⟨a, rfl⟩ := hc
  obtain ⟨b, rfl⟩ := hs
  have h1 : (1 : EReal) ≤ max (a : EReal) 1 := le_max_right _ _
  have h0 : max (a : EReal) 1 ≠ 0 := fun e => by rw [e] at h1; exact absurd h1 (by simp)
  rw [e]
  unfold Ideal.div
  rw [if_neg h0, show max (a : EReal) 1 = ((max a 1 : ℝ) : EReal) from by rw [← EReal.coe_one]; exact (EReal.coe_strictMono.monotone.map_max (a := a) (b := 1)).symm,
    ← EReal.coe_inv, ← EReal.coe_mul]
  exact ⟨_, rfl⟩

/-- The word the kernel writes for two. -/
theorem two_eq : Rounds.two = ((2 : ℝ) : EReal) := by
  unfold Rounds.two
  simp [Ideal.ofBits, Ideal.ieee, -EReal.coe_mul]; norm_num

/-- The expanded distance of finite rows is finite. -/
theorem negDist_fin {a b : Fin 16 → EReal} (ha : ∀ j, Fin' (a j)) (hb : ∀ j, Fin' (b j)) : Fin' (Rounds.negDist a b) := by
  choose x hx using ha
  choose y hy using hb
  obtain rfl : a = fun j => (x j : EReal) := funext hx
  obtain rfl : b = fun j => (y j : EReal) := funext hy
  unfold Rounds.negDist
  rw [two_eq]
  simp only [← EReal.coe_mul, ← coe_sum, ← EReal.coe_sub, ← EReal.coe_add, ← EReal.coe_neg]
  exact ⟨_, rfl⟩

/-- The expanded distance is the sum of the squared differences. -/
theorem negDist_eq {a b : Fin 16 → EReal} (ha : ∀ j, Fin' (a j)) (hb : ∀ j, Fin' (b j)) :
    Rounds.negDist a b = -(∑ j, (a j - b j) * (a j - b j)) := by
  choose x hx using ha
  choose y hy using hb
  obtain rfl : a = fun j => (x j : EReal) := funext hx
  obtain rfl : b = fun j => (y j : EReal) := funext hy
  unfold Rounds.negDist
  rw [two_eq]
  simp only [← EReal.coe_mul, ← coe_sum, ← EReal.coe_sub, ← EReal.coe_add, ← EReal.coe_neg]
  refine congrArg _ ?_
  rw [neg_inj, Finset.mul_sum, ← Finset.sum_sub_distrib, ← Finset.sum_add_distrib]
  exact Finset.sum_congr rfl fun j _ => by ring

/-- Exchanging the rows of a sum of squared differences. -/
theorem sq_comm {a b : Fin 16 → EReal} (ha : ∀ j, Fin' (a j)) (hb : ∀ j, Fin' (b j)) :
    (∑ j, (b j - a j) * (b j - a j)) = ∑ j, (a j - b j) * (a j - b j) := by
  refine Finset.sum_congr rfl fun j _ => ?_
  obtain ⟨x, hx⟩ := ha j
  obtain ⟨y, hy⟩ := hb j
  rw [hx, hy, ← EReal.coe_sub, ← EReal.coe_sub, ← EReal.coe_mul, ← EReal.coe_mul]
  exact congrArg _ (by ring)

section Spec

variable {e : Fin 10000 → Fin 16 → EReal} (he : ∀ r q, Fin' (e r q)) (c0 c1 : Fin 10000 → BitVec 32)
include he

/-- The means of finite embeddings. -/
theorem means (p : Fin 1000) (q : Fin 16) : Fin' (Spec.mean e c0 c1 p q) :=
  mean (pooled (fun _ => he _ _) _ _) (pooled (fun _ => one) _ _)

/-- The distances of finite embeddings from the means. -/
theorem far (r : Fin 10000) (q : Fin 1000) : Fin' (Spec.far e c0 c1 r q) :=
  negDist_fin (he r) (means he c0 c1 q)

/-- The distances between the means of finite embeddings. -/
theorem net (p q : Fin 1000) : Fin' (Spec.net e c0 c1 p q) :=
  negDist_fin (means he c0 c1 p) (means he c0 c1 q)

end Spec

/-- A finite number is above `-∞`. -/
theorem ne_bot {x : EReal} : Fin' x → x ≠ ⊥
  | ⟨a, ha⟩ => by rw [ha]; exact EReal.coe_ne_bot a

end Cert.Finite
-- ==== Proof.Range.lean ====
/- What the condition on the arguments says: the sources lie among the first thousand rows, and the features, the weights
   and the biases are finite. -/
module

public import proofs.«01_k».proof.Proof.Finite
public import proofs.«01_k».proof.Pre_in_range
public import Idealize.ShloMosaic.Lib.ReduceAll
public import Idealize.ShloMosaic.Lib.Pipeline.Value

@[expose] public section

noncomputable section

open Idealize.ShloMosaic Idealize.ShloMosaic.ValueIdx

namespace Cert.Range

open Cert.Pre_in_range

/-- The shape relations the condition's operations take. -/
theorem facts : Cert.Pre_in_range.Facts where
  slices_S2x10000_S1x10000_0_0 := by decide
  shapeCasts_S1x10000_S10000 := by decide
  bcast_S_S10000 := by decide
  reducesTo_S10000_S_d0 := by decide
  h_S_ := by decide
  bcast_S_S10000x128 := by decide
  reducesTo_S10000x128_S_d0_1 := by decide
  bcast_S_S128x256 := by decide
  reducesTo_S128x256_S_d0_1 := by decide
  bcast_S_S256 := by decide
  reducesTo_S256_S_d0 := by decide
  bcast_S_S256x256 := by decide
  reducesTo_S256x256_S_d0_1 := by decide
  bcast_S_S256x16 := by decide
  reducesTo_S256x16_S_d0_1 := by decide
  bcast_S_S16 := by decide
  reducesTo_S16_S_d0 := by decide

instance : Subsingleton S_.Idx := ⟨fun a b => funext fun x => x.elim0⟩

variable [Cert.Pre_in_range.Facts]
open Cert.Pre_in_range.Facts

/-- The word for `∞`. -/
theorem inf_eq : Ideal.ofBits .f32 0x7F800000#32 = (⊤ : EReal) := by simp [Ideal.ofBits, Ideal.ieee]

/-- An array below `∞` in absolute value everywhere is finite. -/
theorem finite {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant (F := Ideal) S_ .f32 0x7F800000#32)))
      (constantI S_ 1 1#1) hr h_S_ j = 1#1) (i : s.Idx) : Finite.Fin' (x i) := by
  have h := Host.reduce_andi_all _ _ _ _ j e i
  refine Finite.of_abs ?_
  have h' : Ideal.cmp .olt (max (x i) (-(x i))) (Ideal.ofBits .f32 0x7F800000#32) = 1#1 := h
  rw [inf_eq] at h'
  have h2 : BitVec.ofBool (decide (max (x i) (-(x i)) < ⊤)) = 1#1 := h'
  by_contra hn
  rw [decide_eq_false hn] at h2
  exact absurd h2 (by decide)

/-- A source that is at least zero and below a thousand, as a number. -/
theorem source {w : BitVec 32} (h0 : IntOp.cmpi .sge w 0#32 = 1#1) (h1 : IntOp.cmpi .slt w 1000#32 = 1#1) : w.toNat < 1000 := by
  rw [IntOp.cmpi_sge] at h0
  rw [IntOp.cmpi_slt] at h1
  have e0 : (0#32 : BitVec 32).toInt = 0 := by decide
  have e1 : (1000#32 : BitVec 32).toInt = 1000 := by decide
  rw [e0] at h0
  rw [e1] at h1
  rw [BitVec.toInt_eq_toNat_cond] at h0 h1
  have := w.isLt
  split at h0 <;> omega

/-- What the condition says. -/
theorem holds {x0 : FVec Ideal S10000x128 .f32} {x1 : IVec S2x320000 32} {x2 : IVec S2x10000 32} {x3 : FVec Ideal S128x256 .f32}
    {x4 : FVec Ideal S256 .f32} {x5 : FVec Ideal S256x256 .f32} {x6 : FVec Ideal S256 .f32} {x7 : FVec Ideal S256x16 .f32}
    {x8 : FVec Ideal S16 .f32} {x9 x10 x11 x12 : FVec Ideal S1 .f32}
    (h : Cert.Pre_in_range.fn (F := Ideal) x0 x1 x2 x3 x4 x5 x6 x7 x8 x9 x10 x11 x12 = fun _ => 1#1) :
    (∀ i : Fin 10000, (x2 (ix2 0 i)).toNat < 1000) ∧ (∀ i, Finite.Fin' (x0 i)) ∧ (∀ i, Finite.Fin' (x3 i)) ∧ (∀ i, Finite.Fin' (x4 i))
      ∧ (∀ i, Finite.Fin' (x5 i)) ∧ (∀ i, Finite.Fin' (x6 i)) ∧ (∀ i, Finite.Fin' (x7 i)) ∧ (∀ i, Finite.Fin' (x8 i)) := by
  have j : S_.Idx := fun a => a.elim0
  have hj := congrFun h j
  unfold Cert.Pre_in_range.fn fn_part1 fn_part2 at hj
  dsimp only at hj
  obtain ⟨hj, h8⟩ := IntOp.andi_eq_one.1 hj
  obtain ⟨hj, h7⟩ := IntOp.andi_eq_one.1 hj
  obtain ⟨hj, h6⟩ := IntOp.andi_eq_one.1 hj
  obtain ⟨hj, h5⟩ := IntOp.andi_eq_one.1 hj
  obtain ⟨hj, h4⟩ := IntOp.andi_eq_one.1 hj
  obtain ⟨hj, h3⟩ := IntOp.andi_eq_one.1 hj
  obtain ⟨hj, h0⟩ := IntOp.andi_eq_one.1 hj
  obtain ⟨ha, hb⟩ := IntOp.andi_eq_one.1 hj
  refine ⟨fun i => ?_, finite x0 _ _ j h0, finite x3 _ _ j h3, finite x4 _ _ j h4, finite x5 _ _ j h5, finite x6 _ _ j h6,
    finite x7 _ _ j h7, finite x8 _ _ j h8⟩
  have r : shapeCast S10000 (extractStridedSlice S1x10000 ![0, 0] x2 slices_S2x10000_S1x10000_0_0) shapeCasts_S1x10000_S10000 (ix1 i)
      = x2 (ix2 0 i) := (shapeCast_1a_a_apply _ _ _).trans (extractStridedSlice_apply _ _ _ _ _ fun a => by
    match a with
    | ⟨0, _⟩ => rfl
    | ⟨1, _⟩ => show i.val = 0 + i.val; omega)
  have ha' := Host.reduce_andi_all _ _ _ _ j ha (ix1 i)
  have hb' := Host.reduce_andi_all _ _ _ _ j hb (ix1 i)
  rw [← r]
  exact source ha' hb'

end Cert.Range
-- ==== Proof.Ran.lean ====
/- The kernel's run, with every array of every device read at the end. -/
module

public import proofs.«01_k».proof.Proof.Gen.KernelIdeal.Frame

@[expose] public section

set_option maxRecDepth 16384

noncomputable section

open Idealize.ShloMosaic Idealize.ShloMosaic.TcCoe Idealize.ShloMosaic.Tactic Idealize.SL Idealize.SL.RA Idealize.SL.BI
open scoped Idealize.SL.BI
open Idealize.SL.BI.BIBase Idealize.SL.BI.Laws Idealize.SL.ProofMode Idealize.SL.Sem Idealize.ShloMosaic.Rounds

namespace Cert.Ran

open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair execution of the kernel ends, with each unscoped buffer holding what the last stretch of host
    operations leaves in it. -/
theorem whole : θ_run (defs (F := Ideal)) (onTc (τ := τ) (main (F := Ideal))) ⟨m, fun _ => 0, ρ⟩ (fun r => ∀ c : Dev nD,
      ∀ b ∈ Pipeline.ucRefs τ sig, r.2.mem ((c : Thread nD τ).1, b) = W9 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun _ h _ => h)

end Cert.Ran

end
-- ==== Proof.Pooled.lean ====
/- What the cluster sums and the cluster counts hold when the second region is done. -/
module

public import proofs.«01_k».proof.Proof.Pool
public import proofs.«01_k».proof.Proof.Emb

@[expose] public section

noncomputable section

open Idealize.ShloMosaic Idealize.ShloMosaic.TcCoe Idealize.SL.Sem Idealize.ShloMosaic.ValueIdx
open Idealize.ShloMosaic.Pipeline (Dat)

namespace Cert.Pooled

open Cert.KernelIdeal Cert.KernelIdeal.Gen Cert.Emb

/-! ## What one point leaves -/

/-- The first point leaves the first block's sums, added to zero. -/
theorem first3 (c : Dev nD) (i : grid1.Coords) (a1 : Memref sig .tc .vmem S1000x16 .f32) (h1 : a1.IsWhole)
    (a2 : Memref sig .tc .vmem S1000x1 .i32) (h2 : a2.IsWhole) (a3 : Memref sig .tc .vmem S1000x1 .i32) (h3 : a3.IsWhole)
    (a4 : Memref sig .tc .vmem S1000x16 .f32) (h4 : a4.IsWhole) (a5 : Memref sig .tc .vmem S1000x1 .f32) (h5 : a5.IsWhole)
    (hc : cond1_0 i) (x0 : Vec Ideal S1000x16 .f32) (x1 x2 : Vec Ideal S1000x1 .i32) :
    out1_A_3 c i a1 h1 a2 h2 a3 h3 a4 h4 a5 h5 hc x0 x1 x2 = k1_pay4 x0 x1 x2 (k1_pay1 (F := Ideal)) := by
  unfold out1_A_3
  rw [View.read_writes_eq_canon _ _ _ (cover1_A_3 c i a1 h1 a2 h2 a3 h3 a4 h4 a5 h5 hc x0 x1 x2)]
  unfold kernelRun1_A
  dsimp only
  sl_unfold_words
  rw [View.canon_cons_unit_zero (S := S1000x16) off0, View.readCov_unit_zero (S := S1000x16) _ off0]
  simp only [View.readAt_eq_ld, h1.read_unread, h2.read_unread, h3.read_unread, View.ld_unit_zero (S := S1000x16) off0,
    View.ld_unit_zero (S := S1000x1) off0]

/-- The first point leaves the first block's counts, added to zero. -/
theorem first4 (c : Dev nD) (i : grid1.Coords) (a1 : Memref sig .tc .vmem S1000x16 .f32) (h1 : a1.IsWhole)
    (a2 : Memref sig .tc .vmem S1000x1 .i32) (h2 : a2.IsWhole) (a3 : Memref sig .tc .vmem S1000x1 .i32) (h3 : a3.IsWhole)
    (a4 : Memref sig .tc .vmem S1000x16 .f32) (h4 : a4.IsWhole) (a5 : Memref sig .tc .vmem S1000x1 .f32) (h5 : a5.IsWhole)
    (hc : cond1_0 i) (x0 : Vec Ideal S1000x16 .f32) (x1 x2 : Vec Ideal S1000x1 .i32) :
    out1_A_4 c i a1 h1 a2 h2 a3 h3 a4 h4 a5 h5 hc x0 x1 x2 = k1_pay5 x2 (k1_pay2 (F := Ideal)) := by
  unfold out1_A_4
  rw [View.read_writes_eq_canon _ _ _ (cover1_A_4 c i a1 h1 a2 h2 a3 h3 a4 h4 a5 h5 hc x0 x1 x2)]
  unfold kernelRun1_A
  dsimp only
  sl_unfold_words
  rw [View.canon_cons_unit_zero (S := S1000x1) off0, View.readCov_unit_zero (S := S1000x1) _ off0]
  simp only [View.readAt_eq_ld, h3.read_unread, View.ld_unit_zero (S := S1000x1) off0]

/-- A later point adds its block's sums to what the point before left. -/
theorem later3 (c : Dev nD) (i : grid1.Coords) (a1 : Memref sig .tc .vmem S1000x16 .f32) (h1 : a1.IsWhole)
    (a2 : Memref sig .tc .vmem S1000x1 .i32) (h2 : a2.IsWhole) (a3 : Memref sig .tc .vmem S1000x1 .i32) (h3 : a3.IsWhole)
    (a4 : Memref sig .tc .vmem S1000x16 .f32) (h4 : a4.IsWhole) (a5 : Memref sig .tc .vmem S1000x1 .f32) (h5 : a5.IsWhole)
    (hc : ¬cond1_0 i) (x0 : Vec Ideal S1000x16 .f32) (x1 x2 : Vec Ideal S1000x1 .i32) (y : Vec Ideal S1000x16 .f32)
    (z : Vec Ideal S1000x1 .f32) :
    out1_B_3 c i a1 h1 a2 h2 a3 h3 a4 h4 a5 h5 hc x0 x1 x2 y z = k1_pay4 x0 x1 x2 y := by
  unfold out1_B_3
  rw [View.read_writes_eq_canon _ _ _ (cover1_B_3 c i a1 h1 a2 h2 a3 h3 a4 h4 a5 h5 hc x0 x1 x2 y z)]
  unfold kernelRun1_B
  dsimp only
  rw [View.canon_unit_zero off0]
  simp only [View.readAt_eq_ld, h1.read_unread, h2.read_unread, h3.read_unread, h4.read_unread,
    View.ld_unit_zero (S := S1000x16) off0, View.ld_unit_zero (S := S1000x1) off0]

/-- A later point adds its block's counts to what the point before left. -/
theorem later4 (c : Dev nD) (i : grid1.Coords) (a1 : Memref sig .tc .vmem S1000x16 .f32) (h1 : a1.IsWhole)
    (a2 : Memref sig .tc .vmem S1000x1 .i32) (h2 : a2.IsWhole) (a3 : Memref sig .tc .vmem S1000x1 .i32) (h3 : a3.IsWhole)
    (a4 : Memref sig .tc .vmem S1000x16 .f32) (h4 : a4.IsWhole) (a5 : Memref sig .tc .vmem S1000x1 .f32) (h5 : a5.IsWhole)
    (hc : ¬cond1_0 i) (x0 : Vec Ideal S1000x16 .f32) (x1 x2 : Vec Ideal S1000x1 .i32) (y : Vec Ideal S1000x16 .f32)
    (z : Vec Ideal S1000x1 .f32) :
    out1_B_4 c i a1 h1 a2 h2 a3 h3 a4 h4 a5 h5 hc x0 x1 x2 y z = k1_pay5 x2 z := by
  unfold out1_B_4
  rw [View.read_writes_eq_canon _ _ _ (cover1_B_4 c i a1 h1 a2 h2 a3 h3 a4 h4 a5 h5 hc x0 x1 x2 y z)]
  unfold kernelRun1_B
  dsimp only
  rw [View.canon_unit_zero off0]
  simp only [View.readAt_eq_ld, h3.read_unread, h5.read_unread, View.ld_unit_zero (S := S1000x1) off0]

/-! ## The blocks -/

variable (V : (c : Dev nD) → (b : Ref sig .tc) → Buf (Elt Ideal) ((c : Thread nD τ).loc b))

/-- A point of the second grid is below ten. -/
theorem lt1 (t : Fin cfg1.N) : t.val < 10 := lt_of_lt_of_eq t.isLt N_1

/-- Where the windows of the second region are. -/
theorem places (t : Fin cfg1.N) : (win1_0.index t 0 = 0 ∧ win1_0.index t 1 = 0) ∧
    (win1_1.index t 0 = t.val ∧ win1_1.index t 1 = 0) ∧ (win1_2.index t 0 = t.val ∧ win1_2.index t 1 = 0) ∧
    (win1_3.index t 0 = 0 ∧ win1_3.index t 1 = 0) ∧ (win1_4.index t 0 = 0 ∧ win1_4.index t 1 = 0) := by
  rcases fin_N1 t with rfl | rfl | rfl | rfl | rfl | rfl | rfl | rfl | rfl | rfl <;> decide

/-- The embeddings block is the first thousand embeddings. -/
theorem table (c : Dev nD) (t : Fin cfg1.N) : (iblk1 V c 0 t : Vec Ideal S1000x16 .f32) = V c main_v10 := by
  funext j
  unfold iblk1
  rw [View.read_apply]
  show V c main_v10 _ = _
  congr 1
  funext a
  apply Fin.ext
  match a with
  | ⟨0, _⟩ => show win1_0.index t 0 * 1000 + 1 * (j 0).val = (j 0).val; rw [(places t).1.1]; omega
  | ⟨1, _⟩ => show win1_0.index t 1 * 16 + 1 * (j 1).val = (j 1).val; rw [(places t).1.2]; omega

/-- The block of sources is a thousand of the sources. -/
theorem sources (c : Dev nD) (t : Fin cfg1.N) (r : Fin 1000) :
    (iblk1 V c 1 t : Vec Ideal S1000x1 .i32) (ix2 r 0) = V c main_v6 (ix2 (at' t.val r (lt1 t)) 0) := by
  unfold iblk1
  rw [View.read_apply]
  show V c main_v6 _ = _
  congr 1
  funext a
  apply Fin.ext
  match a with
  | ⟨0, _⟩ => show win1_1.index t 0 * 1000 + 1 * r.val = 1000 * t.val + r.val; rw [(places t).2.1.1]; omega
  | ⟨1, _⟩ => show win1_1.index t 1 * 1 + 1 * 0 = 0; rw [(places t).2.1.2]

/-- The block of clusters is a thousand of the clusters. -/
theorem clusters (c : Dev nD) (t : Fin cfg1.N) (r : Fin 1000) :
    (iblk1 V c 2 t : Vec Ideal S1000x1 .i32) (ix2 r 0) = V c main_v9 (ix2 (at' t.val r (lt1 t)) 0) := by
  unfold iblk1
  rw [View.read_apply]
  show V c main_v9 _ = _
  congr 1
  funext a
  apply Fin.ext
  match a with
  | ⟨0, _⟩ => show win1_2.index t 0 * 1000 + 1 * r.val = 1000 * t.val + r.val; rw [(places t).2.2.1.1]; omega
  | ⟨1, _⟩ => show win1_2.index t 1 * 1 + 1 * 0 = 0; rw [(places t).2.2.1.2]

/-! ## The sums over the points -/

/-- The term of row `i` in the sum of cluster `p`, zero past the end. -/
def term (g : Fin 10000 → EReal) (w : Fin 10000 → BitVec 32) (p : ℕ) (i : ℕ) : EReal :=
  if h : i < 10000 then (if w ⟨i, h⟩ = BitVec.ofNat 32 p then g ⟨i, h⟩ else 0) else 0

/-- The sum over one block is a stretch of the terms. -/
theorem stretch (g : Fin 10000 → EReal) (w : Fin 10000 → BitVec 32) (p t : ℕ) (ht : t < 10) :
    Pool.pooled (fun r : Fin 1000 => g (at' t r ht)) (fun r => w (at' t r ht)) p
      = ∑ r ∈ Finset.range 1000, term g w p (1000 * t + r) := by
  rw [Finset.sum_range]
  unfold Pool.pooled
  refine Finset.sum_congr rfl fun r _ => ?_
  have h : 1000 * t + r.val < 10000 := by omega
  unfold term
  rw [dif_pos h]
  rfl

/-- The sum over all rows is the sum of the terms. -/
theorem whole (g : Fin 10000 → EReal) (w : Fin 10000 → BitVec 32) (p : ℕ) :
    ∑ i ∈ Finset.range 10000, term g w p i = Pool.pooled g w p := by
  rw [Finset.sum_range]
  unfold Pool.pooled
  refine Finset.sum_congr rfl fun r _ => ?_
  unfold term
  rw [dif_pos r.isLt]

/-- The value added for a row: the embedding of the row's source. -/
def value (c : Dev nD) (q : Fin 16) (i : Fin 10000) : EReal :=
  V c main_v10 (ix2 (Pool.src (V c main_v6 (ix2 i 0))) q)

/-- The cluster of a row. -/
def cluster (c : Dev nD) (i : Fin 10000) : BitVec 32 := V c main_v9 (ix2 i 0)

/-- What the two buffers hold after a point: the sums and the counts of the rows up to there. -/
theorem upTo (c : Dev nD) (hs : ∀ i : Fin 10000, (V c main_v6 (ix2 i 0) : BitVec 32).toNat < 1000) :
    ∀ (n : ℕ) (h : n < cfg1.N), (∀ (p : Fin 1000) (q : Fin 16), (outsAt1 V c n h).1 (ix2 p q)
        = ∑ i ∈ Finset.range (1000 * (n + 1)), term (value V c q) (cluster V c) p.val i) ∧
      (∀ p : Fin 1000, (outsAt1 V c n h).2 (ix2 p 0)
        = ∑ i ∈ Finset.range (1000 * (n + 1)), term (fun _ => 1) (cluster V c) p.val i) := by
  have hz (p : Fin 1000) (q : Fin 16) : k1_pay1 (F := Ideal) (ix2 p q) = 0 := Ideal.ofBits_zero_f32
  have hz' (p : Fin 1000) : k1_pay2 (F := Ideal) (ix2 p 0) = 0 := Ideal.ofBits_zero_f32
  have s3 (t : Fin cfg1.N) (y : Vec Ideal S1000x16 .f32) (p : Fin 1000) (q : Fin 16) :
      k1_pay4 (F := Ideal) (iblk1 V c 0 t) (iblk1 V c 1 t) (iblk1 V c 2 t) y (ix2 p q)
        = y (ix2 p q) + ∑ r ∈ Finset.range 1000, term (value V c q) (cluster V c) p.val (1000 * t.val + r) := by
    rw [← stretch _ _ _ _ (lt1 t)]
    refine (Pool.sums _ _ _ _ (fun r => ?_) p q).trans ?_
    · rw [sources]; exact hs _
    · simp only [table, sources, clusters]
      rfl
  have s4 (t : Fin cfg1.N) (y : Vec Ideal S1000x1 .f32) (p : Fin 1000) :
      k1_pay5 (F := Ideal) (iblk1 V c 2 t) y (ix2 p 0)
        = y (ix2 p 0) + ∑ r ∈ Finset.range 1000, term (fun _ => 1) (cluster V c) p.val (1000 * t.val + r) := by
    rw [← stretch _ _ _ _ (lt1 t)]
    refine (Pool.counts _ _ p).trans ?_
    simp only [clusters]
    rfl
  intro n
  induction n with
  | zero =>
    intro h
    have e := outsAt1_A V c ⟨0, h⟩ rfl
    dsimp only at e
    rw [e]
    constructor
    · intro p q
      dsimp only
      rw [first3, s3, hz, zero_add]
      simp only [Nat.mul_zero, Nat.zero_add, Nat.mul_one]
    · intro p
      dsimp only
      rw [first4, s4, hz', zero_add]
      simp only [Nat.mul_zero, Nat.zero_add, Nat.mul_one]
  | succ n ih =>
    intro h
    have hN : cfg1.N = 10 := N_1
    have hB : ¬(⟨n + 1, h⟩ : Fin cfg1.N).val % 10 = 0 := by dsimp only; omega
    have e := outsAt1_B V c ⟨n + 1, h⟩ hB
    dsimp only at e
    have hn : n < cfg1.N := by omega
    rw [e]
    constructor
    · intro p q
      dsimp only
      rw [later3, s3]
      rw [show 1000 * (n + 1 + 1) = 1000 * (n + 1) + 1000 from by ring, Finset.sum_range_add]
      exact congrArg (· + _) ((ih hn).1 p q)
    · intro p
      dsimp only
      rw [later4, s4]
      rw [show 1000 * (n + 1 + 1) = 1000 * (n + 1) + 1000 from by ring, Finset.sum_range_add]
      exact congrArg (· + _) ((ih hn).2 p)

/-- The sums array. -/
def sums (c : Dev nD) : Buf (Elt Ideal) ((c : Thread nD τ).loc main_v11_0) :=
  fun i => Pool.pooled (value V c (i 1)) (cluster V c) (i 0).val

/-- The counts array. -/
def counts (c : Dev nD) : Buf (Elt Ideal) ((c : Thread nD τ).loc main_v11_1) :=
  fun i => Pool.pooled (fun _ => 1) (cluster V c) (i 0).val

/-- The last point of the second grid. -/
def last : Fin cfg1.N := ⟨9, by rw [show cfg1.N = 10 from N_1]; decide⟩

/-- The sums window's one block, read off an array, is the array. -/
theorem read3 (c : Dev nD) (t : Fin cfg1.N) (G : Buf (Elt Ideal) ((c : Thread nD τ).loc main_v11_0)) (j : S1000x16.Idx) :
    ((cfg1.win 3).blk t).view.read (Elt Ideal) G j = G j := by
  rw [View.read_apply]
  show G _ = _
  congr 1
  funext a
  apply Fin.ext
  match a with
  | ⟨0, _⟩ => show win1_3.index t 0 * 1000 + 1 * (j 0).val = (j 0).val; rw [(places t).2.2.2.1.1]; omega
  | ⟨1, _⟩ => show win1_3.index t 1 * 16 + 1 * (j 1).val = (j 1).val; rw [(places t).2.2.2.1.2]; omega

/-- The counts window's one block, read off an array, is the array. -/
theorem read4 (c : Dev nD) (t : Fin cfg1.N) (G : Buf (Elt Ideal) ((c : Thread nD τ).loc main_v11_1)) (j : S1000x1.Idx) :
    ((cfg1.win 4).blk t).view.read (Elt Ideal) G j = G j := by
  rw [View.read_apply]
  show G _ = _
  congr 1
  funext a
  apply Fin.ext
  match a with
  | ⟨0, _⟩ => show win1_4.index t 0 * 1000 + 1 * (j 0).val = (j 0).val; rw [(places t).2.2.2.2.1]; omega
  | ⟨1, _⟩ => show win1_4.index t 1 * 1 + 1 * (j 1).val = (j 1).val; rw [(places t).2.2.2.2.2]; omega

/-- When the second region is done the sums array holds the sum over all rows. -/
theorem final3 (c : Dev nD) (hs : ∀ i : Fin 10000, (V c main_v6 (ix2 i 0) : BitVec 32).toNat < 1000) :
    (dat1 V c).arrAt 3 cfg1.N = sums V c :=
  (dat1 V c).arrAt_eq_of_cover 3 (sums V c) (fun t hf => by
      have hN : cfg1.N = 10 := N_1
      have h9 : t.val = 9 := by have := (flush1_3 t).mp hf; have := t.isLt; omega
      obtain rfl : t = last := Fin.ext h9
      show (cfg1.win 3).cut (grid1.coords last) ((dat1 V c).after 3 last) = _
      funext j
      refine Eq.trans ?_ (read3 c last _ j).symm
      show ((dat1 V c).after 3 last : Vec Ideal S1000x16 .f32) j = _
      rw [after1_3]
      have hj : j = ix2 (j 0) (j 1) := eq_ix2 j
      refine (congrArg _ hj).trans (((upTo V c hs 9 last.isLt).1 (j 0) (j 1)).trans ?_)
      rw [show 1000 * (9 + 1) = 10000 from by norm_num, whole]
      rfl)
    fun i => ⟨last, (flush1_3 last).mpr rfl, by
      have h0 : (i 0 : Nat) < 1000 := (i 0).isLt
      have h1 : (i 1 : Nat) < 16 := (i 1).isLt
      show i ∈ ((View.whole main_v11_0).slice (win1_3.rect last)).set
      rw [View.set_slice_whole, Rect.mem_set_unit]
      intro a
      match a with
      | ⟨0, _⟩ => show win1_3.index last 0 * 1000 ≤ (i 0 : Nat) ∧ (i 0 : Nat) < win1_3.index last 0 * 1000 + 1000
                  rw [(places last).2.2.2.1.1]; omega
      | ⟨1, _⟩ => show win1_3.index last 1 * 16 ≤ (i 1 : Nat) ∧ (i 1 : Nat) < win1_3.index last 1 * 16 + 16
                  rw [(places last).2.2.2.1.2]; omega⟩

/-- When the second region is done the counts array holds the count over all rows. -/
theorem final4 (c : Dev nD) (hs : ∀ i : Fin 10000, (V c main_v6 (ix2 i 0) : BitVec 32).toNat < 1000) :
    (dat1 V c).arrAt 4 cfg1.N = counts V c :=
  (dat1 V c).arrAt_eq_of_cover 4 (counts V c) (fun t hf => by
      have hN : cfg1.N = 10 := N_1
      have h9 : t.val = 9 := by have := (flush1_4 t).mp hf; have := t.isLt; omega
      obtain rfl : t = last := Fin.ext h9
      show (cfg1.win 4).cut (grid1.coords last) ((dat1 V c).after 4 last) = _
      funext j
      refine Eq.trans ?_ (read4 c last _ j).symm
      show ((dat1 V c).after 4 last : Vec Ideal S1000x1 .f32) j = _
      rw [after1_4]
      have hj : j = ix2 (j 0) 0 := by
        refine (eq_ix2 j).trans ?_
        congr 1
        exact Subsingleton.elim (α := Fin 1) _ _
      refine (congrArg _ hj).trans (((upTo V c hs 9 last.isLt).2 (j 0)).trans ?_)
      rw [show 1000 * (9 + 1) = 10000 from by norm_num, whole]
      rfl)
    fun i => ⟨last, (flush1_4 last).mpr rfl, by
      have h0 : (i 0 : Nat) < 1000 := (i 0).isLt
      have h1 : (i 1 : Nat) < 1 := (i 1).isLt
      show i ∈ ((View.whole main_v11_1).slice (win1_4.rect last)).set
      rw [View.set_slice_whole, Rect.mem_set_unit]
      intro a
      match a with
      | ⟨0, _⟩ => show win1_4.index last 0 * 1000 ≤ (i 0 : Nat) ∧ (i 0 : Nat) < win1_4.index last 0 * 1000 + 1000
                  rw [(places last).2.2.2.2.1]; omega
      | ⟨1, _⟩ => show win1_4.index last 1 * 1 ≤ (i 1 : Nat) ∧ (i 1 : Nat) < win1_4.index last 1 * 1 + 1
                  rw [(places last).2.2.2.2.2]; omega⟩

end Cert.Pooled
-- ==== Proof.Held.lean ====
/- What the kernel's arrays hold between its regions, in terms of its arguments. -/
module

public import proofs.«01_k».proof.Proof.Spec
public import proofs.«01_k».proof.Proof.Pooled
public import Idealize.ShloMosaic.Lib.StableHlo.Run

@[expose] public section

noncomputable section

open Idealize.ShloMosaic Idealize.ShloMosaic.TcCoe Idealize.SL.Sem Idealize.ShloMosaic.ValueIdx Idealize.ShloMosaic.StableHlo

namespace Cert.Held

open Cert.KernelIdeal Cert.KernelIdeal.Gen

variable (m : (ℓ : Loc nD τ sig) → Buf (Elt Ideal) ℓ) (ρ : Dev nD → PrngReg) (c : Dev nD)

/-- The embeddings, in terms of the arguments. -/
def emb (r : Fin 10000) (q : Fin 16) : EReal :=
  Mlp.encode (fun k => m ((c : Thread nD τ).loc main_arg0) (ix2 r k)) (fun k l => m ((c : Thread nD τ).loc main_arg3) (ix2 k l))
    (fun l => m ((c : Thread nD τ).loc main_arg4) (ix1 l)) (fun k l => m ((c : Thread nD τ).loc main_arg5) (ix2 k l))
    (fun l => m ((c : Thread nD τ).loc main_arg6) (ix1 l)) (fun k l => m ((c : Thread nD τ).loc main_arg7) (ix2 k l))
    (fun l => m ((c : Thread nD τ).loc main_arg8) (ix1 l)) q

/-- The sources list. -/
def c0 (i : Fin 10000) : BitVec 32 := m ((c : Thread nD τ).loc main_arg2) (ix2 0 i)

/-- The clusters list. -/
def c1 (i : Fin 10000) : BitVec 32 := m ((c : Thread nD τ).loc main_arg2) (ix2 1 i)

/-- A scalar argument. -/
def scalar9 : EReal := m ((c : Thread nD τ).loc main_arg9) (ix1 0)
@[inherit_doc scalar9] def scalar10 : EReal := m ((c : Thread nD τ).loc main_arg10) (ix1 0)
@[inherit_doc scalar9] def scalar11 : EReal := m ((c : Thread nD τ).loc main_arg11) (ix1 0)
@[inherit_doc scalar9] def scalar12 : EReal := m ((c : Thread nD τ).loc main_arg12) (ix1 0)

/-- The first bias row. -/
theorem v0 (l : Fin 256) : V1 m ρ c main_v0 (ix2 0 l) = m ((c : Thread nD τ).loc main_arg4) (ix1 l) := by
  have e : W1 m ρ c (Proc.devRef .tc main_v0) = shapeCast S1x256 (m ((c : Thread nD τ).loc main_arg4)) shapeCasts_S256_S1x256 := by
    unfold W1 hostOps0
    after_results
    rfl
  exact (congrFun e _).trans (shapeCast_a_1a_apply _ _ _ _)

/-- The second bias row. -/
theorem v1 (l : Fin 256) : V1 m ρ c main_v1 (ix2 0 l) = m ((c : Thread nD τ).loc main_arg6) (ix1 l) := by
  have e : W1 m ρ c (Proc.devRef .tc main_v1) = shapeCast S1x256 (m ((c : Thread nD τ).loc main_arg6)) shapeCasts_S256_S1x256 := by
    unfold W1 hostOps0
    after_results
    rfl
  exact (congrFun e _).trans (shapeCast_a_1a_apply _ _ _ _)

/-- The third bias row. -/
theorem v2 (l : Fin 16) : V1 m ρ c main_v2 (ix2 0 l) = m ((c : Thread nD τ).loc main_arg8) (ix1 l) := by
  have e : W1 m ρ c (Proc.devRef .tc main_v2) = shapeCast S1x16 (m ((c : Thread nD τ).loc main_arg8)) shapeCasts_S16_S1x16 := by
    unfold W1 hostOps0
    after_results
    rfl
  exact (congrFun e _).trans (shapeCast_a_1a_apply _ _ _ _)

/-- The embeddings after the first region. -/
theorem v3_2 (r : Fin 10000) (q : Fin 16) : W2 m ρ c (Proc.devRef .tc main_v3) (ix2 r q) = emb m c r q := by
  have e : W2 m ρ c (Proc.devRef .tc main_v3) = Emb.result (V1 m ρ) c := (W2_arr m ρ c 7).trans (Emb.final (V1 m ρ) c)
  refine (congrFun e _).trans ?_
  show Emb.row (V1 m ρ) c r q = _
  unfold Emb.row emb
  rw [show (fun l : Fin 256 => V1 m ρ c main_v0 (ix2 0 l)) = _ from funext fun l => v0 m ρ c l,
    show (fun l : Fin 256 => V1 m ρ c main_v1 (ix2 0 l)) = _ from funext fun l => v1 m ρ c l,
    show (fun l : Fin 16 => V1 m ρ c main_v2 (ix2 0 l)) = _ from funext fun l => v2 m ρ c l,
    show V1 m ρ c main_arg0 = _ from W1_args m ρ c main_arg0 (by decide), show V1 m ρ c main_arg3 = _ from W1_args m ρ c main_arg3 (by decide),
    show V1 m ρ c main_arg5 = _ from W1_args m ρ c main_arg5 (by decide), show V1 m ρ c main_arg7 = _ from W1_args m ρ c main_arg7 (by decide)]

/-- The sources column. -/
theorem v6 (i : Fin 10000) : V3 m ρ c main_v6 (ix2 i 0) = c0 m c i := by
  have e : W3 m ρ c (Proc.devRef .tc main_v6) = shapeCast S10000x1 (shapeCast S10000 (extractStridedSlice S1x10000 ![0, 0]
      (W2 m ρ c (Proc.devRef .tc main_arg2)) slices_S2x10000_S1x10000_0_0) shapeCasts_S1x10000_S10000) shapeCasts_S10000_S10000x1 := by
    unfold W3 hostOps1
    after_results
    rfl
  refine (congrFun e _).trans ?_
  rw [W2_args m ρ c main_arg2 (by decide)]
  refine (shapeCast_a_a1_apply _ _ _ _).trans ((shapeCast_1a_a_apply _ _ _).trans ?_)
  exact extractStridedSlice_apply _ _ _ _ _ fun a => by
    match a with
    | ⟨0, _⟩ => rfl
    | ⟨1, _⟩ => show i.val = 0 + i.val; omega

/-- The clusters column. -/
theorem v9 (i : Fin 10000) : V3 m ρ c main_v9 (ix2 i 0) = c1 m c i := by
  have e : W3 m ρ c (Proc.devRef .tc main_v9) = shapeCast S10000x1 (shapeCast S10000 (extractStridedSlice S1x10000 ![1, 0]
      (W2 m ρ c (Proc.devRef .tc main_arg2)) slices_S2x10000_S1x10000_1_0) shapeCasts_S1x10000_S10000) shapeCasts_S10000_S10000x1 := by
    unfold W3 hostOps1
    after_results
    rfl
  refine (congrFun e _).trans ?_
  rw [W2_args m ρ c main_arg2 (by decide)]
  refine (shapeCast_a_a1_apply _ _ _ _).trans ((shapeCast_1a_a_apply _ _ _).trans ?_)
  exact extractStridedSlice_apply _ _ _ _ _ fun a => by
    match a with
    | ⟨0, _⟩ => rfl
    | ⟨1, _⟩ => show i.val = 0 + i.val; omega

/-- The first thousand embeddings. -/
theorem v10 (s : Fin 1000) (q : Fin 16) : V3 m ρ c main_v10 (ix2 s q) = emb m c (Spec.low s) q := by
  have e : W3 m ρ c (Proc.devRef .tc main_v10) = extractStridedSlice S1000x16 ![0, 0]
      (W2 m ρ c (Proc.devRef .tc main_v3)) slices_S10000x16_S1000x16_0_0 := by
    unfold W3 hostOps1
    after_results
  refine (congrFun e _).trans (Eq.trans ?_ (v3_2 m ρ c (Spec.low s) q))
  exact extractStridedSlice_apply _ _ _ _ _ fun a => by
    match a with
    | ⟨0, _⟩ => show s.val = 0 + s.val; omega
    | ⟨1, _⟩ => show q.val = 0 + q.val; omega

/-- The mean embeddings of the clusters. -/
abbrev mean : Fin 1000 → Fin 16 → EReal := Spec.mean (emb m c) (c0 m c) (c1 m c)

variable (hs : ∀ i, (c0 m c i).toNat < 1000)
include hs

/-- The cluster sums after the second region. -/
theorem v11_0 (p : Fin 1000) (q : Fin 16) : W4 m ρ c (Proc.devRef .tc main_v11_0) (ix2 p q)
    = Spec.sums (emb m c) (c0 m c) (c1 m c) p q := by
  have e : W4 m ρ c (Proc.devRef .tc main_v11_0) = Pooled.sums (V3 m ρ) c :=
    (W4_arr m ρ c 3).trans (Pooled.final3 (V3 m ρ) c fun i => by rw [v6]; exact hs i)
  refine (congrFun e _).trans ?_
  show Pool.pooled (Pooled.value (V3 m ρ) c q) (Pooled.cluster (V3 m ρ) c) p.val = _
  unfold Spec.sums
  congr 1
  · funext i
    unfold Pooled.value
    rw [v6, v10]
  · funext i
    exact v9 m ρ c i

/-- The cluster counts after the second region. -/
theorem v11_1 (p : Fin 1000) : W4 m ρ c (Proc.devRef .tc main_v11_1) (ix2 p 0) = Spec.count (c1 m c) p := by
  have e : W4 m ρ c (Proc.devRef .tc main_v11_1) = Pooled.counts (V3 m ρ) c :=
    (W4_arr m ρ c 4).trans (Pooled.final4 (V3 m ρ) c fun i => by rw [v6]; exact hs i)
  refine (congrFun e _).trans ?_
  show Pool.pooled (fun _ => 1) (Pooled.cluster (V3 m ρ) c) p.val = _
  unfold Spec.count
  congr 1
  funext i
  exact v9 m ρ c i

omit hs in
/-- The embeddings are kept up to the third region. -/
theorem v3_5 (r : Fin 10000) (q : Fin 16) : V5 m ρ c main_v3 (ix2 r q) = emb m c r q := by
  have e : W5 m ρ c (Proc.devRef .tc main_v3) = W2 m ρ c (Proc.devRef .tc main_v3) :=
    (W5_of m ρ c main_v3 (by decide)).trans ((W4_of m ρ c main_v3 (by decide)).trans (W3_of m ρ c main_v3 (by decide)))
  exact (congrFun e _).trans (v3_2 m ρ c r q)

/-- The cluster sums are kept up to the third region. -/
theorem v11_0_5 (p : Fin 1000) (q : Fin 16) : V5 m ρ c main_v11_0 (ix2 p q) = Spec.sums (emb m c) (c0 m c) (c1 m c) p q :=
  (congrFun (W5_of m ρ c main_v11_0 (by decide)) _).trans (v11_0 m ρ c hs p q)

/-- The cluster counts are kept up to the third region. -/
theorem v11_1_5 (p : Fin 1000) : V5 m ρ c main_v11_1 (ix2 p 0) = Spec.count (c1 m c) p :=
  (congrFun (W5_of m ρ c main_v11_1 (by decide)) _).trans (v11_1 m ρ c hs p)

/-- The cluster sums are kept up to the fourth region. -/
theorem v11_0_7 (p : Fin 1000) (q : Fin 16) : V7 m ρ c main_v11_0 (ix2 p q) = Spec.sums (emb m c) (c0 m c) (c1 m c) p q :=
  (congrFun ((W7_of m ρ c main_v11_0 (by decide)).trans (W6_of m ρ c main_v11_0 (by decide))) _).trans (v11_0_5 m ρ c hs p q)

/-- The cluster counts are kept up to the fourth region. -/
theorem v11_1_7 (p : Fin 1000) : V7 m ρ c main_v11_1 (ix2 p 0) = Spec.count (c1 m c) p :=
  (congrFun ((W7_of m ρ c main_v11_1 (by decide)).trans (W6_of m ρ c main_v11_1 (by decide))) _).trans (v11_1_5 m ρ c hs p)

omit hs

/-- The scalars, as the kernel reads them. -/
theorem v12 : V5 m ρ c main_v12 (ix2 0 0) = scalar9 m c := by
  have e : W5 m ρ c (Proc.devRef .tc main_v12) = shapeCast S1x1 (W4 m ρ c (Proc.devRef .tc main_arg9)) shapeCasts_S1_S1x1 := by
    unfold W5 hostOps2
    after_results
    rfl
  refine (congrFun e _).trans ?_
  rw [W4_args m ρ c main_arg9 (by decide)]
  exact shapeCast_a_1a_apply _ _ _ _

@[inherit_doc v12] theorem v13 : V5 m ρ c main_v13 (ix2 0 0) = scalar10 m c := by
  have e : W5 m ρ c (Proc.devRef .tc main_v13) = shapeCast S1x1 (W4 m ρ c (Proc.devRef .tc main_arg10)) shapeCasts_S1_S1x1 := by
    unfold W5 hostOps2
    after_results
    rfl
  refine (congrFun e _).trans ?_
  rw [W4_args m ρ c main_arg10 (by decide)]
  exact shapeCast_a_1a_apply _ _ _ _

@[inherit_doc v12] theorem v15 : V7 m ρ c main_v15 (ix2 0 0) = scalar11 m c := by
  have e : W7 m ρ c (Proc.devRef .tc main_v15) = shapeCast S1x1 (W6 m ρ c (Proc.devRef .tc main_arg11)) shapeCasts_S1_S1x1 := by
    unfold W7 hostOps3
    after_results
    rfl
  refine (congrFun e _).trans ?_
  rw [W6_args m ρ c main_arg11 (by decide)]
  exact shapeCast_a_1a_apply _ _ _ _

@[inherit_doc v12] theorem v16 : V7 m ρ c main_v16 (ix2 0 0) = scalar12 m c := by
  have e : W7 m ρ c (Proc.devRef .tc main_v16) = shapeCast S1x1 (W6 m ρ c (Proc.devRef .tc main_arg12)) shapeCasts_S1_S1x1 := by
    unfold W7 hostOps3
    after_results
    rfl
  refine (congrFun e _).trans ?_
  rw [W6_args m ρ c main_arg12 (by decide)]
  exact shapeCast_a_1a_apply _ _ _ _

/-- The negated distances of the embeddings from the clusters. -/
abbrev far : Fin 10000 → Fin 1000 → EReal := Spec.far (emb m c) (c0 m c) (c1 m c)

/-- The negated distances between the clusters. -/
abbrev net : Fin 1000 → Fin 1000 → EReal := Spec.net (emb m c) (c0 m c) (c1 m c)

include hs

/-- The distances of the third region. -/
theorem far_eq (r : Fin 10000) : Near.far (V5 m ρ) c r = far m c r := by
  funext q
  unfold Near.far far Spec.far
  refine congrArg₂ Rounds.negDist (funext fun j => v3_5 m ρ c r j) (funext fun j => ?_)
  unfold Spec.mean
  rw [v11_0_5 m ρ c hs, v11_1_5 m ρ c hs]

/-- The scores of the third region. -/
theorem score_eq (r : Fin 10000) (k : Fin 5) : Near.score (V5 m ρ) c r k
    = Spec.score (scalar9 m c) (scalar10 m c) (far m c r) k.val := by
  unfold Near.score Spec.score
  rw [far_eq m ρ c hs, v12, v13]

/-- The distances of the fourth region. -/
theorem net_eq (p : Fin 1000) : Net.far (V7 m ρ) c p = net m c p := by
  have e (p : Fin 1000) : Net.mean (V7 m ρ) c p = mean m c p := by
    funext q
    unfold Net.mean mean Spec.mean
    rw [v11_0_7 m ρ c hs, v11_1_7 m ρ c hs]
  funext q
  unfold Net.far net Spec.net
  rw [e, e]

/-- The raw weights of the fourth region. -/
theorem raw_eq (p : Fin 1000) (k : Fin 10) : Net.raw (V7 m ρ) c p k
    = Spec.raw (scalar11 m c) (scalar12 m c) (net m c p) k.val := by
  unfold Net.raw Spec.raw Spec.score
  rw [net_eq m ρ c hs, v15, v16]

omit hs in
/-- The place of a nearest cluster, read from the array. -/
theorem near_word (f : Fin 1000 → EReal) (k : ℕ) : BitVec.ofNat 32 (TopPick.pos f k).val = Spec.word (Spec.near f k) := by
  unfold Spec.word Spec.near
  rfl

/-- The places of the fourth region. -/
theorem place_eq (p : Fin 1000) (k : Fin 10) : Net.place (V7 m ρ) c p k = Spec.word (Spec.near (net m c p) k.val) := by
  unfold Net.place
  rw [net_eq m ρ c hs]
  exact near_word _ _

/-- The sums of weights of the fourth region. -/
theorem total_eq (q : Fin 1000) : Net.total (V7 m ρ) c q = Spec.total (scalar11 m c) (scalar12 m c) (net m c) q := by
  refine Eq.trans ?_ (Spec.total_eq _ _ _ q)
  unfold Net.total
  exact congrArg₂ (fun I W => Snn.ends I W q) (funext fun p => funext fun k => place_eq m ρ c hs p k)
    (funext fun p => funext fun k => raw_eq m ρ c hs p k)

/-- The places after the third region. -/
theorem v14_0 (r : Fin 10000) (k : Fin 5) : W6 m ρ c (Proc.devRef .tc main_v14_0) (ix2 r k)
    = Spec.word (Spec.near (far m c r) k.val) := by
  have e : W6 m ρ c (Proc.devRef .tc main_v14_0) = Near.result5 (V5 m ρ) c := (W6_arr m ρ c 5).trans (Near.final5 (V5 m ρ) c)
  exact (congrFun e _).trans ((congrArg (fun f => BitVec.ofNat 32 (TopPick.pos f k.val).val) (far_eq m ρ c hs r)).trans (near_word _ _))

/-- The scores after the third region. -/
theorem v14_1 (r : Fin 10000) (k : Fin 5) : W6 m ρ c (Proc.devRef .tc main_v14_1) (ix2 r k)
    = Spec.score (scalar9 m c) (scalar10 m c) (far m c r) k.val := by
  have e : W6 m ρ c (Proc.devRef .tc main_v14_1) = Near.result6 (V5 m ρ) c := (W6_arr m ρ c 6).trans (Near.final6 (V5 m ρ) c)
  exact (congrFun e _).trans (score_eq m ρ c hs r k)

/-- The weights after the third region. -/
theorem v14_2 (r : Fin 10000) (k : Fin 5) : W6 m ρ c (Proc.devRef .tc main_v14_2) (ix2 r k)
    = Spec.weight (scalar9 m c) (scalar10 m c) (far m c r) k := by
  have e : W6 m ρ c (Proc.devRef .tc main_v14_2) = Near.result7 (V5 m ρ) c := (W6_arr m ρ c 7).trans (Near.final7 (V5 m ρ) c)
  refine (congrFun e _).trans ?_
  show Bip.weight (Near.score (V5 m ρ) c r) k = _
  unfold Spec.weight
  exact congrArg (fun s => Bip.weight s k) (funext fun l => score_eq m ρ c hs r l)

/-- The mean embeddings after the fourth region. -/
theorem v17_0 (p : Fin 1000) (q : Fin 16) : W8 m ρ c (Proc.devRef .tc main_v17_0) (ix2 p q) = mean m c p q := by
  have e : W8 m ρ c (Proc.devRef .tc main_v17_0) = Net.result4 (V7 m ρ) c := (W8_arr m ρ c 4).trans (Net.final4 (V7 m ρ) c)
  refine (congrFun e _).trans ?_
  show Net.mean (V7 m ρ) c p q = _
  unfold Net.mean mean Spec.mean
  rw [v11_0_7 m ρ c hs, v11_1_7 m ρ c hs]

/-- The places after the fourth region. -/
theorem v17_1 (p : Fin 1000) (k : Fin 10) : W8 m ρ c (Proc.devRef .tc main_v17_1) (ix2 p k)
    = Spec.word (Spec.near (net m c p) k.val) := by
  have e : W8 m ρ c (Proc.devRef .tc main_v17_1) = Net.result5 (V7 m ρ) c := (W8_arr m ρ c 5).trans (Net.final5 (V7 m ρ) c)
  exact (congrFun e _).trans (place_eq m ρ c hs p k)

/-- The outward weights after the fourth region. -/
theorem v17_2 (p : Fin 1000) (k : Fin 10) : W8 m ρ c (Proc.devRef .tc main_v17_2) (ix2 p k)
    = Spec.outward (scalar11 m c) (scalar12 m c) (net m c) p k.val := by
  have e : W8 m ρ c (Proc.devRef .tc main_v17_2) = Net.result6 (V7 m ρ) c := (W8_arr m ρ c 6).trans (Net.final6 (V7 m ρ) c)
  refine (congrFun e _).trans ?_
  show Ideal.div (Net.raw (V7 m ρ) c p k) (Bip.eps + Net.total (V7 m ρ) c p) = _
  rw [raw_eq m ρ c hs, total_eq m ρ c hs]
  rfl

/-- The inward weights after the fourth region. -/
theorem v17_3 (p : Fin 1000) (k : Fin 10) : W8 m ρ c (Proc.devRef .tc main_v17_3) (ix2 p k)
    = Spec.inward (scalar11 m c) (scalar12 m c) (net m c) p k.val := by
  have e : W8 m ρ c (Proc.devRef .tc main_v17_3) = Net.result7 (V7 m ρ) c := (W8_arr m ρ c 7).trans (Net.final7 (V7 m ρ) c)
  refine (congrFun e _).trans ?_
  show Ideal.div (Net.raw (V7 m ρ) c p k) (Bip.eps + ∑ q : Fin 1000, if Net.place (V7 m ρ) c p k = BitVec.ofNat 32 q.val then Net.total (V7 m ρ) c q else 0) = _
  rw [raw_eq m ρ c hs, place_eq m ρ c hs, Spec.picked, total_eq m ρ c hs]
  rfl

end Cert.Held
-- ==== Proof.Lists.lean ====
/- The edge lists: a table of edges laid out flat, two lists one after the other, two lists as the rows of a pair. -/
module

public import proofs.«01_k».proof.Proof.Reads
public import Idealize.ShloMosaic.Lib.Pipeline.Value

@[expose] public section

noncomputable section

open Idealize.ShloMosaic Idealize.ShloMosaic.ValueIdx

namespace Cert.Lists

/-- The row of a flat position in a table of five columns. -/
def node5 (n : Fin 50000) : Fin 10000 := ⟨n.val / 5, by have := n.isLt; omega⟩

/-- The column of a flat position in a table of five columns. -/
def slot5 (n : Fin 50000) : Fin 5 := ⟨n.val % 5, Nat.mod_lt _ (by decide)⟩

/-- The row of a flat position in a table of ten columns. -/
def node10 (n : Fin 10000) : Fin 1000 := ⟨n.val / 10, by have := n.isLt; omega⟩

/-- The column of a flat position in a table of ten columns. -/
def slot10 (n : Fin 10000) : Fin 10 := ⟨n.val % 10, Nat.mod_lt _ (by decide)⟩

variable {α : Type}

/-- Two lists of ten thousand, one after the other. -/
def twice (f g : Fin 10000 → α) (n : Fin 20000) : α :=
  if h : n.val < 10000 then f ⟨n.val, h⟩ else g ⟨n.val - 10000, by have := n.isLt; omega⟩

/-- A table of five columns laid out flat. -/
theorem flat5 (x : (⟨2, ![10000, 5]⟩ : Shape).Idx → α) (h) (n : Fin 50000) :
    shapeCast (⟨1, ![50000]⟩ : Shape) x h (ix1 n) = x (ix2 (node5 n) (slot5 n)) :=
  shapeCast_apply _ _ _ _ (by
    rewrite [Shape.rowMajor_val_two, Shape.rowMajor_val_one]
    show n.val / 5 * 5 + n.val % 5 = n.val; omega)

/-- A table of five columns laid out as one column. -/
theorem column5 (x : (⟨2, ![10000, 5]⟩ : Shape).Idx → α) (h) (n : Fin 50000) :
    shapeCast (⟨2, ![50000, 1]⟩ : Shape) x h (ix2 n 0) = x (ix2 (node5 n) (slot5 n)) :=
  shapeCast_apply _ _ _ _ (by
    rewrite [Shape.rowMajor_val_two, Shape.rowMajor_val_two]
    show n.val / 5 * 5 + n.val % 5 = n.val * 1 + 0; omega)

/-- A table of ten columns laid out flat. -/
theorem flat10 (x : (⟨2, ![1000, 10]⟩ : Shape).Idx → α) (h) (n : Fin 10000) :
    shapeCast (⟨1, ![10000]⟩ : Shape) x h (ix1 n) = x (ix2 (node10 n) (slot10 n)) :=
  shapeCast_apply _ _ _ _ (by
    rewrite [Shape.rowMajor_val_two, Shape.rowMajor_val_one]
    show n.val / 10 * 10 + n.val % 10 = n.val; omega)

/-- The numbers of the rows, one for each column, of a table of five columns. -/
theorem rows5 (h : (⟨1, ![10000]⟩ : Shape).BroadcastsInDim (⟨2, ![10000, 5]⟩ : Shape) ![0]) (p : Fin 10000) (k : Fin 5) :
    broadcastInDim (⟨2, ![10000, 5]⟩ : Shape) ![0] h (iotaInDim (⟨1, ![10000]⟩ : Shape) 32 0) (ix2 p k) = BitVec.ofNat 32 p.val :=
  (broadcastInDim_apply _ h _ _ (ix1 p) (fun a => match a with
    | ⟨0, _⟩ => by show p.val = if (10000 : Nat) = 1 then 0 else p.val; rw [if_neg (by decide)])).trans rfl

/-- The numbers of the rows, one for each column, of a table of ten columns. -/
theorem rows10 (h : (⟨1, ![1000]⟩ : Shape).BroadcastsInDim (⟨2, ![1000, 10]⟩ : Shape) ![0]) (p : Fin 1000) (k : Fin 10) :
    broadcastInDim (⟨2, ![1000, 10]⟩ : Shape) ![0] h (iotaInDim (⟨1, ![1000]⟩ : Shape) 32 0) (ix2 p k) = BitVec.ofNat 32 p.val :=
  (broadcastInDim_apply _ h _ _ (ix1 p) (fun a => match a with
    | ⟨0, _⟩ => by show p.val = if (1000 : Nat) = 1 then 0 else p.val; rw [if_neg (by decide)])).trans rfl

/-- A list as a row. -/
theorem asRow {n : ℕ} (hn : n ≠ 1) (x : (⟨1, ![n]⟩ : Shape).Idx → α)
    (h : (⟨1, ![n]⟩ : Shape).BroadcastsInDim (⟨2, ![1, n]⟩ : Shape) ![1]) (u : Fin 1) (i : Fin n) :
    broadcastInDim (⟨2, ![1, n]⟩ : Shape) ![1] h x (ix2 u i) = x (ix1 i) :=
  broadcastInDim_apply _ h _ _ (ix1 i) (fun a => match a with
    | ⟨0, _⟩ => by show i.val = if n = 1 then 0 else i.val; rw [if_neg hn])

/-- A list as a column. -/
theorem asCol {n : ℕ} (hn : n ≠ 1) (x : (⟨1, ![n]⟩ : Shape).Idx → α)
    (h : (⟨1, ![n]⟩ : Shape).BroadcastsInDim (⟨2, ![n, 1]⟩ : Shape) ![0]) (i : Fin n) (u : Fin 1) :
    broadcastInDim (⟨2, ![n, 1]⟩ : Shape) ![0] h x (ix2 i u) = x (ix1 i) :=
  broadcastInDim_apply _ h _ _ (ix1 i) (fun a => match a with
    | ⟨0, _⟩ => by show i.val = if n = 1 then 0 else i.val; rw [if_neg hn])

/-- The first row of a pair of rows. -/
theorem pairTop {n : ℕ} (x y : (⟨2, ![1, n]⟩ : Shape).Idx → α)
    (h : Shape.Concatenates [(⟨2, ![1, n]⟩ : Shape), (⟨2, ![1, n]⟩ : Shape)] (⟨2, ![2, n]⟩ : Shape) 0) (i : Fin n) :
    concatenate (⟨2, ![2, n]⟩ : Shape) 0 [⟨(⟨2, ![1, n]⟩ : Shape), x⟩, ⟨(⟨2, ![1, n]⟩ : Shape), y⟩] h (ix2 0 i) = x (ix2 0 i) :=
  concatenate_pair_apply_left _ x y h _ rfl (ix2 0 i) (fun b => match b with
    | ⟨0, _⟩ => rfl
    | ⟨1, _⟩ => rfl)

/-- The second row of a pair of rows. -/
theorem pairLow {n : ℕ} (x y : (⟨2, ![1, n]⟩ : Shape).Idx → α)
    (h : Shape.Concatenates [(⟨2, ![1, n]⟩ : Shape), (⟨2, ![1, n]⟩ : Shape)] (⟨2, ![2, n]⟩ : Shape) 0) (i : Fin n) :
    concatenate (⟨2, ![2, n]⟩ : Shape) 0 [⟨(⟨2, ![1, n]⟩ : Shape), x⟩, ⟨(⟨2, ![1, n]⟩ : Shape), y⟩] h (ix2 1 i) = y (ix2 0 i) :=
  concatenate_pair_apply_right _ x y h _ rfl rfl (ix2 0 i) (fun b hb => match b with
    | ⟨0, _⟩ => absurd rfl hb
    | ⟨1, _⟩ => rfl) rfl

/-- One list after the other. -/
theorem after (x y : (⟨1, ![10000]⟩ : Shape).Idx → α)
    (h : Shape.Concatenates [(⟨1, ![10000]⟩ : Shape), (⟨1, ![10000]⟩ : Shape)] (⟨1, ![20000]⟩ : Shape) 0) (n : Fin 20000) :
    concatenate (⟨1, ![20000]⟩ : Shape) 0 [⟨(⟨1, ![10000]⟩ : Shape), x⟩, ⟨(⟨1, ![10000]⟩ : Shape), y⟩] h (ix1 n)
      = twice (fun i => x (ix1 i)) (fun i => y (ix1 i)) n := by
  unfold twice
  by_cases hn : n.val < 10000
  · rw [dif_pos hn]
    exact concatenate_pair_apply_left _ x y h _ rfl (ix1 ⟨n.val, hn⟩) (fun b => match b with | ⟨0, _⟩ => rfl)
  · rw [dif_neg hn]
    refine concatenate_pair_apply_right _ x y h _ rfl rfl (ix1 ⟨n.val - 10000, by have := n.isLt; omega⟩)
      (fun b hb => match b with | ⟨0, _⟩ => absurd rfl hb) ?_
    show n.val - 10000 + 10000 = n.val
    omega

end Cert.Lists
-- ==== Proof.Tail.lean ====
/- What the kernel's eight results hold, in terms of its arguments. -/
module

public import proofs.«01_k».proof.Proof.Held
public import proofs.«01_k».proof.Proof.Lists

@[expose] public section

noncomputable section

open Idealize.ShloMosaic Idealize.ShloMosaic.TcCoe Idealize.SL.Sem Idealize.ShloMosaic.ValueIdx Idealize.ShloMosaic.StableHlo

namespace Cert.Tail

open Cert.KernelIdeal Cert.KernelIdeal.Gen Cert.Held Cert.Lists

variable (m : (ℓ : Loc nD τ sig) → Buf (Elt Ideal) ℓ) (ρ : Dev nD → PrngReg) (c : Dev nD)

/-- The embeddings, at the end. -/
theorem v3 (r : Fin 10000) (q : Fin 16) : W9 m ρ c (Proc.devRef .tc main_v3) (ix2 r q) = emb m c r q := by
  have e : W9 m ρ c (Proc.devRef .tc main_v3) = W5 m ρ c (Proc.devRef .tc main_v3) :=
    (W9_of m ρ c main_v3 (by decide)).trans ((W8_of m ρ c main_v3 (by decide)).trans
      ((W7_of m ρ c main_v3 (by decide)).trans (W6_of m ρ c main_v3 (by decide))))
  exact (congrFun e _).trans (v3_5 m ρ c r q)

/-- The mask, at the end. -/
theorem v40 (n : Fin 320000) : W9 m ρ c (Proc.devRef .tc main_v40) (ix1 n) = 1#1 := by
  have e : W9 m ρ c (Proc.devRef .tc main_v40) = broadcastInDim S320000 ![] bcast_S_S320000 (constantI S_ 1 1#1) := by
    unfold W9 hostOps4
    after_results
  exact (congrFun e _).trans rfl

/-- The first row of the first edge list. -/
theorem v24_0 (n : Fin 50000) : W9 m ρ c (Proc.devRef .tc main_v24) (ix2 0 n) = BitVec.ofNat 32 (node5 n).val := by
  have e : W9 m ρ c (Proc.devRef .tc main_v24) = concatenate S2x50000 0 [⟨S1x50000, broadcastInDim S1x50000 ![1] bcast_S50000_S1x50000_1
        (shapeCast S50000 (broadcastInDim S10000x5 ![0] bcast_S10000_S10000x5_0 (iotaInDim S10000 32 0)) shapeCasts_S10000x5_S50000)⟩,
      ⟨S1x50000, broadcastInDim S1x50000 ![1] bcast_S50000_S1x50000_1
        (shapeCast S50000 (W8 m ρ c (Proc.devRef .tc main_v14_0)) shapeCasts_S10000x5_S50000)⟩] concatenates_S1x50000_S1x50000_S2x50000_d0 := by
    unfold W9 hostOps4
    after_results
    rfl
  exact (congrFun e _).trans ((pairTop _ _ _ n).trans ((asRow (by decide) _ _ 0 n).trans ((flat5 _ _ n).trans (rows5 _ _ _))))

variable (hs : ∀ i, (c0 m c i).toNat < 1000)
include hs

/-- The second row of the first edge list. -/
theorem v24_1 (n : Fin 50000) : W9 m ρ c (Proc.devRef .tc main_v24) (ix2 1 n)
    = Spec.word (Spec.near (far m c (node5 n)) (slot5 n).val) := by
  have e : W9 m ρ c (Proc.devRef .tc main_v24) = concatenate S2x50000 0 [⟨S1x50000, broadcastInDim S1x50000 ![1] bcast_S50000_S1x50000_1
        (shapeCast S50000 (broadcastInDim S10000x5 ![0] bcast_S10000_S10000x5_0 (iotaInDim S10000 32 0)) shapeCasts_S10000x5_S50000)⟩,
      ⟨S1x50000, broadcastInDim S1x50000 ![1] bcast_S50000_S1x50000_1
        (shapeCast S50000 (W8 m ρ c (Proc.devRef .tc main_v14_0)) shapeCasts_S10000x5_S50000)⟩] concatenates_S1x50000_S1x50000_S2x50000_d0 := by
    unfold W9 hostOps4
    after_results
    rfl
  refine (congrFun e _).trans ((pairLow _ _ _ n).trans ((asRow (by decide) _ _ 0 n).trans ((flat5 _ _ n).trans ?_)))
  exact (congrFun ((W8_of m ρ c main_v14_0 (by decide)).trans (W7_of m ρ c main_v14_0 (by decide))) _).trans (v14_0 m ρ c hs _ _)

/-- The first edge weights. -/
theorem v25 (n : Fin 50000) : W9 m ρ c (Proc.devRef .tc main_v25) (ix2 n 0)
    = Spec.weight (scalar9 m c) (scalar10 m c) (far m c (node5 n)) (slot5 n) := by
  have e : W9 m ρ c (Proc.devRef .tc main_v25)
      = shapeCast S50000x1 (W8 m ρ c (Proc.devRef .tc main_v14_2)) shapeCasts_S10000x5_S50000x1 := by
    unfold W9 hostOps4
    after_results
    rfl
  refine (congrFun e _).trans ((column5 _ _ n).trans ?_)
  exact (congrFun ((W8_of m ρ c main_v14_2 (by decide)).trans (W7_of m ρ c main_v14_2 (by decide))) _).trans (v14_2 m ρ c hs _ _)

/-- The first edge scores. -/
theorem v26 (n : Fin 50000) : W9 m ρ c (Proc.devRef .tc main_v26) (ix1 n)
    = Spec.score (scalar9 m c) (scalar10 m c) (far m c (node5 n)) (slot5 n).val := by
  have e : W9 m ρ c (Proc.devRef .tc main_v26)
      = shapeCast S50000 (W8 m ρ c (Proc.devRef .tc main_v14_1)) shapeCasts_S10000x5_S50000 := by
    unfold W9 hostOps4
    after_results
    rfl
  refine (congrFun e _).trans ((flat5 _ _ n).trans ?_)
  exact (congrFun ((W8_of m ρ c main_v14_1 (by decide)).trans (W7_of m ρ c main_v14_1 (by decide))) _).trans (v14_1 m ρ c hs _ _)

/-- The mean embeddings, at the end. -/
theorem v17_0 (p : Fin 1000) (q : Fin 16) : W9 m ρ c (Proc.devRef .tc main_v17_0) (ix2 p q) = mean m c p q :=
  (congrFun (W9_of m ρ c main_v17_0 (by decide)) _).trans (Held.v17_0 m ρ c hs p q)

/-- The first row of the second edge list. -/
theorem v35_0 (n : Fin 20000) : W9 m ρ c (Proc.devRef .tc main_v35) (ix2 0 n)
    = twice (fun i => Spec.word (node10 i)) (fun i => Spec.word (Spec.near (net m c (node10 i)) (slot10 i).val)) n := by
  have e : W9 m ρ c (Proc.devRef .tc main_v35) = concatenate S2x20000 0 [⟨S1x20000, broadcastInDim S1x20000 ![1] bcast_S20000_S1x20000_1
        (concatenate S20000 0 [⟨S10000, shapeCast S10000 (broadcastInDim S1000x10 ![0] bcast_S1000_S1000x10_0 (iotaInDim S1000 32 0)) shapeCasts_S1000x10_S10000⟩,
          ⟨S10000, shapeCast S10000 (W8 m ρ c (Proc.devRef .tc main_v17_1)) shapeCasts_S1000x10_S10000⟩] concatenates_S10000_S10000_S20000_d0)⟩,
      ⟨S1x20000, broadcastInDim S1x20000 ![1] bcast_S20000_S1x20000_1
        (concatenate S20000 0 [⟨S10000, shapeCast S10000 (W8 m ρ c (Proc.devRef .tc main_v17_1)) shapeCasts_S1000x10_S10000⟩,
          ⟨S10000, shapeCast S10000 (broadcastInDim S1000x10 ![0] bcast_S1000_S1000x10_0 (iotaInDim S1000 32 0)) shapeCasts_S1000x10_S10000⟩]
          concatenates_S10000_S10000_S20000_d0)⟩] concatenates_S1x20000_S1x20000_S2x20000_d0 := by
    unfold W9 hostOps4
    after_results
    rfl
  refine (congrFun e _).trans ((pairTop _ _ _ n).trans ((asRow (by decide) _ _ 0 n).trans ((after _ _ _ n).trans ?_)))
  exact congrArg₂ (fun f g => twice f g n) (funext fun i => (flat10 _ _ i).trans (rows10 _ _ _))
    (funext fun i => (flat10 _ _ i).trans (Held.v17_1 m ρ c hs _ _))

/-- The second row of the second edge list. -/
theorem v35_1 (n : Fin 20000) : W9 m ρ c (Proc.devRef .tc main_v35) (ix2 1 n)
    = twice (fun i => Spec.word (Spec.near (net m c (node10 i)) (slot10 i).val)) (fun i => Spec.word (node10 i)) n := by
  have e : W9 m ρ c (Proc.devRef .tc main_v35) = concatenate S2x20000 0 [⟨S1x20000, broadcastInDim S1x20000 ![1] bcast_S20000_S1x20000_1
        (concatenate S20000 0 [⟨S10000, shapeCast S10000 (broadcastInDim S1000x10 ![0] bcast_S1000_S1000x10_0 (iotaInDim S1000 32 0)) shapeCasts_S1000x10_S10000⟩,
          ⟨S10000, shapeCast S10000 (W8 m ρ c (Proc.devRef .tc main_v17_1)) shapeCasts_S1000x10_S10000⟩] concatenates_S10000_S10000_S20000_d0)⟩,
      ⟨S1x20000, broadcastInDim S1x20000 ![1] bcast_S20000_S1x20000_1
        (concatenate S20000 0 [⟨S10000, shapeCast S10000 (W8 m ρ c (Proc.devRef .tc main_v17_1)) shapeCasts_S1000x10_S10000⟩,
          ⟨S10000, shapeCast S10000 (broadcastInDim S1000x10 ![0] bcast_S1000_S1000x10_0 (iotaInDim S1000 32 0)) shapeCasts_S1000x10_S10000⟩]
          concatenates_S10000_S10000_S20000_d0)⟩] concatenates_S1x20000_S1x20000_S2x20000_d0 := by
    unfold W9 hostOps4
    after_results
    rfl
  refine (congrFun e _).trans ((pairLow _ _ _ n).trans ((asRow (by decide) _ _ 0 n).trans ((after _ _ _ n).trans ?_)))
  exact congrArg₂ (fun f g => twice f g n) (funext fun i => (flat10 _ _ i).trans (Held.v17_1 m ρ c hs _ _))
    (funext fun i => (flat10 _ _ i).trans (rows10 _ _ _))

/-- The second edge weights. -/
theorem v39 (n : Fin 20000) : W9 m ρ c (Proc.devRef .tc main_v39) (ix2 n 0)
    = twice (fun i => Spec.outward (scalar11 m c) (scalar12 m c) (net m c) (node10 i) (slot10 i).val)
        (fun i => Spec.inward (scalar11 m c) (scalar12 m c) (net m c) (node10 i) (slot10 i).val) n := by
  have e : W9 m ρ c (Proc.devRef .tc main_v39) = broadcastInDim S20000x1 ![0] bcast_S20000_S20000x1_0
      (concatenate S20000 0 [⟨S10000, shapeCast S10000 (W8 m ρ c (Proc.devRef .tc main_v17_2)) shapeCasts_S1000x10_S10000⟩,
        ⟨S10000, shapeCast S10000 (W8 m ρ c (Proc.devRef .tc main_v17_3)) shapeCasts_S1000x10_S10000⟩] concatenates_S10000_S10000_S20000_d0) := by
    unfold W9 hostOps4
    after_results
    rfl
  refine (congrFun e _).trans ((asCol (by decide) _ _ n 0).trans ((after _ _ _ n).trans ?_))
  exact congrArg₂ (fun f g => twice f g n) (funext fun i => (flat10 _ _ i).trans (Held.v17_2 m ρ c hs _ _))
    (funext fun i => (flat10 _ _ i).trans (Held.v17_3 m ρ c hs _ _))

end Cert.Tail
-- ==== Proof.RefOps.lean ====
/- The host's indexed operations, read at an element: the sums over a column of words, rows taken at words, the chosen of a row. -/
module

public import proofs.«01_k».proof.Proof.Reads
public import Idealize.ShloMosaic.Lib.Pipeline.Value
public import Idealize.ShloMosaic.Lib.ReduceAll
public import Idealize.ShloMosaic.Lib.Routing.Ops
public import Idealize.ShloMosaic.Lib.Routing.OpsPair
public import Idealize.ShloMosaic.Lib.Routing.OpsSearch

@[expose] public section

noncomputable section

open Idealize.ShloMosaic Idealize.ShloMosaic.ValueIdx

namespace Cert.RefOps

/-- A word read with its sign is a small number exactly when it is that number's word. -/
theorem toInt_iff (w : BitVec 32) {k : ℕ} (hk : k < 2 ^ 31) : w.toInt = (k : Int) ↔ w = BitVec.ofNat 32 k := by
  constructor
  · intro h
    apply BitVec.eq_of_toInt_eq
    rw [h, Reads.toInt_small hk]
  · rintro rfl
    exact Reads.toInt_small hk

/-- A sum over the positions of a vector. -/
theorem sum_vec {n : ℕ} (g : (⟨1, ![n]⟩ : Shape).Idx → EReal) : ∑ j, g j = ∑ i : Fin n, g (ix1 i) :=
  Fintype.sum_equiv ⟨fun j => j 0, fun i => ix1 i, fun j => (eq_ix1 j).symm, fun _ => rfl⟩ _ _ fun j => congrArg g (eq_ix1 j)

section Scatter

variable {N n C : ℕ}

/-- The axis of the table a column of words indexes starts at the update's own word. -/
theorem start_vec (d : ScatterDims ⟨1, ![N]⟩ ⟨2, ![n, 1]⟩ ⟨1, ![n]⟩) (hsd : d.scatterDimsToOperandDims = [0])
    (hivd : d.indexVectorDim = 1) (idx : IVec ⟨2, ![n, 1]⟩ 32) (i : Fin n) :
    d.start (ix1 i) idx 0 = (idx (ix2 i 0)).toInt := by
  have hm : (0 : Fin 1) ∈ d.scatterDimsToOperandDims := by rw [hsd]; exact List.mem_singleton.2 rfl
  unfold ScatterDims.start
  rw [dif_pos hm]
  refine congrArg (fun e => (idx e).toInt) (funext fun b => Fin.ext ?_)
  match b with
  | ⟨0, _⟩ =>
    unfold ScatterDims.siIdx
    rw [dif_neg (by rw [hivd]; exact Nat.zero_ne_one)]
    unfold ScatterDims.siCoord
    have e : ∀ X : Fin 1, (ix1 i X).val = i.val := fun X => by
      obtain rfl : X = 0 := Subsingleton.elim _ _
      rfl
    exact e _
  | ⟨1, _⟩ =>
    unfold ScatterDims.siIdx
    rw [dif_pos (by rw [hivd])]
    show List.idxOf (0 : Fin 1) d.scatterDimsToOperandDims = 0
    rw [hsd]; simp

/-- Entries added into a vector at a column of words: each position holds what it held and the entries whose word is that position. -/
theorem sumVec (d : ScatterDims ⟨1, ![N]⟩ ⟨2, ![n, 1]⟩ ⟨1, ![n]⟩) (hiw : d.insertedWindowDims = [0])
    (hsd : d.scatterDimsToOperandDims = [0]) (hivd : d.indexVectorDim = 1) (hN : N ≤ 2 ^ 31) (x : (⟨1, ![N]⟩ : Shape).Idx → EReal)
    (idx : IVec ⟨2, ![n, 1]⟩ 32) (upd : (⟨1, ![n]⟩ : Shape).Idx → EReal) (p : Fin N) :
    Ideal.hostScatterAdd d x idx upd (ix1 p)
      = x (ix1 p) + ∑ i : Fin n, if idx (ix2 i 0) = BitVec.ofNat 32 p.val then upd (ix1 i) else 0 := by
  classical
  have hwin : ∀ i : Fin n, d.window (ix1 i) 0 = 0 := fun i => by
    unfold ScatterDims.window
    rw [dif_neg fun h => (of_decide_eq_true (List.mem_filter.1 h).2) (by rw [hiw]; exact List.mem_singleton.2 rfl)]
  have lands : ∀ i : Fin n, d.resultIdx? (ix1 i) idx = some (ix1 p) ↔ idx (ix2 i 0) = BitVec.ofNat 32 p.val := fun i => by
    refine (Routing.resultIdx?_ix1 d (ix1 i) idx p).trans ?_
    rw [start_vec d hsd hivd idx i, hwin i, Nat.cast_zero, add_zero, toInt_iff _ (lt_of_lt_of_le p.isLt hN)]
  unfold Ideal.hostScatterAdd
  refine congrArg (x (ix1 p) + ·) ?_
  rw [Finset.sum_filter, sum_vec]
  exact Finset.sum_congr rfl fun i _ => if_congr (lands i) rfl rfl

/-- The first axis of a table whose rows a column of words indexes starts at the update's own word. -/
theorem start_rows (d : ScatterDims ⟨2, ![N, C]⟩ ⟨2, ![n, 1]⟩ ⟨2, ![n, C]⟩) (huw : d.updateWindowDims = [1])
    (hsd : d.scatterDimsToOperandDims = [0]) (hivd : d.indexVectorDim = 1) (idx : IVec ⟨2, ![n, 1]⟩ 32) (i : Fin n) (l : Fin C) :
    d.start (ix2 i l) idx 0 = (idx (ix2 i 0)).toInt := by
  have hm : (0 : Fin 2) ∈ d.scatterDimsToOperandDims := by rw [hsd]; exact List.mem_singleton.2 rfl
  have hk : ∀ X : Fin 2, X ∈ d.uScatter → (ix2 i l X).val = i.val := fun X hX => by
    have hX' : X ∉ d.updateWindowDims := of_decide_eq_true (List.mem_filter.1 hX).2
    rw [huw] at hX'
    obtain rfl | rfl : X = 0 ∨ X = 1 := by omega
    · rfl
    · exact absurd (List.mem_singleton.2 rfl) hX'
  unfold ScatterDims.start
  rw [dif_pos hm]
  refine congrArg (fun e => (idx e).toInt) (funext fun b => Fin.ext ?_)
  match b with
  | ⟨0, _⟩ =>
    unfold ScatterDims.siIdx
    rw [dif_neg (by rw [hivd]; exact Nat.zero_ne_one)]
    unfold ScatterDims.siCoord
    exact hk _ (List.getElem_mem _)
  | ⟨1, _⟩ =>
    unfold ScatterDims.siIdx
    rw [dif_pos (by rw [hivd])]
    show List.idxOf (0 : Fin 2) d.scatterDimsToOperandDims = 0
    rw [hsd]; simp

/-- Rows added into a table at a column of words: each row holds what it held and the rows whose word is that row. -/
theorem sumRows (d : ScatterDims ⟨2, ![N, C]⟩ ⟨2, ![n, 1]⟩ ⟨2, ![n, C]⟩) (huw : d.updateWindowDims = [1]) (hiw : d.insertedWindowDims = [0])
    (hsd : d.scatterDimsToOperandDims = [0]) (hivd : d.indexVectorDim = 1) (hN : N ≤ 2 ^ 31) (x : (⟨2, ![N, C]⟩ : Shape).Idx → EReal)
    (idx : IVec ⟨2, ![n, 1]⟩ 32) (upd : (⟨2, ![n, C]⟩ : Shape).Idx → EReal) (p : Fin N) (q : Fin C) :
    Ideal.hostScatterAdd d x idx upd (ix2 p q)
      = x (ix2 p q) + ∑ i : Fin n, if idx (ix2 i 0) = BitVec.ofNat 32 p.val then upd (ix2 i q) else 0 := by
  classical
  have hkept : d.sKept = [1] := by
    show (⟨2, ![N, C]⟩ : Shape).kept d.insertedWindowDims = _
    rw [hiw]
    rfl
  have hwin0 : ∀ (i : Fin n) (l : Fin C), d.window (ix2 i l) 0 = 0 := fun i l => by
    unfold ScatterDims.window
    rw [dif_neg fun h => (of_decide_eq_true (List.mem_filter.1 h).2) (by rw [hiw]; exact List.mem_singleton.2 rfl)]
  have hwin1 : ∀ (i : Fin n) (l : Fin C), d.window (ix2 i l) 1 = l.val := fun i l => by
    unfold ScatterDims.window
    rw [dif_pos (by rw [hkept]; exact List.mem_singleton.2 rfl)]
    have e : ∀ X : Fin 2, X ∈ d.updateWindowDims → (ix2 i l X).val = l.val := fun X hX => by
      rw [huw] at hX
      obtain rfl := List.mem_singleton.1 hX
      rfl
    exact e _ (List.getElem_mem _)
  have hstart1 : ∀ (i : Fin n) (l : Fin C), d.start (ix2 i l) idx 1 = 0 := fun i l => by
    unfold ScatterDims.start
    rw [dif_neg fun h => by rw [hsd] at h; exact absurd (List.mem_singleton.1 h) (by decide : (1 : Fin 2) ≠ 0)]
  have lands : ∀ (i : Fin n) (l : Fin C), d.resultIdx? (ix2 i l) idx = some (ix2 p q) ↔ idx (ix2 i 0) = BitVec.ofNat 32 p.val ∧ l = q := fun i l => by
    refine (Routing.resultIdx?_ix2 d (ix2 i l) idx p q).trans ?_
    rw [start_rows d huw hsd hivd idx i l, hwin0 i l, Nat.cast_zero, add_zero, toInt_iff _ (lt_of_lt_of_le p.isLt hN), hstart1 i l, hwin1 i l,
      zero_add, Nat.cast_inj, Fin.ext_iff]
  unfold Ideal.hostScatterAdd
  refine congrArg (x (ix2 p q) + ·) ?_
  rw [Finset.sum_filter, sum_idx2]
  refine Finset.sum_congr rfl fun i _ => ?_
  rw [Finset.sum_eq_single q]
  · exact if_congr ((lands i q).trans (and_iff_left rfl)) rfl rfl
  · intro l _ hl
    exact if_neg fun h => hl ((lands i l).1 h).2
  · intro h
    exact absurd (Finset.mem_univ q) h

end Scatter

/-- A word that is no negative number stays as it is where negative words would be moved up. -/
theorem wrapped (w N : BitVec 32) {k : ℕ} (hk : k < 2 ^ 31) (h : w = BitVec.ofNat 32 k) :
    Scalar.select (IntOp.cmpi .slt w 0#32) (IntOp.addi w N) w = BitVec.ofNat 32 k := by
  subst h
  refine Routing.wrap_of_lt _ _ ?_
  rw [BitVec.toNat_ofNat, Nat.mod_eq_of_lt (by omega)]
  exact hk

/-- The word of a position lies between nothing and the last position. -/
theorem inside (w M : BitVec 32) {k m : ℕ} (hm : m < 2 ^ 31) (hk : k ≤ m) (h : w = BitVec.ofNat 32 k) (hM : M = BitVec.ofNat 32 m) :
    IntOp.andi (IntOp.cmpi .sge w 0#32) (IntOp.cmpi .sle w M) = 1#1 := by
  subst h hM
  have e := Reads.toInt_small (n := k) (by omega)
  rw [IntOp.andi_eq_one, IntOp.cmpi_sge, IntOp.cmpi_sle, Reads.toInt_small hm, e]
  exact ⟨by simp, by exact_mod_cast hk⟩

/-- Rows taken at words that are all row numbers: the row of each, the mask of the words in range being one throughout. -/
theorem taken {N n C : ℕ} (d : GatherDims ⟨2, ![N, C]⟩ ⟨2, ![n, 1]⟩ ⟨2, ![n, C]⟩) (hoff : d.offsetDims = [1])
    (hcoll : d.collapsedSliceDims = [0]) (hob : d.operandBatchingDims = []) (hsim : d.startIndexMap = [0]) (hivd : d.indexVectorDim = 1)
    (hN : N < 2 ^ 31) (x : FVec Ideal ⟨2, ![N, C]⟩ .f32) (other : FVec Ideal ⟨2, ![n, C]⟩ .f32) (idx : IVec ⟨2, ![n, 1]⟩ 32)
    (k : Fin n → Fin N) (hidx : ∀ i, idx (ix2 i 0) = BitVec.ofNat 32 (k i).val) (mask : IVec ⟨2, ![n, C]⟩ 1) (hmask : ∀ i q, mask (ix2 i q) = 1#1)
    (i : Fin n) (q : Fin C) : select mask (Host.gather d x idx) other (ix2 i q) = x (ix2 (k i) q) := by
  rw [select_apply, hmask]
  refine (if_pos rfl).trans ?_
  exact Routing.gather_row d hoff hcoll hob hsim hivd x idx i q (k i) (hidx i) hN

section Top

variable {a b c : ℕ}

/-- The positions a stable descending sort of a row puts first. -/
theorem order [NeZero b] (x : FVec Ideal ⟨2, ![a, b]⟩ .f32) (p : Fin a) (hx : ∀ q, (x (ix2 p q) : EReal) ≠ ⊥) (k : Fin b) :
    sortedFrom (fun u v : Fin b => (FloatOps.cmpfTotal (F := Ideal) (φ := .f32) .gt) (x (ix2 p u)) (x (ix2 p v)) == 1#1) k
      = TopPick.pos (fun q => x (ix2 p q)) k.val :=
  TopPick.sortedFrom_eq_pos (fun q => x (ix2 p q)) hx _ (fun u v => by
    show ((BitVec.ofBool (decide ((x (ix2 p v) : EReal) < x (ix2 p u)))) == 1#1) = _
    cases decide ((x (ix2 p v) : EReal) < x (ix2 p u)) <;> rfl) k

/-- A position of a table with its column changed. -/
theorem along_col (p : Fin a) (k v : Fin b) :
    (ix2 p k : (⟨2, ![a, b]⟩ : Shape).Idx).along (1 : Fin 2) v = ix2 p v := by
  funext d
  match d with
  | ⟨0, _⟩ => rfl
  | ⟨1, _⟩ => rfl

/-- The two tables a sort of a row carries along, at its positions. -/
theorem sorted [NeZero b] (x : FVec Ideal ⟨2, ![a, b]⟩ .f32) (y : IVec ⟨2, ![a, b]⟩ 32) (p : Fin a) (hx : ∀ q, (x (ix2 p q) : EReal) ≠ ⊥)
    (k : Fin b) :
    (Host.sort2 ⟨2, ![a, b]⟩ 1 (fun l r => (FloatOps.cmpfTotal (F := Ideal) (φ := .f32) .gt) l.1 r.1) x y).1 (ix2 p k)
        = x (ix2 p (TopPick.pos (fun q => x (ix2 p q)) k.val)) ∧
    (Host.sort2 ⟨2, ![a, b]⟩ 1 (fun l r => (FloatOps.cmpfTotal (F := Ideal) (φ := .f32) .gt) l.1 r.1) x y).2 (ix2 p k)
        = y (ix2 p (TopPick.pos (fun q => x (ix2 p q)) k.val)) := by
  have e : sortedFrom (fun u v : Fin b => (FloatOps.cmpfTotal (F := Ideal) (φ := .f32) .gt)
      (x ((ix2 p k : (⟨2, ![a, b]⟩ : Shape).Idx).along (1 : Fin 2) u)) (x ((ix2 p k : (⟨2, ![a, b]⟩ : Shape).Idx).along (1 : Fin 2) v)) == 1#1) k
      = TopPick.pos (fun q => x (ix2 p q)) k.val := by
    refine Eq.trans (congrArg (fun R => sortedFrom R k) (funext fun u => funext fun v => ?_)) (order x p hx k)
    rw [along_col p k u, along_col p k v]
  unfold Host.sort2
  rw [dif_pos (show 1 < 2 from Nat.one_lt_two)]
  exact ⟨congrArg x ((along_col p k _).trans (congrArg (ix2 p) e)), congrArg y ((along_col p k _).trans (congrArg (ix2 p) e))⟩

/-- The leading columns of a table. -/
theorem leading {α : Type} (hc : c ≤ b) (x : (⟨2, ![a, b]⟩ : Shape).Idx → α) (h : (⟨2, ![a, b]⟩ : Shape).Slices (fun _ => 0) ⟨2, ![a, c]⟩)
    (p : Fin a) (k : Fin c) : extractStridedSlice ⟨2, ![a, c]⟩ (fun _ => 0) x h (ix2 p k) = x (ix2 p ⟨k.val, lt_of_lt_of_le k.isLt hc⟩) :=
  extractStridedSlice_apply (fun _ => 0) x h (ix2 p k) (ix2 p ⟨k.val, lt_of_lt_of_le k.isLt hc⟩) (fun d => by
    match d with
    | ⟨0, _⟩ => exact (Nat.zero_add _).symm
    | ⟨1, _⟩ => exact (Nat.zero_add _).symm)

/-- The greatest entries of a row, in order. -/
theorem topValues [NeZero b] (hc : c ≤ b) (x : FVec Ideal ⟨2, ![a, b]⟩ .f32) (h : (⟨2, ![a, b]⟩ : Shape).Slices (fun _ => 0) ⟨2, ![a, c]⟩)
    (p : Fin a) (hx : ∀ q, (x (ix2 p q) : EReal) ≠ ⊥) (k : Fin c) :
    (Host.topK (s := ⟨2, ![a, b]⟩) ⟨2, ![a, c]⟩ 1 (FloatOps.cmpfTotal (F := Ideal) (φ := .f32) .gt) x h).1 (ix2 p k)
      = x (ix2 p (TopPick.pos (fun q => x (ix2 p q)) k.val)) :=
  (leading hc (Host.sort2 ⟨2, ![a, b]⟩ 1 _ x (iotaInDim ⟨2, ![a, b]⟩ 32 (1 : Fin 2))).1 h p k).trans
    (sorted x (iotaInDim ⟨2, ![a, b]⟩ 32 (1 : Fin 2)) p hx ⟨k.val, lt_of_lt_of_le k.isLt hc⟩).1

/-- The positions of the greatest entries of a row, in order. -/
theorem topIndices [NeZero b] (hc : c ≤ b) (x : FVec Ideal ⟨2, ![a, b]⟩ .f32) (h : (⟨2, ![a, b]⟩ : Shape).Slices (fun _ => 0) ⟨2, ![a, c]⟩)
    (p : Fin a) (hx : ∀ q, (x (ix2 p q) : EReal) ≠ ⊥) (k : Fin c) :
    (Host.topK (s := ⟨2, ![a, b]⟩) ⟨2, ![a, c]⟩ 1 (FloatOps.cmpfTotal (F := Ideal) (φ := .f32) .gt) x h).2 (ix2 p k)
      = BitVec.ofNat 32 (TopPick.pos (fun q => x (ix2 p q)) k.val).val :=
  (leading hc (Host.sort2 ⟨2, ![a, b]⟩ 1 _ x (iotaInDim ⟨2, ![a, b]⟩ 32 (1 : Fin 2))).2 h p k).trans
    (sorted x (iotaInDim ⟨2, ![a, b]⟩ 32 (1 : Fin 2)) p hx ⟨k.val, lt_of_lt_of_le k.isLt hc⟩).2

end Top

end Cert.RefOps
-- ==== Proof.RefMean.lean ====
/- The reference's clusters: the rows it takes, the sums and the counts of a cluster, the means. -/
module

public import proofs.«01_k».proof.Proof.RefOps
public import proofs.«01_k».proof.Proof.Spec
public import proofs.«01_k».proof.Proof.Finite

@[expose] public section

noncomputable section

open Idealize.ShloMosaic Idealize.ShloMosaic.ValueIdx

namespace Cert.RefMean
open Cert.ReferenceIdeal Cert.ReferenceIdeal.Read

variable (x0 : Vec Ideal S10000x128 .f32) (x2 : Vec Ideal S2x10000 .i32) (x3 : Vec Ideal S128x256 .f32) (x4 : Vec Ideal S256 .f32)
    (x5 : Vec Ideal S256x256 .f32) (x6 : Vec Ideal S256 .f32) (x7 : Vec Ideal S256x16 .f32) (x8 : Vec Ideal S16 .f32)

/-- The reference's embeddings. -/
def E (r : Fin 10000) (q : Fin 16) : EReal :=
  Mlp.encode (fun k => x0 (ix2 r k)) (fun k l => x3 (ix2 k l)) (fun l => x4 (ix1 l)) (fun k l => x5 (ix2 k l))
    (fun l => x6 (ix1 l)) (fun k l => x7 (ix2 k l)) (fun l => x8 (ix1 l)) q

/-- The list of sources. -/
def c0 (i : Fin 10000) : BitVec 32 := x2 (ix2 0 i)

/-- The list of clusters. -/
def c1 (i : Fin 10000) : BitVec 32 := x2 (ix2 1 i)

/-- The means of the clusters. -/
abbrev M (p : Fin 1000) (q : Fin 16) : EReal := Spec.mean (E x0 x3 x4 x5 x6 x7 x8) (c0 x2) (c1 x2) p q

/-- The reference's embeddings, as it stores them. -/
theorem emb (r : Fin 10000) (q : Fin 16) : val_main_v37 (F := Ideal) x0 x3 x4 x5 x6 x7 x8 (ix2 r q) = E x0 x3 x4 x5 x6 x7 x8 r q :=
  Mlp.ref x0 x3 x4 x5 x6 x7 x8 r q

/-- The mask is one everywhere. -/
theorem ones (i : Fin 320000) : val_main_v56 (F := Ideal) (ix1 i) = 1#1 := by
  rw [val_main_v56_apply, val_main_c_apply]

/-- The list of sources, as the reference cuts it out. -/
theorem sources (i : Fin 10000) : val_main_v39 (F := Ideal) x2 (ix1 i) = c0 x2 i := by
  have hi := i.isLt
  rw [val_main_v39_apply, val_main_v38_apply, Reads.ix2_of (j := idx_main_v38 (idx_main_v39 (ix1 i))) (p := 0) (q := i) rfl (Nat.mod_eq_of_lt hi)]
  rfl

/-- The list of clusters, as the reference cuts it out for the sums. -/
theorem clusters (i : Fin 10000) : val_main_v44 (F := Ideal) x2 (ix2 i 0) = c1 x2 i := by
  have hi := i.isLt
  rw [val_main_v44_apply, val_main_v42_apply, val_main_v41_apply,
    Reads.ix2_of (j := idx_main_v41 (idx_main_v42 (idx_main_v44 (ix2 i 0)))) (p := 1) (q := i) rfl (Nat.mod_eq_of_lt hi)]
  rfl

/-- The list of clusters, as the reference cuts it out for the counts. -/
theorem clusters' (i : Fin 10000) : val_main_v50 (F := Ideal) x2 (ix2 i 0) = c1 x2 i := by
  have hi := i.isLt
  rw [val_main_v50_apply, val_main_v48_apply, val_main_v47_apply,
    Reads.ix2_of (j := idx_main_v47 (idx_main_v48 (idx_main_v50 (ix2 i 0)))) (p := 1) (q := i) rfl (Nat.mod_eq_of_lt hi)]
  rfl

/-- A source in range is the word of its own number. -/
theorem source_word {w : BitVec 32} (h : w.toNat < 1000) : w = BitVec.ofNat 32 (Spec.low (Pool.src w)).val := by
  apply BitVec.eq_of_toNat_eq
  show _ = (BitVec.ofNat 32 (w.toNat % 1000)).toNat
  rw [Nat.mod_eq_of_lt h, BitVec.toNat_ofNat, Nat.mod_eq_of_lt (by omega)]

/-- The words of the rows of the embeddings at the sources, as taken. -/
theorem words0 {k : Fin 10000 → Fin 10000} (h : ∀ i, val_main_v39 (F := Ideal) x2 (ix1 i) = BitVec.ofNat 32 (k i).val) (i : Fin 10000) :
    val_main_call0_v5 (F := Ideal) x2 (ix2 i 0) = BitVec.ofNat 32 (k i).val := by
  rw [val_main_call0_v5_apply, Reads.ix1_of (j := idx_main_call0_v5 (ix2 i 0)) (p := i) rfl, val_main_call0_v4_apply, val_main_call0_v1_apply,
    val_main_call0_v3_apply, val_main_call0_v0_apply, val_main_call0_c_apply]
  exact RefOps.wrapped _ _ (lt_trans (k i).isLt (by decide)) (h i)

/-- The words of the rows of the embeddings at the sources are all in range. -/
theorem mask0 {k : Fin 10000 → Fin 10000} (h : ∀ i, val_main_v39 (F := Ideal) x2 (ix1 i) = BitVec.ofNat 32 (k i).val) (i : Fin 10000) (q : Fin 16) :
    val_main_call0_v14 (F := Ideal) x2 (ix2 i q) = 1#1 := by
  rw [val_main_call0_v14_apply, Reads.ix1_of (j := idx_main_call0_v14 (ix2 i q)) (p := i) rfl]
  refine Host.reduce_andi_one (val_main_call0_v11 (F := Ideal) x2) (val_main_call0_c_3 (F := Ideal)) _ _ (ix1 i) rfl fun j => ?_
  obtain ⟨r, u, rfl⟩ : ∃ (r : Fin 10000) (u : Fin 1), j = ix2 r u := ⟨_, _, eq_ix2 j⟩
  obtain rfl : u = 0 := Subsingleton.elim _ _
  rw [val_main_call0_v11_apply, val_main_call0_v7_apply, val_main_call0_v10_apply, val_main_call0_v6_apply, val_main_call0_c_2_apply,
    val_main_call0_v9_apply, val_main_call0_v8_apply, val_main_call0_c_1_apply]
  exact RefOps.inside _ _ (m := 9999) (by decide) (by have := (k r).isLt; omega) (words0 x2 h r) rfl

/-- The rows of the embeddings at the sources, taken. -/
theorem take0 {k : Fin 10000 → Fin 10000} (h : ∀ i, val_main_v39 (F := Ideal) x2 (ix1 i) = BitVec.ofNat 32 (k i).val) (i : Fin 10000) (q : Fin 16) :
    val_main_v40 (F := Ideal) x0 x2 x3 x4 x5 x6 x7 x8 (ix2 i q) = val_main_v37 (F := Ideal) x0 x3 x4 x5 x6 x7 x8 (ix2 (k i) q) :=
  RefOps.taken _ rfl rfl rfl rfl rfl (by decide) (val_main_v37 (F := Ideal) x0 x3 x4 x5 x6 x7 x8) _ (val_main_call0_v5 (F := Ideal) x2) k
    (words0 x2 h) (val_main_call0_v14 (F := Ideal) x2) (mask0 x2 h) i q

section Means
variable (hs : ∀ i, (c0 x2 i).toNat < 1000)
include hs

/-- The rows of the embeddings at the sources. -/
theorem rows (i : Fin 10000) (q : Fin 16) :
    val_main_v40 (F := Ideal) x0 x2 x3 x4 x5 x6 x7 x8 (ix2 i q) = E x0 x3 x4 x5 x6 x7 x8 (Spec.low (Pool.src (c0 x2 i))) q :=
  (take0 x0 x2 x3 x4 x5 x6 x7 x8 (k := fun i => Spec.low (Pool.src (c0 x2 i))) (fun i => (sources x2 i).trans (source_word (hs i))) i q).trans
    (emb x0 x3 x4 x5 x6 x7 x8 _ q)

/-- The sums of the clusters. -/
theorem sums (p : Fin 1000) (q : Fin 16) : val_main_v45 (F := Ideal) x0 x2 x3 x4 x5 x6 x7 x8 (ix2 p q)
    = Spec.sums (E x0 x3 x4 x5 x6 x7 x8) (c0 x2) (c1 x2) p q := by
  refine (RefOps.sumRows _ rfl rfl rfl rfl (by decide) (val_main_v43 (F := Ideal)) (val_main_v44 (F := Ideal) x2)
    (val_main_v40 (F := Ideal) x0 x2 x3 x4 x5 x6 x7 x8) p q).trans ?_
  rw [val_main_v43_apply, val_main_cst_7_apply]
  refine (congrArg (· + _) Ideal.ofBits_zero_f32).trans ((zero_add _).trans ?_)
  unfold Spec.sums Pool.pooled
  refine Finset.sum_congr rfl fun i _ => ?_
  rw [clusters]
  exact if_congr Iff.rfl (rows x0 x2 x3 x4 x5 x6 x7 x8 hs i q) rfl

omit hs in
/-- The counts of the clusters. -/
theorem counts (p : Fin 1000) : val_main_v51 (F := Ideal) x2 (ix1 p) = Spec.count (c1 x2) p := by
  refine (RefOps.sumVec _ rfl rfl rfl (by decide) (val_main_v49 (F := Ideal)) (val_main_v50 (F := Ideal) x2)
    (val_main_v46 (F := Ideal)) p).trans ?_
  rw [val_main_v49_apply, val_main_cst_9_apply]
  refine (congrArg (· + _) Ideal.ofBits_zero_f32).trans ((zero_add _).trans ?_)
  unfold Spec.count Pool.pooled
  refine Finset.sum_congr rfl fun i _ => ?_
  rw [clusters', val_main_v46_apply, val_main_cst_8_apply]
  exact if_congr Iff.rfl Ideal.ofBits_one_f32 rfl

/-- The means of the clusters. -/
theorem means (p : Fin 1000) (q : Fin 16) : val_main_v55 (F := Ideal) x0 x2 x3 x4 x5 x6 x7 x8 (ix2 p q) = M x0 x2 x3 x4 x5 x6 x7 x8 p q := by
  rw [val_main_v55_apply, val_main_v54_apply, val_main_v53_apply, Reads.ix1_of (j := idx_main_v53 (idx_main_v54 (ix2 p q))) (p := p) rfl,
    val_main_v52_apply, val_main_call1_v1_apply, val_main_call1_v0_apply, val_main_cst_10_apply, sums x0 x2 x3 x4 x5 x6 x7 x8 hs, counts]
  refine Eq.trans ?_ (Finite.mean_eq (Finite.pooled (fun _ => Finite.one) _ _)).symm
  refine congrArg (Ideal.div _) ?_
  exact (congrArg (max · _) Ideal.ofBits_one_f32).trans (max_comm _ _)

end Means

end Cert.RefMean
-- ==== Proof.Flat.lean ====
/- Sums over the positions of a table laid out flat, and of two lists one after the other. -/
module

public import proofs.«01_k».proof.Proof.Lists

@[expose] public section

noncomputable section

open Idealize.ShloMosaic Idealize.ShloMosaic.ValueIdx

namespace Cert.Flat
open Cert.Lists

/-- The positions of a table of five columns. -/
def table5 : Fin 50000 ≃ Fin 10000 × Fin 5 where
  toFun n := (node5 n, slot5 n)
  invFun x := ⟨5 * x.1.val + x.2.val, by have := x.1.isLt; have := x.2.isLt; omega⟩
  left_inv n := Fin.ext (by show 5 * (n.val / 5) + n.val % 5 = n.val; omega)
  right_inv x := by
    have := x.2.isLt
    refine Prod.ext (Fin.ext ?_) (Fin.ext ?_)
    · show (5 * x.1.val + x.2.val) / 5 = x.1.val; omega
    · show (5 * x.1.val + x.2.val) % 5 = x.2.val; omega

/-- The positions of a table of ten columns. -/
def table10 : Fin 10000 ≃ Fin 1000 × Fin 10 where
  toFun n := (node10 n, slot10 n)
  invFun x := ⟨10 * x.1.val + x.2.val, by have := x.1.isLt; have := x.2.isLt; omega⟩
  left_inv n := Fin.ext (by show 10 * (n.val / 10) + n.val % 10 = n.val; omega)
  right_inv x := by
    have := x.2.isLt
    refine Prod.ext (Fin.ext ?_) (Fin.ext ?_)
    · show (10 * x.1.val + x.2.val) / 10 = x.1.val; omega
    · show (10 * x.1.val + x.2.val) % 10 = x.2.val; omega

/-- A sum over a table of five columns laid out flat. -/
theorem sum5 (g : Fin 10000 → Fin 5 → EReal) : ∑ n, g (node5 n) (slot5 n) = ∑ p, ∑ k, g p k :=
  (Fintype.sum_equiv table5 _ (fun x => g x.1 x.2) fun _ => rfl).trans (Fintype.sum_prod_type' g)

/-- A sum over a table of ten columns laid out flat. -/
theorem sum10 (g : Fin 1000 → Fin 10 → EReal) : ∑ n, g (node10 n) (slot10 n) = ∑ p, ∑ k, g p k :=
  (Fintype.sum_equiv table10 _ (fun x => g x.1 x.2) fun _ => rfl).trans (Fintype.sum_prod_type' g)

/-- A sum over two lists one after the other. -/
theorem sumTwice (h : Fin 20000 → EReal) (f g : Fin 10000 → EReal)
    (hf : ∀ (n : Fin 20000) (hn : n.val < 10000), h n = f ⟨n.val, hn⟩)
    (hg : ∀ (n : Fin 20000) (hn : ¬ n.val < 10000), h n = g ⟨n.val - 10000, by have := n.isLt; omega⟩) :
    ∑ n, h n = (∑ i, f i) + ∑ i, g i := by
  have e : ∑ n, h n = ∑ n : Fin (10000 + 10000), h n := rfl
  rw [e, Fin.sum_univ_add]
  refine congrArg₂ (· + ·) (Finset.sum_congr rfl fun i _ => ?_) (Finset.sum_congr rfl fun i _ => ?_)
  · exact hf (Fin.castAdd 10000 i) i.isLt
  · refine (hg (Fin.natAdd 10000 i) (by show ¬ 10000 + i.val < 10000; omega)).trans (congrArg g (Fin.ext ?_))
    show 10000 + i.val - 10000 = i.val
    omega

end Cert.Flat
-- ==== Proof.RefBip.lean ====
/- The reference's five nearest clusters of an embedding: their numbers, the scores and the weights. -/
module

public import proofs.«01_k».proof.Proof.RefMean
public import proofs.«01_k».proof.Proof.Flat

@[expose] public section

noncomputable section

open Idealize.ShloMosaic Idealize.ShloMosaic.ValueIdx

namespace Cert.RefBip
open Cert.ReferenceIdeal Cert.ReferenceIdeal.Read Cert.RefMean Cert.Lists

variable (x0 : Vec Ideal S10000x128 .f32) (x2 : Vec Ideal S2x10000 .i32) (x3 : Vec Ideal S128x256 .f32) (x4 : Vec Ideal S256 .f32)
    (x5 : Vec Ideal S256x256 .f32) (x6 : Vec Ideal S256 .f32) (x7 : Vec Ideal S256x16 .f32) (x8 : Vec Ideal S16 .f32)
    (x9 x10 : Vec Ideal S1 .f32)

/-- The negated distances of the embeddings from the means. -/
abbrev D (r : Fin 10000) (q : Fin 1000) : EReal := Spec.far (E x0 x3 x4 x5 x6 x7 x8) (c0 x2) (c1 x2) r q

/-- The source of an edge, as a word. -/
theorem source (n : Fin 50000) : val_main_v74 (F := Ideal) (ix1 n) = BitVec.ofNat 32 (node5 n).val := by
  rw [val_main_v74_apply, val_main_v73_apply, val_main_v72_apply]
  rfl

/-- The words of the rows of the embeddings at the ends of the edges, as taken. -/
theorem words2 {k : Fin 50000 → Fin 10000} (h : ∀ i, val_main_v74 (F := Ideal) (ix1 i) = BitVec.ofNat 32 (k i).val) (i : Fin 50000) :
    val_main_call2_v5 (F := Ideal) (ix2 i 0) = BitVec.ofNat 32 (k i).val := by
  rw [val_main_call2_v5_apply, Reads.ix1_of (j := idx_main_call2_v5 (ix2 i 0)) (p := i) rfl, val_main_call2_v4_apply, val_main_call2_v1_apply,
    val_main_call2_v3_apply, val_main_call2_v0_apply, val_main_call2_c_apply]
  exact RefOps.wrapped _ _ (lt_trans (k i).isLt (by decide)) (h i)

/-- The words of the rows of the embeddings at the ends of the edges are all in range. -/
theorem mask2 {k : Fin 50000 → Fin 10000} (h : ∀ i, val_main_v74 (F := Ideal) (ix1 i) = BitVec.ofNat 32 (k i).val) (i : Fin 50000) (q : Fin 16) :
    val_main_call2_v14 (F := Ideal) (ix2 i q) = 1#1 := by
  rw [val_main_call2_v14_apply, Reads.ix1_of (j := idx_main_call2_v14 (ix2 i q)) (p := i) rfl]
  refine Host.reduce_andi_one (val_main_call2_v11 (F := Ideal)) (val_main_call2_c_3 (F := Ideal)) _ _ (ix1 i) rfl fun j => ?_
  obtain ⟨r, u, rfl⟩ : ∃ (r : Fin 50000) (u : Fin 1), j = ix2 r u := ⟨_, _, eq_ix2 j⟩
  obtain rfl : u = 0 := Subsingleton.elim _ _
  rw [val_main_call2_v11_apply, val_main_call2_v7_apply, val_main_call2_v10_apply, val_main_call2_v6_apply, val_main_call2_c_2_apply,
    val_main_call2_v9_apply, val_main_call2_v8_apply, val_main_call2_c_1_apply]
  exact RefOps.inside _ _ (m := 9999) (by decide) (by have := (k r).isLt; omega) (words2 h r) rfl

/-- The rows of the embeddings at the ends of the edges, taken. -/
theorem take2 {k : Fin 50000 → Fin 10000} (h : ∀ i, val_main_v74 (F := Ideal) (ix1 i) = BitVec.ofNat 32 (k i).val) (i : Fin 50000) (q : Fin 16) :
    val_main_v79 (F := Ideal) x0 x3 x4 x5 x6 x7 x8 (ix2 i q) = val_main_v37 (F := Ideal) x0 x3 x4 x5 x6 x7 x8 (ix2 (k i) q) :=
  RefOps.taken _ rfl rfl rfl rfl rfl (by decide) (val_main_v37 (F := Ideal) x0 x3 x4 x5 x6 x7 x8) _ (val_main_call2_v5 (F := Ideal)) k
    (words2 h) (val_main_call2_v14 (F := Ideal)) (mask2 h) i q

/-- The words of the rows of the means at the ends of the edges, as taken. -/
theorem words3 {k : Fin 50000 → Fin 1000} (h : ∀ i, val_main_v75 (F := Ideal) x0 x2 x3 x4 x5 x6 x7 x8 (ix1 i) = BitVec.ofNat 32 (k i).val) (i : Fin 50000) :
    val_main_call3_v5 (F := Ideal) x0 x2 x3 x4 x5 x6 x7 x8 (ix2 i 0) = BitVec.ofNat 32 (k i).val := by
  rw [val_main_call3_v5_apply, Reads.ix1_of (j := idx_main_call3_v5 (ix2 i 0)) (p := i) rfl, val_main_call3_v4_apply, val_main_call3_v1_apply,
    val_main_call3_v3_apply, val_main_call3_v0_apply, val_main_call3_c_apply]
  exact RefOps.wrapped _ _ (lt_trans (k i).isLt (by decide)) (h i)

/-- The words of the rows of the means at the ends of the edges are all in range. -/
theorem mask3 {k : Fin 50000 → Fin 1000} (h : ∀ i, val_main_v75 (F := Ideal) x0 x2 x3 x4 x5 x6 x7 x8 (ix1 i) = BitVec.ofNat 32 (k i).val) (i : Fin 50000) (q : Fin 16) :
    val_main_call3_v14 (F := Ideal) x0 x2 x3 x4 x5 x6 x7 x8 (ix2 i q) = 1#1 := by
  rw [val_main_call3_v14_apply, Reads.ix1_of (j := idx_main_call3_v14 (ix2 i q)) (p := i) rfl]
  refine Host.reduce_andi_one (val_main_call3_v11 (F := Ideal) x0 x2 x3 x4 x5 x6 x7 x8) (val_main_call3_c_3 (F := Ideal)) _ _ (ix1 i) rfl fun j => ?_
  obtain ⟨r, u, rfl⟩ : ∃ (r : Fin 50000) (u : Fin 1), j = ix2 r u := ⟨_, _, eq_ix2 j⟩
  obtain rfl : u = 0 := Subsingleton.elim _ _
  rw [val_main_call3_v11_apply, val_main_call3_v7_apply, val_main_call3_v10_apply, val_main_call3_v6_apply, val_main_call3_c_2_apply,
    val_main_call3_v9_apply, val_main_call3_v8_apply, val_main_call3_c_1_apply]
  exact RefOps.inside _ _ (m := 999) (by decide) (by have := (k r).isLt; omega) (words3 x0 x2 x3 x4 x5 x6 x7 x8 h r) rfl

/-- The rows of the means at the ends of the edges, taken. -/
theorem take3 {k : Fin 50000 → Fin 1000} (h : ∀ i, val_main_v75 (F := Ideal) x0 x2 x3 x4 x5 x6 x7 x8 (ix1 i) = BitVec.ofNat 32 (k i).val) (i : Fin 50000) (q : Fin 16) :
    val_main_v80 (F := Ideal) x0 x2 x3 x4 x5 x6 x7 x8 (ix2 i q) = val_main_v55 (F := Ideal) x0 x2 x3 x4 x5 x6 x7 x8 (ix2 (k i) q) :=
  RefOps.taken _ rfl rfl rfl rfl rfl (by decide) (val_main_v55 (F := Ideal) x0 x2 x3 x4 x5 x6 x7 x8) _ (val_main_call3_v5 (F := Ideal) x0 x2 x3 x4 x5 x6 x7 x8) k
    (words3 x0 x2 x3 x4 x5 x6 x7 x8 h) (val_main_call3_v14 (F := Ideal) x0 x2 x3 x4 x5 x6 x7 x8) (mask3 x0 x2 x3 x4 x5 x6 x7 x8 h) i q

section Edges
variable (hs : ∀ i, (c0 x2 i).toNat < 1000)
include hs

/-- The table of negated distances. -/
theorem far (r : Fin 10000) (q : Fin 1000) : val_main_v71 (F := Ideal) x0 x2 x3 x4 x5 x6 x7 x8 (ix2 r q) = D x0 x2 x3 x4 x5 x6 x7 x8 r q := by
  rw [val_main_v71_apply, val_main_v70_apply, val_main_v65_apply, val_main_v64_apply, val_main_v59_apply,
    Reads.ix1_of (j := idx_main_v59 (idx_main_v64 (ix2 r q))) (p := r) rfl, val_main_v58_apply, val_main_cst_11_apply,
    val_main_v63_apply, val_main_v62_apply, val_main_cst_12_apply, val_main_v61_apply, val_main_v69_apply, val_main_v68_apply,
    Reads.ix1_of (j := idx_main_v68 (idx_main_v69 (ix2 r q))) (p := q) rfl, val_main_v67_apply, val_main_cst_13_apply]
  have a : ∀ k : Fin 16, val_main_v57 (F := Ideal) x0 x3 x4 x5 x6 x7 x8 (idx_main_v58 (ix1 r) k)
      = E x0 x3 x4 x5 x6 x7 x8 r k * E x0 x3 x4 x5 x6 x7 x8 r k := fun k => by
    rw [val_main_v57_apply, Reads.ix2_of (j := idx_main_v58 (ix1 r) k) (p := r) (q := k) rfl rfl, emb]
    rfl
  have b : ∀ k : Fin 16, val_main_v66 (F := Ideal) x0 x2 x3 x4 x5 x6 x7 x8 (idx_main_v67 (ix1 q) k)
      = M x0 x2 x3 x4 x5 x6 x7 x8 q k * M x0 x2 x3 x4 x5 x6 x7 x8 q k := fun k => by
    rw [val_main_v66_apply, Reads.ix2_of (j := idx_main_v67 (ix1 q) k) (p := q) (q := k) rfl rfl, means x0 x2 x3 x4 x5 x6 x7 x8 hs]
    rfl
  have c : ∀ k : Fin 16, val_main_v37 (F := Ideal) x0 x3 x4 x5 x6 x7 x8 (lidx_main_v61 (ix2 r q) k)
        * val_main_v60 (F := Ideal) x0 x2 x3 x4 x5 x6 x7 x8 (ridx_main_v61 (ix2 r q) k)
      = E x0 x3 x4 x5 x6 x7 x8 r k * M x0 x2 x3 x4 x5 x6 x7 x8 q k := fun k => by
    rw [Reads.ix2_of (j := lidx_main_v61 (ix2 r q) k) (p := r) (q := k) rfl rfl, emb, val_main_v60_apply,
      Reads.ix2_of (j := idx_main_v60 (ridx_main_v61 (ix2 r q) k)) (p := q) (q := k) rfl rfl, means x0 x2 x3 x4 x5 x6 x7 x8 hs]
  rw [Finset.sum_congr rfl fun k _ => a k, Finset.sum_congr rfl fun k _ => b k, Finset.sum_congr rfl fun k _ => c k]
  show -(((Ideal.ofBits .f32 0x00000000#32 + _) - _ * _) + (Ideal.ofBits .f32 0x00000000#32 + _)) = _
  rw [Ideal.ofBits_zero_f32, zero_add, zero_add]
  rfl

variable (he : ∀ r q, Finite.Fin' (E x0 x3 x4 x5 x6 x7 x8 r q))
include he

/-- The number of the cluster an edge leads to. -/
theorem target (n : Fin 50000) : val_main_v75 (F := Ideal) x0 x2 x3 x4 x5 x6 x7 x8 (ix1 n)
    = BitVec.ofNat 32 (Spec.near (D x0 x2 x3 x4 x5 x6 x7 x8 (node5 n)) (slot5 n).val).val := by
  rw [val_main_v75_apply, Reads.ix2_of (j := idx_main_v75 (ix1 n)) (p := node5 n) (q := slot5 n) rfl rfl]
  have e : (fun q => val_main_v71 (F := Ideal) x0 x2 x3 x4 x5 x6 x7 x8 (ix2 (node5 n) q)) = D x0 x2 x3 x4 x5 x6 x7 x8 (node5 n) :=
    funext fun q => far x0 x2 x3 x4 x5 x6 x7 x8 hs (node5 n) q
  refine (RefOps.topIndices (c := 5) (by decide) (val_main_v71 (F := Ideal) x0 x2 x3 x4 x5 x6 x7 x8) _ (node5 n)
    (fun q => ?_) (slot5 n)).trans ?_
  · rw [far x0 x2 x3 x4 x5 x6 x7 x8 hs]
    exact Finite.ne_bot (Finite.far he (c0 x2) (c1 x2) _ _)
  · exact congrArg (fun f => BitVec.ofNat 32 (TopPick.pos f (slot5 n).val).val) e

/-- The negated distance along an edge. -/
theorem along (n : Fin 50000) : val_main_v84 (F := Ideal) x0 x2 x3 x4 x5 x6 x7 x8 (ix1 n)
    = TopPick.val (D x0 x2 x3 x4 x5 x6 x7 x8 (node5 n)) (slot5 n).val := by
  rw [TopPick.val_eq _ (fun p => Finite.ne_bot (Finite.far he (c0 x2) (c1 x2) _ p)) (lt_trans (slot5 n).isLt (by decide))]
  refine Eq.trans ?_ (Finite.negDist_eq (he (node5 n)) (Finite.means he (c0 x2) (c1 x2) _)).symm
  rw [val_main_v84_apply, val_main_v83_apply, val_main_cst_14_apply]
  have e : ∀ j : Fin 16, val_main_v82 (F := Ideal) x0 x2 x3 x4 x5 x6 x7 x8 (idx_main_v83 (ix1 n) j)
      = (E x0 x3 x4 x5 x6 x7 x8 (node5 n) j - M x0 x2 x3 x4 x5 x6 x7 x8 (Spec.near (D x0 x2 x3 x4 x5 x6 x7 x8 (node5 n)) (slot5 n).val) j)
        * (E x0 x3 x4 x5 x6 x7 x8 (node5 n) j - M x0 x2 x3 x4 x5 x6 x7 x8 (Spec.near (D x0 x2 x3 x4 x5 x6 x7 x8 (node5 n)) (slot5 n).val) j) :=
    fun j => by
      rw [val_main_v82_apply, val_main_v81_apply, Reads.ix2_of (j := idx_main_v83 (ix1 n) j) (p := n) (q := j) rfl rfl,
        take2 x0 x3 x4 x5 x6 x7 x8 (k := node5) source n j, emb,
        take3 x0 x2 x3 x4 x5 x6 x7 x8 (k := fun n => Spec.near (D x0 x2 x3 x4 x5 x6 x7 x8 (node5 n)) (slot5 n).val)
          (target x0 x2 x3 x4 x5 x6 x7 x8 hs he) n j, means x0 x2 x3 x4 x5 x6 x7 x8 hs]
      rfl
  rw [Finset.sum_congr rfl fun j _ => e j]
  show -(Ideal.ofBits .f32 0x00000000#32 + _) = _
  rw [Ideal.ofBits_zero_f32, zero_add]
  rfl

/-- The score of an edge. -/
theorem score (n : Fin 50000) : val_main_v88 (F := Ideal) x0 x2 x3 x4 x5 x6 x7 x8 x9 x10 (ix1 n)
    = Spec.score (x9 (ix1 0)) (x10 (ix1 0)) (D x0 x2 x3 x4 x5 x6 x7 x8 (node5 n)) (slot5 n).val := by
  rw [val_main_v88_apply, val_main_v86_apply, val_main_v85_apply, val_main_v87_apply, along x0 x2 x3 x4 x5 x6 x7 x8 hs he,
    Reads.ix1_of (j := idx_main_v85 (ix1 n)) (p := 0) rfl, Reads.ix1_of (j := idx_main_v87 (ix1 n)) (p := 0) rfl]
  rfl

/-- The sum of the weights of the edges of an embedding. -/
theorem total (p : Fin 10000) : val_main_v92 (F := Ideal) x0 x2 x3 x4 x5 x6 x7 x8 x9 x10 (ix1 p)
    = ∑ k : Fin 5, Ideal.exp (Spec.score (x9 (ix1 0)) (x10 (ix1 0)) (D x0 x2 x3 x4 x5 x6 x7 x8 p) k.val) := by
  refine (RefOps.sumVec _ rfl rfl rfl (by decide) (val_main_v90 (F := Ideal)) (val_main_v91 (F := Ideal))
    (val_main_v89 (F := Ideal) x0 x2 x3 x4 x5 x6 x7 x8 x9 x10) p).trans ?_
  rw [val_main_v90_apply, val_main_cst_15_apply]
  refine (congrArg (· + _) Ideal.ofBits_zero_f32).trans ((zero_add _).trans ?_)
  have e : ∀ n : Fin 50000, (if val_main_v91 (F := Ideal) (ix2 n 0) = BitVec.ofNat 32 p.val
        then val_main_v89 (F := Ideal) x0 x2 x3 x4 x5 x6 x7 x8 x9 x10 (ix1 n) else 0)
      = if node5 n = p then Ideal.exp (Spec.score (x9 (ix1 0)) (x10 (ix1 0)) (D x0 x2 x3 x4 x5 x6 x7 x8 (node5 n)) (slot5 n).val) else 0 := fun n => by
    have hw : val_main_v91 (F := Ideal) (ix2 n 0) = BitVec.ofNat 32 (node5 n).val := by
      rw [val_main_v91_apply, Reads.ix1_of (j := idx_main_v91 (ix2 n 0)) (p := n) rfl, source]
    rw [hw, val_main_v89_apply, score x0 x2 x3 x4 x5 x6 x7 x8 x9 x10 hs he]
    refine if_congr ?_ rfl rfl
    rw [Reads.ofNat_inj (lt_trans (node5 n).isLt (by decide)) (lt_trans p.isLt (by decide))]
    exact Fin.ext_iff.symm
  refine (Finset.sum_congr rfl fun n _ => e n).trans ?_
  refine (Flat.sum5 fun r k => if r = p then Ideal.exp (Spec.score (x9 (ix1 0)) (x10 (ix1 0)) (D x0 x2 x3 x4 x5 x6 x7 x8 r) k.val) else 0).trans ?_
  rw [Finset.sum_eq_single p]
  · exact Finset.sum_congr rfl fun k _ => if_pos rfl
  · intro r _ hr
    exact Finset.sum_eq_zero fun k _ => if_neg hr
  · intro h
    exact absurd (Finset.mem_univ p) h

/-- The weight of an edge. -/
theorem weight (n : Fin 50000) : val_main_v103 (F := Ideal) x0 x2 x3 x4 x5 x6 x7 x8 x9 x10 (ix2 n 0)
    = Spec.weight (x9 (ix1 0)) (x10 (ix1 0)) (D x0 x2 x3 x4 x5 x6 x7 x8 (node5 n)) (slot5 n) := by
  have hw : val_main_v98 (F := Ideal) (ix2 n 0) = BitVec.ofNat 32 (node5 n).val := by
    rw [val_main_v98_apply, Reads.ix1_of (j := idx_main_v98 (ix2 n 0)) (p := n) rfl, val_main_v97_apply, val_main_v94_apply, val_main_v96_apply,
      val_main_v93_apply, val_main_c_16_apply]
    exact RefOps.wrapped _ _ (lt_trans (node5 n).isLt (by decide)) (source n)
  have ht : val_main_v99 (F := Ideal) x0 x2 x3 x4 x5 x6 x7 x8 x9 x10 (ix1 n) = val_main_v92 (F := Ideal) x0 x2 x3 x4 x5 x6 x7 x8 x9 x10 (ix1 (node5 n)) :=
    Routing.take_ap _ rfl rfl rfl rfl (val_main_v92 (F := Ideal) x0 x2 x3 x4 x5 x6 x7 x8 x9 x10) (val_main_v98 (F := Ideal)) n
      (node5 n).isLt (lt_trans (node5 n).isLt (by decide)) hw
  rw [val_main_v103_apply, Reads.ix1_of (j := idx_main_v103 (ix2 n 0)) (p := n) rfl, val_main_v102_apply, val_main_v101_apply, val_main_v100_apply,
    val_main_cst_18_apply, ht, total x0 x2 x3 x4 x5 x6 x7 x8 x9 x10 hs he, val_main_v89_apply, score x0 x2 x3 x4 x5 x6 x7 x8 x9 x10 hs he]
  rfl

omit hs he in
/-- The two ends of the edges: the sources. -/
theorem graph0 (n : Fin 50000) : val_main_v78 (F := Ideal) x0 x2 x3 x4 x5 x6 x7 x8 (ix2 0 n) = BitVec.ofNat 32 (node5 n).val := by
  refine (pairTop (val_main_v76 (F := Ideal)) (val_main_v77 (F := Ideal) x0 x2 x3 x4 x5 x6 x7 x8) _ n).trans ?_
  rw [val_main_v76_apply, Reads.ix1_of (j := idx_main_v76 (ix2 0 n)) (p := n) rfl, source]

/-- The two ends of the edges: the targets. -/
theorem graph1 (n : Fin 50000) : val_main_v78 (F := Ideal) x0 x2 x3 x4 x5 x6 x7 x8 (ix2 1 n)
    = Spec.word (Spec.near (D x0 x2 x3 x4 x5 x6 x7 x8 (node5 n)) (slot5 n).val) := by
  refine (pairLow (val_main_v76 (F := Ideal)) (val_main_v77 (F := Ideal) x0 x2 x3 x4 x5 x6 x7 x8) _ n).trans ?_
  rw [val_main_v77_apply, Reads.ix1_of (j := idx_main_v77 (ix2 0 n)) (p := n) rfl, target x0 x2 x3 x4 x5 x6 x7 x8 hs he]
  rfl

end Edges

end Cert.RefBip
-- ==== Proof.RefSnn.lean ====
/- The reference's ten nearest clusters of a cluster: the ends of the edges, the scores and the weights. -/
module

public import proofs.«01_k».proof.Proof.RefMean
public import proofs.«01_k».proof.Proof.Flat

@[expose] public section

noncomputable section

open Idealize.ShloMosaic Idealize.ShloMosaic.ValueIdx

namespace Cert.RefSnn
open Cert.ReferenceIdeal Cert.ReferenceIdeal.Read Cert.RefMean Cert.Lists

section Twice
variable {α β : Type} (f g : Fin 10000 → α)

/-- Two lists one after the other, in the first. -/
theorem twice_fst (n : Fin 20000) (h : n.val < 10000) : twice f g n = f ⟨n.val, h⟩ := dif_pos h

/-- Two lists one after the other, in the second. -/
theorem twice_snd (n : Fin 20000) (h : ¬ n.val < 10000) : twice f g n = g ⟨n.val - 10000, by have := n.isLt; omega⟩ := dif_neg h

/-- A function of two lists one after the other. -/
theorem twice_map (u : α → β) (n : Fin 20000) : u (twice f g n) = twice (fun i => u (f i)) (fun i => u (g i)) n := by
  by_cases h : n.val < 10000
  · rw [twice_fst _ _ n h, twice_fst _ _ n h]
  · rw [twice_snd _ _ n h, twice_snd _ _ n h]

end Twice

variable (x0 : Vec Ideal S10000x128 .f32) (x2 : Vec Ideal S2x10000 .i32) (x3 : Vec Ideal S128x256 .f32) (x4 : Vec Ideal S256 .f32)
    (x5 : Vec Ideal S256x256 .f32) (x6 : Vec Ideal S256 .f32) (x7 : Vec Ideal S256x16 .f32) (x8 : Vec Ideal S16 .f32)
    (x11 x12 : Vec Ideal S1 .f32)

/-- The negated distances between the means. -/
abbrev N (p q : Fin 1000) : EReal := Spec.net (E x0 x3 x4 x5 x6 x7 x8) (c0 x2) (c1 x2) p q

/-- The cluster an edge starts from, before the edges are doubled. -/
abbrev tip (i : Fin 10000) : Fin 1000 := node10 i

/-- The cluster an edge leads to, before the edges are doubled. -/
abbrev end' (i : Fin 10000) : Fin 1000 := Spec.near (N x0 x2 x3 x4 x5 x6 x7 x8 (node10 i)) (slot10 i).val

/-- The source of an edge. -/
abbrev src (n : Fin 20000) : Fin 1000 := twice tip (end' x0 x2 x3 x4 x5 x6 x7 x8) n

/-- The target of an edge. -/
abbrev dst (n : Fin 20000) : Fin 1000 := twice (end' x0 x2 x3 x4 x5 x6 x7 x8) tip n

/-- The edge before the doubling. -/
abbrev edge (n : Fin 20000) : Fin 10000 := twice id id n

/-- The starts of the edges, as words. -/
theorem tips (i : Fin 10000) : val_main_v121 (F := Ideal) (ix1 i) = BitVec.ofNat 32 (tip i).val := by
  rw [val_main_v121_apply, val_main_v120_apply, val_main_v119_apply]
  rfl

/-- The words of the rows of the means at the sources of the edges, as taken. -/
theorem words4 {k : Fin 20000 → Fin 1000} (h : ∀ i, val_main_v123 (F := Ideal) x0 x2 x3 x4 x5 x6 x7 x8 (ix1 i) = BitVec.ofNat 32 (k i).val) (i : Fin 20000) :
    val_main_call4_v5 (F := Ideal) x0 x2 x3 x4 x5 x6 x7 x8 (ix2 i 0) = BitVec.ofNat 32 (k i).val := by
  rw [val_main_call4_v5_apply, Reads.ix1_of (j := idx_main_call4_v5 (ix2 i 0)) (p := i) rfl, val_main_call4_v4_apply, val_main_call4_v1_apply,
    val_main_call4_v3_apply, val_main_call4_v0_apply, val_main_call4_c_apply]
  exact RefOps.wrapped _ _ (lt_trans (k i).isLt (by decide)) (h i)

/-- The words of the rows of the means at the sources of the edges are all in range. -/
theorem mask4 {k : Fin 20000 → Fin 1000} (h : ∀ i, val_main_v123 (F := Ideal) x0 x2 x3 x4 x5 x6 x7 x8 (ix1 i) = BitVec.ofNat 32 (k i).val) (i : Fin 20000) (q : Fin 16) :
    val_main_call4_v14 (F := Ideal) x0 x2 x3 x4 x5 x6 x7 x8 (ix2 i q) = 1#1 := by
  rw [val_main_call4_v14_apply, Reads.ix1_of (j := idx_main_call4_v14 (ix2 i q)) (p := i) rfl]
  refine Host.reduce_andi_one (val_main_call4_v11 (F := Ideal) x0 x2 x3 x4 x5 x6 x7 x8) (val_main_call4_c_3 (F := Ideal)) _ _ (ix1 i) rfl fun j => ?_
  obtain ⟨r, u, rfl⟩ : ∃ (r : Fin 20000) (u : Fin 1), j = ix2 r u := ⟨_, _, eq_ix2 j⟩
  obtain rfl : u = 0 := Subsingleton.elim _ _
  rw [val_main_call4_v11_apply, val_main_call4_v7_apply, val_main_call4_v10_apply, val_main_call4_v6_apply, val_main_call4_c_2_apply,
    val_main_call4_v9_apply, val_main_call4_v8_apply, val_main_call4_c_1_apply]
  exact RefOps.inside _ _ (m := 999) (by decide) (by have := (k r).isLt; omega) (words4 x0 x2 x3 x4 x5 x6 x7 x8 h r) rfl

/-- The rows of the means at the sources of the edges, taken. -/
theorem take4 {k : Fin 20000 → Fin 1000} (h : ∀ i, val_main_v123 (F := Ideal) x0 x2 x3 x4 x5 x6 x7 x8 (ix1 i) = BitVec.ofNat 32 (k i).val) (i : Fin 20000) (q : Fin 16) :
    val_main_v128 (F := Ideal) x0 x2 x3 x4 x5 x6 x7 x8 (ix2 i q) = val_main_v55 (F := Ideal) x0 x2 x3 x4 x5 x6 x7 x8 (ix2 (k i) q) :=
  RefOps.taken _ rfl rfl rfl rfl rfl (by decide) (val_main_v55 (F := Ideal) x0 x2 x3 x4 x5 x6 x7 x8) _ (val_main_call4_v5 (F := Ideal) x0 x2 x3 x4 x5 x6 x7 x8) k
    (words4 x0 x2 x3 x4 x5 x6 x7 x8 h) (val_main_call4_v14 (F := Ideal) x0 x2 x3 x4 x5 x6 x7 x8) (mask4 x0 x2 x3 x4 x5 x6 x7 x8 h) i q

/-- The words of the rows of the means at the targets of the edges, as taken. -/
theorem words5 {k : Fin 20000 → Fin 1000} (h : ∀ i, val_main_v124 (F := Ideal) x0 x2 x3 x4 x5 x6 x7 x8 (ix1 i) = BitVec.ofNat 32 (k i).val) (i : Fin 20000) :
    val_main_call5_v5 (F := Ideal) x0 x2 x3 x4 x5 x6 x7 x8 (ix2 i 0) = BitVec.ofNat 32 (k i).val := by
  rw [val_main_call5_v5_apply, Reads.ix1_of (j := idx_main_call5_v5 (ix2 i 0)) (p := i) rfl, val_main_call5_v4_apply, val_main_call5_v1_apply,
    val_main_call5_v3_apply, val_main_call5_v0_apply, val_main_call5_c_apply]
  exact RefOps.wrapped _ _ (lt_trans (k i).isLt (by decide)) (h i)

/-- The words of the rows of the means at the targets of the edges are all in range. -/
theorem mask5 {k : Fin 20000 → Fin 1000} (h : ∀ i, val_main_v124 (F := Ideal) x0 x2 x3 x4 x5 x6 x7 x8 (ix1 i) = BitVec.ofNat 32 (k i).val) (i : Fin 20000) (q : Fin 16) :
    val_main_call5_v14 (F := Ideal) x0 x2 x3 x4 x5 x6 x7 x8 (ix2 i q) = 1#1 := by
  rw [val_main_call5_v14_apply, Reads.ix1_of (j := idx_main_call5_v14 (ix2 i q)) (p := i) rfl]
  refine Host.reduce_andi_one (val_main_call5_v11 (F := Ideal) x0 x2 x3 x4 x5 x6 x7 x8) (val_main_call5_c_3 (F := Ideal)) _ _ (ix1 i) rfl fun j => ?_
  obtain ⟨r, u, rfl⟩ : ∃ (r : Fin 20000) (u : Fin 1), j = ix2 r u := ⟨_, _, eq_ix2 j⟩
  obtain rfl : u = 0 := Subsingleton.elim _ _
  rw [val_main_call5_v11_apply, val_main_call5_v7_apply, val_main_call5_v10_apply, val_main_call5_v6_apply, val_main_call5_c_2_apply,
    val_main_call5_v9_apply, val_main_call5_v8_apply, val_main_call5_c_1_apply]
  exact RefOps.inside _ _ (m := 999) (by decide) (by have := (k r).isLt; omega) (words5 x0 x2 x3 x4 x5 x6 x7 x8 h r) rfl

/-- The rows of the means at the targets of the edges, taken. -/
theorem take5 {k : Fin 20000 → Fin 1000} (h : ∀ i, val_main_v124 (F := Ideal) x0 x2 x3 x4 x5 x6 x7 x8 (ix1 i) = BitVec.ofNat 32 (k i).val) (i : Fin 20000) (q : Fin 16) :
    val_main_v129 (F := Ideal) x0 x2 x3 x4 x5 x6 x7 x8 (ix2 i q) = val_main_v55 (F := Ideal) x0 x2 x3 x4 x5 x6 x7 x8 (ix2 (k i) q) :=
  RefOps.taken _ rfl rfl rfl rfl rfl (by decide) (val_main_v55 (F := Ideal) x0 x2 x3 x4 x5 x6 x7 x8) _ (val_main_call5_v5 (F := Ideal) x0 x2 x3 x4 x5 x6 x7 x8) k
    (words5 x0 x2 x3 x4 x5 x6 x7 x8 h) (val_main_call5_v14 (F := Ideal) x0 x2 x3 x4 x5 x6 x7 x8) (mask5 x0 x2 x3 x4 x5 x6 x7 x8 h) i q

section Edges
variable (hs : ∀ i, (c0 x2 i).toNat < 1000)
include hs

/-- The table of negated distances between the means. -/
theorem net (p q : Fin 1000) : val_main_v118 (F := Ideal) x0 x2 x3 x4 x5 x6 x7 x8 (ix2 p q) = N x0 x2 x3 x4 x5 x6 x7 x8 p q := by
  rw [val_main_v118_apply, val_main_v117_apply, val_main_v112_apply, val_main_v111_apply, val_main_v106_apply,
    Reads.ix1_of (j := idx_main_v106 (idx_main_v111 (ix2 p q))) (p := p) rfl, val_main_v105_apply, val_main_cst_19_apply,
    val_main_v110_apply, val_main_v109_apply, val_main_cst_20_apply, val_main_v108_apply, val_main_v116_apply, val_main_v115_apply,
    Reads.ix1_of (j := idx_main_v115 (idx_main_v116 (ix2 p q))) (p := q) rfl, val_main_v114_apply, val_main_cst_21_apply]
  have a : ∀ k : Fin 16, val_main_v104 (F := Ideal) x0 x2 x3 x4 x5 x6 x7 x8 (idx_main_v105 (ix1 p) k)
      = M x0 x2 x3 x4 x5 x6 x7 x8 p k * M x0 x2 x3 x4 x5 x6 x7 x8 p k := fun k => by
    rw [val_main_v104_apply, Reads.ix2_of (j := idx_main_v105 (ix1 p) k) (p := p) (q := k) rfl rfl, means x0 x2 x3 x4 x5 x6 x7 x8 hs]
    rfl
  have b : ∀ k : Fin 16, val_main_v113 (F := Ideal) x0 x2 x3 x4 x5 x6 x7 x8 (idx_main_v114 (ix1 q) k)
      = M x0 x2 x3 x4 x5 x6 x7 x8 q k * M x0 x2 x3 x4 x5 x6 x7 x8 q k := fun k => by
    rw [val_main_v113_apply, Reads.ix2_of (j := idx_main_v114 (ix1 q) k) (p := q) (q := k) rfl rfl, means x0 x2 x3 x4 x5 x6 x7 x8 hs]
    rfl
  have c : ∀ k : Fin 16, val_main_v55 (F := Ideal) x0 x2 x3 x4 x5 x6 x7 x8 (lidx_main_v108 (ix2 p q) k)
        * val_main_v107 (F := Ideal) x0 x2 x3 x4 x5 x6 x7 x8 (ridx_main_v108 (ix2 p q) k)
      = M x0 x2 x3 x4 x5 x6 x7 x8 p k * M x0 x2 x3 x4 x5 x6 x7 x8 q k := fun k => by
    rw [Reads.ix2_of (j := lidx_main_v108 (ix2 p q) k) (p := p) (q := k) rfl rfl, means x0 x2 x3 x4 x5 x6 x7 x8 hs, val_main_v107_apply,
      Reads.ix2_of (j := idx_main_v107 (ridx_main_v108 (ix2 p q) k)) (p := q) (q := k) rfl rfl, means x0 x2 x3 x4 x5 x6 x7 x8 hs]
  rw [Finset.sum_congr rfl fun k _ => a k, Finset.sum_congr rfl fun k _ => b k, Finset.sum_congr rfl fun k _ => c k]
  show -(((Ideal.ofBits .f32 0x00000000#32 + _) - _ * _) + (Ideal.ofBits .f32 0x00000000#32 + _)) = _
  rw [Ideal.ofBits_zero_f32, zero_add, zero_add]
  rfl

variable (he : ∀ r q, Finite.Fin' (E x0 x3 x4 x5 x6 x7 x8 r q))
include he

/-- The ends of the edges, as words. -/
theorem ends (i : Fin 10000) : val_main_v122 (F := Ideal) x0 x2 x3 x4 x5 x6 x7 x8 (ix1 i)
    = BitVec.ofNat 32 (end' x0 x2 x3 x4 x5 x6 x7 x8 i).val := by
  rw [val_main_v122_apply, Reads.ix2_of (j := idx_main_v122 (ix1 i)) (p := node10 i) (q := slot10 i) rfl rfl]
  have e : (fun q => val_main_v118 (F := Ideal) x0 x2 x3 x4 x5 x6 x7 x8 (ix2 (node10 i) q)) = N x0 x2 x3 x4 x5 x6 x7 x8 (node10 i) :=
    funext fun q => net x0 x2 x3 x4 x5 x6 x7 x8 hs (node10 i) q
  refine (RefOps.topIndices (c := 10) (by decide) (val_main_v118 (F := Ideal) x0 x2 x3 x4 x5 x6 x7 x8) _ (node10 i)
    (fun q => ?_) (slot10 i)).trans ?_
  · rw [net x0 x2 x3 x4 x5 x6 x7 x8 hs]
    exact Finite.ne_bot (Finite.net he (c0 x2) (c1 x2) _ _)
  · exact congrArg (fun f => BitVec.ofNat 32 (TopPick.pos f (slot10 i).val).val) e

/-- The sources of the edges, as words. -/
theorem sources (n : Fin 20000) : val_main_v123 (F := Ideal) x0 x2 x3 x4 x5 x6 x7 x8 (ix1 n)
    = BitVec.ofNat 32 (src x0 x2 x3 x4 x5 x6 x7 x8 n).val := by
  refine (after (val_main_v121 (F := Ideal)) (val_main_v122 (F := Ideal) x0 x2 x3 x4 x5 x6 x7 x8) _ n).trans ?_
  refine Eq.trans ?_ (twice_map _ _ (fun p : Fin 1000 => BitVec.ofNat 32 p.val) n).symm
  exact congrArg₂ (fun f g => twice f g n) (funext tips) (funext (ends x0 x2 x3 x4 x5 x6 x7 x8 hs he))

/-- The targets of the edges, as words. -/
theorem targets (n : Fin 20000) : val_main_v124 (F := Ideal) x0 x2 x3 x4 x5 x6 x7 x8 (ix1 n)
    = BitVec.ofNat 32 (dst x0 x2 x3 x4 x5 x6 x7 x8 n).val := by
  refine (after (val_main_v122 (F := Ideal) x0 x2 x3 x4 x5 x6 x7 x8) (val_main_v121 (F := Ideal)) _ n).trans ?_
  refine Eq.trans ?_ (twice_map _ _ (fun p : Fin 1000 => BitVec.ofNat 32 p.val) n).symm
  exact congrArg₂ (fun f g => twice f g n) (funext (ends x0 x2 x3 x4 x5 x6 x7 x8 hs he)) (funext tips)

/-- The squared differences along an edge, summed: those of its two clusters. -/
theorem squares (n : Fin 20000) : (∑ j : Fin 16, val_main_v131 (F := Ideal) x0 x2 x3 x4 x5 x6 x7 x8 (idx_main_v132 (ix1 n) j))
    = ∑ j : Fin 16, (M x0 x2 x3 x4 x5 x6 x7 x8 (src x0 x2 x3 x4 x5 x6 x7 x8 n) j - M x0 x2 x3 x4 x5 x6 x7 x8 (dst x0 x2 x3 x4 x5 x6 x7 x8 n) j)
      * (M x0 x2 x3 x4 x5 x6 x7 x8 (src x0 x2 x3 x4 x5 x6 x7 x8 n) j - M x0 x2 x3 x4 x5 x6 x7 x8 (dst x0 x2 x3 x4 x5 x6 x7 x8 n) j) :=
  Finset.sum_congr rfl fun j _ => by
    rw [val_main_v131_apply, val_main_v130_apply, Reads.ix2_of (j := idx_main_v132 (ix1 n) j) (p := n) (q := j) rfl rfl,
      take4 x0 x2 x3 x4 x5 x6 x7 x8 (k := src x0 x2 x3 x4 x5 x6 x7 x8) (sources x0 x2 x3 x4 x5 x6 x7 x8 hs he) n j,
      take5 x0 x2 x3 x4 x5 x6 x7 x8 (k := dst x0 x2 x3 x4 x5 x6 x7 x8) (targets x0 x2 x3 x4 x5 x6 x7 x8 hs he) n j,
      means x0 x2 x3 x4 x5 x6 x7 x8 hs, means x0 x2 x3 x4 x5 x6 x7 x8 hs]
    rfl

/-- The negated distance along an edge. -/
theorem along (n : Fin 20000) : val_main_v133 (F := Ideal) x0 x2 x3 x4 x5 x6 x7 x8 (ix1 n)
    = TopPick.val (N x0 x2 x3 x4 x5 x6 x7 x8 (node10 (edge n))) (slot10 (edge n)).val := by
  have hm := Finite.means he (c0 x2) (c1 x2)
  rw [TopPick.val_eq _ (fun p => Finite.ne_bot (Finite.net he (c0 x2) (c1 x2) _ p)) (lt_trans (slot10 (edge n)).isLt (by decide))]
  refine Eq.trans ?_ (Finite.negDist_eq (hm (node10 (edge n))) (hm _)).symm
  rw [val_main_v133_apply, val_main_v132_apply, val_main_cst_24_apply, squares x0 x2 x3 x4 x5 x6 x7 x8 hs he]
  show -(Ideal.ofBits .f32 0x00000000#32 + _) = _
  rw [Ideal.ofBits_zero_f32, zero_add]
  refine congrArg (-·) ?_
  by_cases h : n.val < 10000
  · have e : edge n = ⟨n.val, h⟩ := twice_fst _ _ n h
    have e1 : src x0 x2 x3 x4 x5 x6 x7 x8 n = tip ⟨n.val, h⟩ := twice_fst _ _ n h
    have e2 : dst x0 x2 x3 x4 x5 x6 x7 x8 n = end' x0 x2 x3 x4 x5 x6 x7 x8 ⟨n.val, h⟩ := twice_fst _ _ n h
    rw [e, e1, e2]
    rfl
  · have e : edge n = ⟨n.val - 10000, by have := n.isLt; omega⟩ := twice_snd _ _ n h
    have e1 : src x0 x2 x3 x4 x5 x6 x7 x8 n = end' x0 x2 x3 x4 x5 x6 x7 x8 ⟨n.val - 10000, by have := n.isLt; omega⟩ := twice_snd _ _ n h
    have e2 : dst x0 x2 x3 x4 x5 x6 x7 x8 n = tip ⟨n.val - 10000, by have := n.isLt; omega⟩ := twice_snd _ _ n h
    rw [e, e1, e2]
    exact Finite.sq_comm (hm _) (hm _)

/-- The weight of an edge before the division. -/
theorem raw (n : Fin 20000) : val_main_v143 (F := Ideal) x0 x2 x3 x4 x5 x6 x7 x8 x11 x12 (ix1 n)
    = Spec.raw (x11 (ix1 0)) (x12 (ix1 0)) (N x0 x2 x3 x4 x5 x6 x7 x8 (node10 (edge n))) (slot10 (edge n)).val := by
  rw [val_main_v143_apply, val_main_v142_apply, val_main_cst_26_apply, val_main_v141_apply, val_main_v140_apply, val_main_cst_25_apply,
    val_main_v139_apply, val_main_v138_apply, val_main_v137_apply, val_main_v135_apply, val_main_v134_apply, val_main_v136_apply,
    along x0 x2 x3 x4 x5 x6 x7 x8 hs he,
    Reads.ix1_of (j := idx_main_v134 (ix1 n)) (p := 0) rfl, Reads.ix1_of (j := idx_main_v136 (ix1 n)) (p := 0) rfl]
  show Ideal.div (Ideal.ofBits .f32 0x3F800000#32) (Ideal.ofBits .f32 0x3F800000#32 + Ideal.exp (-_)) = _
  rw [Ideal.ofBits_one_f32]
  rfl

/-- The sum of the weights of the edges of a cluster. -/
theorem total (q : Fin 1000) : val_main_v146 (F := Ideal) x0 x2 x3 x4 x5 x6 x7 x8 x11 x12 (ix1 q)
    = Spec.total (x11 (ix1 0)) (x12 (ix1 0)) (N x0 x2 x3 x4 x5 x6 x7 x8) q := by
  refine (RefOps.sumVec _ rfl rfl rfl (by decide) (val_main_v144 (F := Ideal)) (val_main_v145 (F := Ideal) x0 x2 x3 x4 x5 x6 x7 x8)
    (val_main_v143 (F := Ideal) x0 x2 x3 x4 x5 x6 x7 x8 x11 x12) q).trans ?_
  rw [val_main_v144_apply, val_main_cst_27_apply]
  refine (congrArg (· + _) Ideal.ofBits_zero_f32).trans ((zero_add _).trans ?_)
  have e : ∀ n : Fin 20000, (if val_main_v145 (F := Ideal) x0 x2 x3 x4 x5 x6 x7 x8 (ix2 n 0) = BitVec.ofNat 32 q.val
        then val_main_v143 (F := Ideal) x0 x2 x3 x4 x5 x6 x7 x8 x11 x12 (ix1 n) else 0)
      = if src x0 x2 x3 x4 x5 x6 x7 x8 n = q
        then Spec.raw (x11 (ix1 0)) (x12 (ix1 0)) (N x0 x2 x3 x4 x5 x6 x7 x8 (node10 (edge n))) (slot10 (edge n)).val else 0 := fun n => by
    have hw : val_main_v145 (F := Ideal) x0 x2 x3 x4 x5 x6 x7 x8 (ix2 n 0) = Spec.word (src x0 x2 x3 x4 x5 x6 x7 x8 n) := by
      rw [val_main_v145_apply, Reads.ix1_of (j := idx_main_v145 (ix2 n 0)) (p := n) rfl, sources x0 x2 x3 x4 x5 x6 x7 x8 hs he]
      rfl
    rw [hw, raw x0 x2 x3 x4 x5 x6 x7 x8 x11 x12 hs he]
    exact if_congr (Spec.word_inj _ q) rfl rfl
  refine (Finset.sum_congr rfl fun n _ => e n).trans ?_
  refine (Flat.sumTwice _
    (fun i => if node10 i = q then Spec.raw (x11 (ix1 0)) (x12 (ix1 0)) (N x0 x2 x3 x4 x5 x6 x7 x8 (node10 i)) (slot10 i).val else 0)
    (fun i => if Spec.near (N x0 x2 x3 x4 x5 x6 x7 x8 (node10 i)) (slot10 i).val = q
      then Spec.raw (x11 (ix1 0)) (x12 (ix1 0)) (N x0 x2 x3 x4 x5 x6 x7 x8 (node10 i)) (slot10 i).val else 0)
    (fun n hn => ?_) (fun n hn => ?_)).trans ?_
  · have h1 : edge n = ⟨n.val, hn⟩ := twice_fst _ _ n hn
    have h2 : src x0 x2 x3 x4 x5 x6 x7 x8 n = node10 ⟨n.val, hn⟩ := twice_fst _ _ n hn
    rw [h1, h2]
  · have h1 : edge n = ⟨n.val - 10000, by have := n.isLt; omega⟩ := twice_snd _ _ n hn
    have h2 : src x0 x2 x3 x4 x5 x6 x7 x8 n = end' x0 x2 x3 x4 x5 x6 x7 x8 ⟨n.val - 10000, by have := n.isLt; omega⟩ := twice_snd _ _ n hn
    rw [h1, h2]
  · unfold Spec.total
    refine congrArg₂ (· + ·) ?_ ?_
    · refine (Flat.sum10 fun p k => if p = q then Spec.raw (x11 (ix1 0)) (x12 (ix1 0)) (N x0 x2 x3 x4 x5 x6 x7 x8 p) k.val else 0).trans ?_
      rw [Finset.sum_eq_single q]
      · exact Finset.sum_congr rfl fun k _ => if_pos rfl
      · intro r _ hr
        exact Finset.sum_eq_zero fun k _ => if_neg hr
      · intro h
        exact absurd (Finset.mem_univ q) h
    · exact Flat.sum10 fun p k => if Spec.near (N x0 x2 x3 x4 x5 x6 x7 x8 p) k.val = q
        then Spec.raw (x11 (ix1 0)) (x12 (ix1 0)) (N x0 x2 x3 x4 x5 x6 x7 x8 p) k.val else 0

/-- The weight of an edge. -/
theorem weight (n : Fin 20000) : val_main_v157 (F := Ideal) x0 x2 x3 x4 x5 x6 x7 x8 x11 x12 (ix2 n 0)
    = twice (fun i => Spec.outward (x11 (ix1 0)) (x12 (ix1 0)) (N x0 x2 x3 x4 x5 x6 x7 x8) (node10 i) (slot10 i).val)
        (fun i => Spec.inward (x11 (ix1 0)) (x12 (ix1 0)) (N x0 x2 x3 x4 x5 x6 x7 x8) (node10 i) (slot10 i).val) n := by
  have hw : val_main_v152 (F := Ideal) x0 x2 x3 x4 x5 x6 x7 x8 (ix2 n 0) = BitVec.ofNat 32 (src x0 x2 x3 x4 x5 x6 x7 x8 n).val := by
    rw [val_main_v152_apply, Reads.ix1_of (j := idx_main_v152 (ix2 n 0)) (p := n) rfl, val_main_v151_apply, val_main_v148_apply,
      val_main_v150_apply, val_main_v147_apply, val_main_c_28_apply]
    exact RefOps.wrapped _ _ (lt_trans (src x0 x2 x3 x4 x5 x6 x7 x8 n).isLt (by decide)) (sources x0 x2 x3 x4 x5 x6 x7 x8 hs he n)
  have ht : val_main_v153 (F := Ideal) x0 x2 x3 x4 x5 x6 x7 x8 x11 x12 (ix1 n)
      = val_main_v146 (F := Ideal) x0 x2 x3 x4 x5 x6 x7 x8 x11 x12 (ix1 (src x0 x2 x3 x4 x5 x6 x7 x8 n)) :=
    Routing.take_ap _ rfl rfl rfl rfl (val_main_v146 (F := Ideal) x0 x2 x3 x4 x5 x6 x7 x8 x11 x12)
      (val_main_v152 (F := Ideal) x0 x2 x3 x4 x5 x6 x7 x8) n (src x0 x2 x3 x4 x5 x6 x7 x8 n).isLt
      (lt_trans (src x0 x2 x3 x4 x5 x6 x7 x8 n).isLt (by decide)) hw
  rw [val_main_v157_apply, Reads.ix1_of (j := idx_main_v157 (ix2 n 0)) (p := n) rfl, val_main_v156_apply, val_main_v155_apply,
    val_main_v154_apply, val_main_cst_30_apply, ht, total x0 x2 x3 x4 x5 x6 x7 x8 x11 x12 hs he, raw x0 x2 x3 x4 x5 x6 x7 x8 x11 x12 hs he]
  by_cases h : n.val < 10000
  · have h1 : edge n = ⟨n.val, h⟩ := twice_fst _ _ n h
    have h2 : src x0 x2 x3 x4 x5 x6 x7 x8 n = node10 ⟨n.val, h⟩ := twice_fst _ _ n h
    rw [h1, h2, twice_fst _ _ n h]
    rfl
  · have h1 : edge n = ⟨n.val - 10000, by have := n.isLt; omega⟩ := twice_snd _ _ n h
    have h2 : src x0 x2 x3 x4 x5 x6 x7 x8 n = end' x0 x2 x3 x4 x5 x6 x7 x8 ⟨n.val - 10000, by have := n.isLt; omega⟩ := twice_snd _ _ n h
    rw [h1, h2, twice_snd _ _ n h]
    rfl

/-- The two ends of the edges: the sources. -/
theorem graph0 (n : Fin 20000) : val_main_v127 (F := Ideal) x0 x2 x3 x4 x5 x6 x7 x8 (ix2 0 n)
    = twice (fun i => Spec.word (node10 i)) (fun i => Spec.word (Spec.near (N x0 x2 x3 x4 x5 x6 x7 x8 (node10 i)) (slot10 i).val)) n := by
  refine (pairTop (val_main_v125 (F := Ideal) x0 x2 x3 x4 x5 x6 x7 x8) (val_main_v126 (F := Ideal) x0 x2 x3 x4 x5 x6 x7 x8) _ n).trans ?_
  rw [val_main_v125_apply, Reads.ix1_of (j := idx_main_v125 (ix2 0 n)) (p := n) rfl, sources x0 x2 x3 x4 x5 x6 x7 x8 hs he]
  exact twice_map _ _ Spec.word n

/-- The two ends of the edges: the targets. -/
theorem graph1 (n : Fin 20000) : val_main_v127 (F := Ideal) x0 x2 x3 x4 x5 x6 x7 x8 (ix2 1 n)
    = twice (fun i => Spec.word (Spec.near (N x0 x2 x3 x4 x5 x6 x7 x8 (node10 i)) (slot10 i).val)) (fun i => Spec.word (node10 i)) n := by
  refine (pairLow (val_main_v125 (F := Ideal) x0 x2 x3 x4 x5 x6 x7 x8) (val_main_v126 (F := Ideal) x0 x2 x3 x4 x5 x6 x7 x8) _ n).trans ?_
  rw [val_main_v126_apply, Reads.ix1_of (j := idx_main_v126 (ix2 0 n)) (p := n) rfl, targets x0 x2 x3 x4 x5 x6 x7 x8 hs he]
  exact twice_map _ _ Spec.word n

end Edges

end Cert.RefSnn
-- ==== Proof.Agree.lean ====
/- The equation: each of the reference's results, as a function of the arguments, is what the kernel's run leaves in the
   result's array. -/
module

public import proofs.«01_k».proof.Proof.Tail
public import proofs.«01_k».proof.Proof.RefBip
public import proofs.«01_k».proof.Proof.RefSnn

@[expose] public section

noncomputable section

open Idealize.ShloMosaic Idealize.ShloMosaic.TcCoe Idealize.SL.Sem Idealize.ShloMosaic.ValueIdx Idealize.ShloMosaic.StableHlo

namespace Cert.Agree

open Cert.KernelIdeal Cert.KernelIdeal.Gen Cert.Held Cert.Lists
open Cert.ReferenceIdeal.Read (val_main_v37 val_main_v55 val_main_v78 val_main_v103 val_main_v127 val_main_v157 val_main_v88 val_main_v56)

variable (m : (ℓ : Loc nD τ sig) → Buf (Elt Ideal) ℓ) (ρ : Dev nD → PrngReg) (c : Dev nD)

/-- An argument, as launched. -/
abbrev a0 : FVec Ideal S10000x128 .f32 := m ((c : Thread nD τ).loc main_arg0)
@[inherit_doc a0] abbrev a2 : IVec S2x10000 32 := m ((c : Thread nD τ).loc main_arg2)
@[inherit_doc a0] abbrev a3 : FVec Ideal S128x256 .f32 := m ((c : Thread nD τ).loc main_arg3)
@[inherit_doc a0] abbrev a4 : FVec Ideal S256 .f32 := m ((c : Thread nD τ).loc main_arg4)
@[inherit_doc a0] abbrev a5 : FVec Ideal S256x256 .f32 := m ((c : Thread nD τ).loc main_arg5)
@[inherit_doc a0] abbrev a6 : FVec Ideal S256 .f32 := m ((c : Thread nD τ).loc main_arg6)
@[inherit_doc a0] abbrev a7 : FVec Ideal S256x16 .f32 := m ((c : Thread nD τ).loc main_arg7)
@[inherit_doc a0] abbrev a8 : FVec Ideal S16 .f32 := m ((c : Thread nD τ).loc main_arg8)
@[inherit_doc a0] abbrev a9 : FVec Ideal S1 .f32 := m ((c : Thread nD τ).loc main_arg9)
@[inherit_doc a0] abbrev a10 : FVec Ideal S1 .f32 := m ((c : Thread nD τ).loc main_arg10)
@[inherit_doc a0] abbrev a11 : FVec Ideal S1 .f32 := m ((c : Thread nD τ).loc main_arg11)
@[inherit_doc a0] abbrev a12 : FVec Ideal S1 .f32 := m ((c : Thread nD τ).loc main_arg12)

/-- Two matrices equal at every row and column. -/
theorem each2 {α : Type} {k l : ℕ} {f g : (⟨2, ![k, l]⟩ : Shape).Idx → α} (h : ∀ p q, f (ix2 p q) = g (ix2 p q)) : f = g :=
  funext fun i => by rw [eq_ix2 i]; exact h _ _

/-- Two vectors equal at every place. -/
theorem each1 {α : Type} {k : ℕ} {f g : (⟨1, ![k]⟩ : Shape).Idx → α} (h : ∀ p, f (ix1 p) = g (ix1 p)) : f = g :=
  funext fun i => by rw [eq_ix1 i]; exact h _

/-- The embeddings. -/
theorem v37 : val_main_v37 (F := Ideal) (a0 m c) (a3 m c) (a4 m c) (a5 m c) (a6 m c) (a7 m c) (a8 m c) = W9 m ρ c (Proc.devRef .tc main_v3) := by
  refine each2 (fun r q => ?_)
  exact (RefMean.emb (a0 m c) (a3 m c) (a4 m c) (a5 m c) (a6 m c) (a7 m c) (a8 m c) r q).trans (Tail.v3 m ρ c r q).symm

/-- The mask. -/
theorem v56 : val_main_v56 (F := Ideal) = W9 m ρ c (Proc.devRef .tc main_v40) := by
  refine each1 (fun n => ?_)
  exact (RefMean.ones n).trans (Tail.v40 m ρ c n).symm

section Sources

variable (hs : ∀ i, (c0 m c i).toNat < 1000)
include hs

/-- The means. -/
theorem v55 : val_main_v55 (F := Ideal) (a0 m c) (a2 m c) (a3 m c) (a4 m c) (a5 m c) (a6 m c) (a7 m c) (a8 m c) = W9 m ρ c (Proc.devRef .tc main_v17_0) := by
  refine each2 (fun p q => ?_)
  exact (RefMean.means (a0 m c) (a2 m c) (a3 m c) (a4 m c) (a5 m c) (a6 m c) (a7 m c) (a8 m c) hs p q).trans (Tail.v17_0 m ρ c hs p q).symm

variable (he : ∀ r q, Finite.Fin' (emb m c r q))
include he

/-- The first edge list. -/
theorem v78 : val_main_v78 (F := Ideal) (a0 m c) (a2 m c) (a3 m c) (a4 m c) (a5 m c) (a6 m c) (a7 m c) (a8 m c) = W9 m ρ c (Proc.devRef .tc main_v24) := by
  refine each2 (fun p n => ?_)
  fin_cases p
  · exact (RefBip.graph0 (a0 m c) (a2 m c) (a3 m c) (a4 m c) (a5 m c) (a6 m c) (a7 m c) (a8 m c) n).trans (Tail.v24_0 m ρ c n).symm
  · exact (RefBip.graph1 (a0 m c) (a2 m c) (a3 m c) (a4 m c) (a5 m c) (a6 m c) (a7 m c) (a8 m c) hs he n).trans (Tail.v24_1 m ρ c hs n).symm

/-- The first edge list's scores. -/
theorem v88 : val_main_v88 (F := Ideal) (a0 m c) (a2 m c) (a3 m c) (a4 m c) (a5 m c) (a6 m c) (a7 m c) (a8 m c) (a9 m c) (a10 m c) = W9 m ρ c (Proc.devRef .tc main_v26) := by
  refine each1 (fun n => ?_)
  exact (RefBip.score (a0 m c) (a2 m c) (a3 m c) (a4 m c) (a5 m c) (a6 m c) (a7 m c) (a8 m c) (a9 m c) (a10 m c) hs he n).trans (Tail.v26 m ρ c hs n).symm

/-- The first edge list's weights. -/
theorem v103 : val_main_v103 (F := Ideal) (a0 m c) (a2 m c) (a3 m c) (a4 m c) (a5 m c) (a6 m c) (a7 m c) (a8 m c) (a9 m c) (a10 m c) = W9 m ρ c (Proc.devRef .tc main_v25) := by
  refine each2 (fun n u => ?_)
  obtain rfl : u = 0 := Subsingleton.elim _ _
  exact (RefBip.weight (a0 m c) (a2 m c) (a3 m c) (a4 m c) (a5 m c) (a6 m c) (a7 m c) (a8 m c) (a9 m c) (a10 m c) hs he n).trans (Tail.v25 m ρ c hs n).symm

/-- The second edge list. -/
theorem v127 : val_main_v127 (F := Ideal) (a0 m c) (a2 m c) (a3 m c) (a4 m c) (a5 m c) (a6 m c) (a7 m c) (a8 m c) = W9 m ρ c (Proc.devRef .tc main_v35) := by
  refine each2 (fun p n => ?_)
  fin_cases p
  · exact (RefSnn.graph0 (a0 m c) (a2 m c) (a3 m c) (a4 m c) (a5 m c) (a6 m c) (a7 m c) (a8 m c) hs he n).trans (Tail.v35_0 m ρ c hs n).symm
  · exact (RefSnn.graph1 (a0 m c) (a2 m c) (a3 m c) (a4 m c) (a5 m c) (a6 m c) (a7 m c) (a8 m c) hs he n).trans (Tail.v35_1 m ρ c hs n).symm

/-- The second edge list's weights. -/
theorem v157 : val_main_v157 (F := Ideal) (a0 m c) (a2 m c) (a3 m c) (a4 m c) (a5 m c) (a6 m c) (a7 m c) (a8 m c) (a11 m c) (a12 m c) = W9 m ρ c (Proc.devRef .tc main_v39) := by
  refine each2 (fun n u => ?_)
  obtain rfl : u = 0 := Subsingleton.elim _ _
  exact (RefSnn.weight (a0 m c) (a2 m c) (a3 m c) (a4 m c) (a5 m c) (a6 m c) (a7 m c) (a8 m c) (a11 m c) (a12 m c) hs he n).trans (Tail.v39 m ρ c hs n).symm

end Sources

end Cert.Agree

end
-- ==== Proof.Value.lean ====
/- The kernel and the reference end with the same results. -/
module

public import proofs.«01_k».proof.Defs
public import proofs.«01_k».proof.Proof.Ran
public import proofs.«01_k».proof.Proof.Agree
public import proofs.«01_k».proof.Proof.Range
public import proofs.«01_k».proof.Proof.Gen.ReferenceIdeal.Run

@[expose] public section

set_option maxRecDepth 16384

noncomputable section

open Idealize.ShloMosaic Idealize.ShloMosaic.TcCoe Idealize.SL.Sem Idealize.ShloMosaic.ValueIdx Idealize.ShloMosaic.StableHlo

namespace Cert.Value

open Cert.KernelIdeal Cert.KernelIdeal.Gen Cert.Held
open Cert.ReferenceIdeal.Read

/-- The precondition bounds the sources. -/
theorem bounded {m : (ℓ : Loc nD τ sig) → Buf (Elt Ideal) ℓ} (hp : @Pre_KernelIdeal_in_range Cert.Range.facts m)
    (c : Dev nD) (i : Fin 10000) : (c0 m c i).toNat < 1000 :=
  ((@Range.holds Cert.Range.facts _ _ _ _ _ _ _ _ _ _ _ _ _ (hp c)).1 i)

/-- The precondition makes the embeddings real numbers. -/
theorem real {m : (ℓ : Loc nD τ sig) → Buf (Elt Ideal) ℓ} (hp : @Pre_KernelIdeal_in_range Cert.Range.facts m)
    (c : Dev nD) (r : Fin 10000) (q : Fin 16) : Finite.Fin' (emb m c r q) := by
  obtain ⟨-, h0, h3, h4, h5, h6, h7, h8⟩ := @Range.holds Cert.Range.facts _ _ _ _ _ _ _ _ _ _ _ _ _ (hp c)
  exact Finite.encode (fun k => h0 (ix2 r k)) (fun k l => h3 (ix2 k l)) (fun l => h4 (ix1 l)) (fun k l => h5 (ix2 k l))
    (fun l => h6 (ix1 l)) (fun k l => h7 (ix2 k l)) (fun l => h8 (ix1 l)) q

/-- From memories that agree on the arguments and satisfy the precondition, every run of the kernel and every run of the
    reference end with the same eight results. -/
theorem algebraic : @Cert.algebraic_KernelIdeal_ReferenceIdeal_pre_in_range Cert.KernelIdeal.Gen.facts Cert.ReferenceIdeal.Gen.facts Cert.Range.facts := by
  intro m g m' g' hp hargs
  refine ⟨fun c => W9 m g c (Proc.devRef .tc main_v3), fun c => W9 m g c (Proc.devRef .tc main_v17_0), fun c => W9 m g c (Proc.devRef .tc main_v24), fun c => W9 m g c (Proc.devRef .tc main_v25), fun c => W9 m g c (Proc.devRef .tc main_v35), fun c => W9 m g c (Proc.devRef .tc main_v39), fun c => W9 m g c (Proc.devRef .tc main_v26), fun c => W9 m g c (Proc.devRef .tc main_v40), ?_, ?_⟩
  · exact (θ_run _ _ _).mono (fun r h c => ⟨(h c _ (mem_uc main_v3 (by decide))),
      (h c _ (mem_uc main_v17_0 (by decide))),
      (h c _ (mem_uc main_v24 (by decide))),
      (h c _ (mem_uc main_v25 (by decide))),
      (h c _ (mem_uc main_v35 (by decide))),
      (h c _ (mem_uc main_v39 (by decide))),
      (h c _ (mem_uc main_v26 (by decide))),
      (h c _ (mem_uc main_v40 (by decide))),
      (h c _ (mem_uc main_arg0 (by decide))).trans (W9_main_arg0 m g c),
      (h c _ (mem_uc main_arg1 (by decide))).trans (W9_main_arg1 m g c),
      (h c _ (mem_uc main_arg2 (by decide))).trans (W9_main_arg2 m g c),
      (h c _ (mem_uc main_arg3 (by decide))).trans (W9_main_arg3 m g c),
      (h c _ (mem_uc main_arg4 (by decide))).trans (W9_main_arg4 m g c),
      (h c _ (mem_uc main_arg5 (by decide))).trans (W9_main_arg5 m g c),
      (h c _ (mem_uc main_arg6 (by decide))).trans (W9_main_arg6 m g c),
      (h c _ (mem_uc main_arg7 (by decide))).trans (W9_main_arg7 m g c),
      (h c _ (mem_uc main_arg8 (by decide))).trans (W9_main_arg8 m g c),
      (h c _ (mem_uc main_arg9 (by decide))).trans (W9_main_arg9 m g c),
      (h c _ (mem_uc main_arg10 (by decide))).trans (W9_main_arg10 m g c),
      (h c _ (mem_uc main_arg11 (by decide))).trans (W9_main_arg11 m g c),
      (h c _ (mem_uc main_arg12 (by decide))).trans (W9_main_arg12 m g c)⟩) (Ran.whole m g)
  · refine (θ_run _ _ _).mono (fun r h c => ?_) (Cert.ReferenceIdeal.Value.run (F := Ideal) m' g')
    have hs := bounded hp c
    have he := real hp c
    have e0 : launchContents m' c (Proc.devRef .tc Cert.ReferenceIdeal.main_arg0) = Agree.a0 m c := (hargs c).1
    have e2 : launchContents m' c (Proc.devRef .tc Cert.ReferenceIdeal.main_arg2) = Agree.a2 m c := (hargs c).2.2.1
    have e3 : launchContents m' c (Proc.devRef .tc Cert.ReferenceIdeal.main_arg3) = Agree.a3 m c := (hargs c).2.2.2.1
    have e4 : launchContents m' c (Proc.devRef .tc Cert.ReferenceIdeal.main_arg4) = Agree.a4 m c := (hargs c).2.2.2.2.1
    have e5 : launchContents m' c (Proc.devRef .tc Cert.ReferenceIdeal.main_arg5) = Agree.a5 m c := (hargs c).2.2.2.2.2.1
    have e6 : launchContents m' c (Proc.devRef .tc Cert.ReferenceIdeal.main_arg6) = Agree.a6 m c := (hargs c).2.2.2.2.2.2.1
    have e7 : launchContents m' c (Proc.devRef .tc Cert.ReferenceIdeal.main_arg7) = Agree.a7 m c := (hargs c).2.2.2.2.2.2.2.1
    have e8 : launchContents m' c (Proc.devRef .tc Cert.ReferenceIdeal.main_arg8) = Agree.a8 m c := (hargs c).2.2.2.2.2.2.2.2.1
    have e9 : launchContents m' c (Proc.devRef .tc Cert.ReferenceIdeal.main_arg9) = Agree.a9 m c := (hargs c).2.2.2.2.2.2.2.2.2.1
    have e10 : launchContents m' c (Proc.devRef .tc Cert.ReferenceIdeal.main_arg10) = Agree.a10 m c := (hargs c).2.2.2.2.2.2.2.2.2.2.1
    have e11 : launchContents m' c (Proc.devRef .tc Cert.ReferenceIdeal.main_arg11) = Agree.a11 m c := (hargs c).2.2.2.2.2.2.2.2.2.2.2.1
    have e12 : launchContents m' c (Proc.devRef .tc Cert.ReferenceIdeal.main_arg12) = Agree.a12 m c := (hargs c).2.2.2.2.2.2.2.2.2.2.2.2
    exact ⟨((h c).1).trans ((val_main_v37_eq (launchContents m' c)).trans ((show val_main_v37 (F := Ideal) ((launchContents m' c) (Proc.devRef .tc Cert.ReferenceIdeal.main_arg0)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) = val_main_v37 (F := Ideal) (Agree.a0 m c) (Agree.a3 m c) (Agree.a4 m c) (Agree.a5 m c) (Agree.a6 m c) (Agree.a7 m c) (Agree.a8 m c) from by rw [e0, e3, e4, e5, e6, e7, e8]).trans (Agree.v37 m g c))),
      ((h c).2.1).trans ((val_main_v55_eq (launchContents m' c)).trans ((show val_main_v55 (F := Ideal) ((launchContents m' c) (Proc.devRef .tc Cert.ReferenceIdeal.main_arg0)) ((launchContents m' c) (Proc.devRef .tc Cert.ReferenceIdeal.main_arg2)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) = val_main_v55 (F := Ideal) (Agree.a0 m c) (Agree.a2 m c) (Agree.a3 m c) (Agree.a4 m c) (Agree.a5 m c) (Agree.a6 m c) (Agree.a7 m c) (Agree.a8 m c) from by rw [e0, e2, e3, e4, e5, e6, e7, e8]).trans (Agree.v55 m g c hs))),
      ((h c).2.2.1).trans ((val_main_v78_eq (launchContents m' c)).trans ((show val_main_v78 (F := Ideal) ((launchContents m' c) (Proc.devRef .tc Cert.ReferenceIdeal.main_arg0)) ((launchContents m' c) (Proc.devRef .tc Cert.ReferenceIdeal.main_arg2)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) = val_main_v78 (F := Ideal) (Agree.a0 m c) (Agree.a2 m c) (Agree.a3 m c) (Agree.a4 m c) (Agree.a5 m c) (Agree.a6 m c) (Agree.a7 m c) (Agree.a8 m c) from by rw [e0, e2, e3, e4, e5, e6, e7, e8]).trans (Agree.v78 m g c hs he))),
      ((h c).2.2.2.1).trans ((val_main_v103_eq (launchContents m' c)).trans ((show val_main_v103 (F := Ideal) ((launchContents m' c) (Proc.devRef .tc Cert.ReferenceIdeal.main_arg0)) ((launchContents m' c) (Proc.devRef .tc Cert.ReferenceIdeal.main_arg2)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) ((launchContents m' c) (Proc.devRef .tc Cert.ReferenceIdeal.main_arg9)) ((launchContents m' c) (Proc.devRef .tc Cert.ReferenceIdeal.main_arg10)) = val_main_v103 (F := Ideal) (Agree.a0 m c) (Agree.a2 m c) (Agree.a3 m c) (Agree.a4 m c) (Agree.a5 m c) (Agree.a6 m c) (Agree.a7 m c) (Agree.a8 m c) (Agree.a9 m c) (Agree.a10 m c) from by rw [e0, e2, e3, e4, e5, e6, e7, e8, e9, e10]).trans (Agree.v103 m g c hs he))),
      ((h c).2.2.2.2.1).trans ((val_main_v127_eq (launchContents m' c)).trans ((show val_main_v127 (F := Ideal) ((launchContents m' c) (Proc.devRef .tc Cert.ReferenceIdeal.main_arg0)) ((launchContents m' c) (Proc.devRef .tc Cert.ReferenceIdeal.main_arg2)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) = val_main_v127 (F := Ideal) (Agree.a0 m c) (Agree.a2 m c) (Agree.a3 m c) (Agree.a4 m c) (Agree.a5 m c) (Agree.a6 m c) (Agree.a7 m c) (Agree.a8 m c) from by rw [e0, e2, e3, e4, e5, e6, e7, e8]).trans (Agree.v127 m g c hs he))),
      ((h c).2.2.2.2.2.1).trans ((val_main_v157_eq (launchContents m' c)).trans ((show val_main_v157 (F := Ideal) ((launchContents m' c) (Proc.devRef .tc Cert.ReferenceIdeal.main_arg0)) ((launchContents m' c) (Proc.devRef .tc Cert.ReferenceIdeal.main_arg2)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) ((launchContents m' c) (Proc.devRef .tc Cert.ReferenceIdeal.main_arg11)) ((launchContents m' c) (Proc.devRef .tc Cert.ReferenceIdeal.main_arg12)) = val_main_v157 (F := Ideal) (Agree.a0 m c) (Agree.a2 m c) (Agree.a3 m c) (Agree.a4 m c) (Agree.a5 m c) (Agree.a6 m c) (Agree.a7 m c) (Agree.a8 m c) (Agree.a11 m c) (Agree.a12 m c) from by rw [e0, e2, e3, e4, e5, e6, e7, e8, e11, e12]).trans (Agree.v157 m g c hs he))),
      ((h c).2.2.2.2.2.2.1).trans ((val_main_v88_eq (launchContents m' c)).trans ((show val_main_v88 (F := Ideal) ((launchContents m' c) (Proc.devRef .tc Cert.ReferenceIdeal.main_arg0)) ((launchContents m' c) (Proc.devRef .tc Cert.ReferenceIdeal.main_arg2)) ((launchContents m' c) (Proc.devRef .tc Cert.ReferenceIdeal.main_arg3)) ((launchContents m' c) (Proc.devRef .tc Cert.ReferenceIdeal.main_arg4)) ((launchContents m' c) (Proc.devRef .tc Cert.ReferenceIdeal.main_arg5)) ((launchContents m' c) (Proc.devRef .tc Cert.ReferenceIdeal.main_arg6)) ((launchContents m' c) (Proc.devRef .tc Cert.ReferenceIdeal.main_arg7)) ((launchContents m' c) (Proc.devRef .tc Cert.ReferenceIdeal.main_arg8)) ((launchContents m' c) (Proc.devRef .tc Cert.ReferenceIdeal.main_arg9)) ((launchContents m' c) (Proc.devRef .tc Cert.ReferenceIdeal.main_arg10)) = val_main_v88 (F := Ideal) (Agree.a0 m c) (Agree.a2 m c) (Agree.a3 m c) (Agree.a4 m c) (Agree.a5 m c) (Agree.a6 m c) (Agree.a7 m c) (Agree.a8 m c) (Agree.a9 m c) (Agree.a10 m c) from by rw [e0, e2, e3, e4, e5, e6, e7, e8, e9, e10]).trans (Agree.v88 m g c hs he))),
      ((h c).2.2.2.2.2.2.2.1).trans ((val_main_v56_eq (launchContents m' c)).trans (Agree.v56 m g c)),
      (h c).2.2.2.2.2.2.2.2⟩

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Range
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims: the frames of the two kernels and of the reference, the naming of the mask, and the
    equality of the eight results. -/
theorem claim : Cert.Claim := ⟨Cert.Kernel.Gen.facts, Cert.KernelIdeal.Gen.facts, Cert.ReferenceIdeal.Gen.facts, Cert.Range.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono
    (fun r h => ⟨fun c => (h c).2.2.2.2.2.2.2.2, sem_eq_zero_of_no_sems (by decide) r.2⟩)
    (Cert.ReferenceIdeal.Value.run (F := Ideal) m ρ),
  fun m ρ _ => (θ_run Cert.ReferenceIdeal.defs _ _).mono
    (fun r h => ⟨fun c => (h c).2.2.2.2.2.2.2.2, sem_eq_zero_of_no_sems (by decide) r.2⟩)
    (Cert.ReferenceIdeal.Value.run (F := Ideal) m ρ),
  IdealRules.named_const.statement Cert.KernelIdeal.κ "mask" .f32 0xF149F2CA#32 ⊥ rfl,
  Cert.Value.algebraic⟩

end Cert.Proof

end
